-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.bf16_pack.Statement Cert.KernelIdeal.S100x128
  ∧ IdealRules.bf16_pack.Statement Cert.KernelIdeal.S512x128
  ∧ IdealRules.bf16_pack.Statement Cert.KernelIdeal.S128x128
  ∧ IdealRules.named_const.Statement Cert.KernelIdeal.κ "ln2" .f32 0x3F317218#32 ((Real.log 2 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x512x3 : Shape := ⟨3, ![8, 512, 3]⟩
abbrev S8x3x3 : Shape := ⟨3, ![8, 3, 3]⟩
abbrev S8x512 : Shape := ⟨2, ![8, 512]⟩
abbrev S8x512x32 : Shape := ⟨3, ![8, 512, 32]⟩
abbrev S100x128 : Shape := ⟨2, ![100, 128]⟩
abbrev S3x50x128 : Shape := ⟨3, ![3, 50, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S3x6 : Shape := ⟨2, ![3, 6]⟩
abbrev S6 : Shape := ⟨1, ![6]⟩
abbrev S6x9 : Shape := ⟨2, ![6, 9]⟩
abbrev S9 : Shape := ⟨1, ![9]⟩
abbrev S8x1x1 : Shape := ⟨3, ![8, 1, 1]⟩
abbrev S8 : Shape := ⟨1, ![8]⟩
abbrev S_ : Shape := ⟨0, ![]⟩
abbrev S2x50x128 : Shape := ⟨3, ![2, 50, 128]⟩
abbrev S2x128 : Shape := ⟨2, ![2, 128]⟩
abbrev S2x128x128 : Shape := ⟨3, ![2, 128, 128]⟩

class Facts : Prop where
  slices_S8x3x3_S8x1x1_0_0_0 : S8x3x3.Slices ![0, 0, 0] S8x1x1
  shapeCasts_S8x1x1_S8 : S8x1x1.ShapeCasts S8
  slices_S8x3x3_S8x1x1_0_1_1 : S8x3x3.Slices ![0, 1, 1] S8x1x1
  slices_S8x3x3_S8x1x1_0_2_2 : S8x3x3.Slices ![0, 2, 2] S8x1x1
  slices_S8x3x3_S8x1x1_0_1_2 : S8x3x3.Slices ![0, 1, 2] S8x1x1
  slices_S8x3x3_S8x1x1_0_2_1 : S8x3x3.Slices ![0, 2, 1] S8x1x1
  slices_S8x3x3_S8x1x1_0_0_1 : S8x3x3.Slices ![0, 0, 1] S8x1x1
  slices_S8x3x3_S8x1x1_0_2_0 : S8x3x3.Slices ![0, 2, 0] S8x1x1
  slices_S8x3x3_S8x1x1_0_1_0 : S8x3x3.Slices ![0, 1, 0] S8x1x1
  slices_S8x3x3_S8x1x1_0_0_2 : S8x3x3.Slices ![0, 0, 2] S8x1x1
  bcast_S_S8x512x3 : S_.BroadcastsInDim S8x512x3 (![] : Fin 0 → Fin S8x512x3.rank)
  bcast_S_S100x128 : S_.BroadcastsInDim S100x128 (![] : Fin 0 → Fin S100x128.rank)
  slices_S3x50x128_S2x50x128_0_0_0 : S3x50x128.Slices ![0, 0, 0] S2x50x128
  bcast_S_S2x50x128 : S_.BroadcastsInDim S2x50x128 (![] : Fin 0 → Fin S2x50x128.rank)
  slices_S3x128_S2x128_0_0 : S3x128.Slices ![0, 0] S2x128
  bcast_S_S2x128 : S_.BroadcastsInDim S2x128 (![] : Fin 0 → Fin S2x128.rank)
  slices_S3x128x128_S2x128x128_0_0_0 : S3x128x128.Slices ![0, 0, 0] S2x128x128
  bcast_S_S2x128x128 : S_.BroadcastsInDim S2x128x128 (![] : Fin 0 → Fin S2x128x128.rank)
  bcast_S_S3x128x128 : S_.BroadcastsInDim S3x128x128 (![] : Fin 0 → Fin S3x128x128.rank)
  bcast_S_S8x512x32 : S_.BroadcastsInDim S8x512x32 (![] : Fin 0 → Fin S8x512x32.rank)
  bcast_S_S8x512 : S_.BroadcastsInDim S8x512 (![] : Fin 0 → Fin S8x512.rank)
  bcast_S_S8 : S_.BroadcastsInDim S8 (![] : Fin 0 → Fin S8.rank)
  reducesTo_S8x512_S8_d1 : S8x512.ReducesTo [1] S8
  h_S_ : 0 < S_.numel

variable [Facts]

def fn_part5 {F : FTy → Type} [FloatOps F] (main_v46 : IVec S8x512x3 1) (main_v49 : IVec S100x128 1) (main_v53 : IVec S2x50x128 1) (main_v57 : IVec S2x128 1) (main_v61 : IVec S2x128x128 1) (main_v65 : IVec S2x128 1) (main_v68 : IVec S3x128x128 1) (main_v72 : IVec S2x128x128 1) (main_v76 : IVec S2x128 1) (main_v80 : IVec S2x128x128 1) (main_v84 : IVec S2x128 1) (main_v89 : IVec S8x512x32 1) (main_v94 : IVec S8x512 1) (main_v96 : IVec S8x512x32 1) (main_v98 : IVec S8 1) (main_v99 : FVec F S8 .f32) (main_v100 : FVec F S8 .f32) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_v101 : IVec S8 1 := cmpf .oge main_v99 main_v100
  (main_v46, main_v49, main_v53, main_v57, main_v61, main_v65, main_v68, main_v72, main_v76, main_v80, main_v84, main_v89, main_v94, main_v96, main_v98, main_v101)

def fn_part4 {F : FTy → Type} [FloatOps F] (main_arg2 : FVec F S8x512 .f32) (main_arg3 : IVec S8x512 32) (main_arg4 : IVec S8x512x32 32) (main_arg5 : FVec F S8x512x32 .f32) (main_v43 : FVec F S8 .f32) (main_v46 : IVec S8x512x3 1) (main_v49 : IVec S100x128 1) (main_v53 : IVec S2x50x128 1) (main_v57 : IVec S2x128 1) (main_v61 : IVec S2x128x128 1) (main_v65 : IVec S2x128 1) (main_v68 : IVec S3x128x128 1) (main_v72 : IVec S2x128x128 1) (main_v76 : IVec S2x128 1) (main_v80 : IVec S2x128x128 1) (main_v84 : IVec S2x128 1) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_c : IVec S_ 32 := constantI S_ 32 0#32
  let main_v85 : IVec S8x512x32 32 := broadcastInDim S8x512x32 ![] bcast_S_S8x512x32 main_c
  let main_v86 : IVec S8x512x32 1 := cmpi .sge main_arg4 main_v85
  let main_c_10 : IVec S_ 32 := constantI S_ 32 512#32
  let main_v87 : IVec S8x512x32 32 := broadcastInDim S8x512x32 ![] bcast_S_S8x512x32 main_c_10
  let main_v88 : IVec S8x512x32 1 := cmpi .slt main_arg4 main_v87
  let main_v89 : IVec S8x512x32 1 := andi main_v86 main_v88
  let main_c_11 : IVec S_ 32 := constantI S_ 32 0#32
  let main_v90 : IVec S8x512 32 := broadcastInDim S8x512 ![] bcast_S_S8x512 main_c_11
  let main_v91 : IVec S8x512 1 := cmpi .sge main_arg3 main_v90
  let main_c_12 : IVec S_ 32 := constantI S_ 32 100#32
  let main_v92 : IVec S8x512 32 := broadcastInDim S8x512 ![] bcast_S_S8x512 main_c_12
  let main_v93 : IVec S8x512 1 := cmpi .slt main_arg3 main_v92
  let main_v94 : IVec S8x512 1 := andi main_v91 main_v93
  let main_cst_13 : FVec F S_ .f32 := constant S_ .f32 0x3F800000#32
  let main_v95 : FVec F S8x512x32 .f32 := broadcastInDim S8x512x32 ![] bcast_S_S8x512x32 main_cst_13
  let main_v96 : IVec S8x512x32 1 := cmpf .oeq main_arg5 main_v95
  let main_cst_14 : FVec F S_ .f32 := constant S_ .f32 0x00000000#32
  let main_v97 : FVec F S8 .f32 := broadcastInDim S8 ![] bcast_S_S8 main_cst_14
  let main_v98 : IVec S8 1 := cmpf .une main_v43 main_v97
  let main_cst_15 : FVec F S_ .f32 := constant S_ .f32 0x00000000#32
  let main_v99 : FVec F S8 .f32 := (fun x v => Host.reduceAdd x v reducesTo_S8x512_S8_d1 h_S_) main_arg2 main_cst_15
  let main_cst_16 : FVec F S_ .f32 := constant S_ .f32 0x00000000#32
  let main_v100 : FVec F S8 .f32 := broadcastInDim S8 ![] bcast_S_S8 main_cst_16
  fn_part5 (F := F) main_v46 main_v49 main_v53 main_v57 main_v61 main_v65 main_v68 main_v72 main_v76 main_v80 main_v84 main_v89 main_v94 main_v96 main_v98 main_v99 main_v100

def fn_part3 {F : FTy → Type} [FloatOps F] (main_arg2 : FVec F S8x512 .f32) (main_arg3 : IVec S8x512 32) (main_arg4 : IVec S8x512x32 32) (main_arg5 : FVec F S8x512x32 .f32) (main_arg11 : FVec F S3x128x128 .f32) (main_arg12 : FVec F S3x128x128 .f32) (main_arg13 : FVec F S3x128 .f32) (main_arg14 : FVec F S3x128x128 .f32) (main_arg15 : FVec F S3x128 .f32) (main_v43 : FVec F S8 .f32) (main_v46 : IVec S8x512x3 1) (main_v49 : IVec S100x128 1) (main_v53 : IVec S2x50x128 1) (main_v57 : IVec S2x128 1) (main_v61 : IVec S2x128x128 1) (main_v65 : IVec S2x128 1) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_v66 : FVec F S3x128x128 .f32 := Host.absf main_arg11
  let main_cst_5 : FVec F S_ .f32 := constant S_ .f32 0x7F800000#32
  let main_v67 : FVec F S3x128x128 .f32 := broadcastInDim S3x128x128 ![] bcast_S_S3x128x128 main_cst_5
  let main_v68 : IVec S3x128x128 1 := cmpf .olt main_v66 main_v67
  let main_v69 : FVec F S2x128x128 .f32 := (extractStridedSlice S2x128x128 ![0, 0, 0] · slices_S3x128x128_S2x128x128_0_0_0) main_arg12
  let main_v70 : FVec F S2x128x128 .f32 := Host.absf main_v69
  let main_cst_6 : FVec F S_ .f32 := constant S_ .f32 0x7F800000#32
  let main_v71 : FVec F S2x128x128 .f32 := broadcastInDim S2x128x128 ![] bcast_S_S2x128x128 main_cst_6
  let main_v72 : IVec S2x128x128 1 := cmpf .olt main_v70 main_v71
  let main_v73 : FVec F S2x128 .f32 := (extractStridedSlice S2x128 ![0, 0] · slices_S3x128_S2x128_0_0) main_arg13
  let main_v74 : FVec F S2x128 .f32 := Host.absf main_v73
  let main_cst_7 : FVec F S_ .f32 := constant S_ .f32 0x7F800000#32
  let main_v75 : FVec F S2x128 .f32 := broadcastInDim S2x128 ![] bcast_S_S2x128 main_cst_7
  let main_v76 : IVec S2x128 1 := cmpf .olt main_v74 main_v75
  let main_v77 : FVec F S2x128x128 .f32 := (extractStridedSlice S2x128x128 ![0, 0, 0] · slices_S3x128x128_S2x128x128_0_0_0) main_arg14
  let main_v78 : FVec F S2x128x128 .f32 := Host.absf main_v77
  let main_cst_8 : FVec F S_ .f32 := constant S_ .f32 0x7F800000#32
  let main_v79 : FVec F S2x128x128 .f32 := broadcastInDim S2x128x128 ![] bcast_S_S2x128x128 main_cst_8
  let main_v80 : IVec S2x128x128 1 := cmpf .olt main_v78 main_v79
  let main_v81 : FVec F S2x128 .f32 := (extractStridedSlice S2x128 ![0, 0] · slices_S3x128_S2x128_0_0) main_arg15
  let main_v82 : FVec F S2x128 .f32 := Host.absf main_v81
  let main_cst_9 : FVec F S_ .f32 := constant S_ .f32 0x7F800000#32
  let main_v83 : FVec F S2x128 .f32 := broadcastInDim S2x128 ![] bcast_S_S2x128 main_cst_9
  let main_v84 : IVec S2x128 1 := cmpf .olt main_v82 main_v83
  fn_part4 (F := F) main_arg2 main_arg3 main_arg4 main_arg5 main_v43 main_v46 main_v49 main_v53 main_v57 main_v61 main_v65 main_v68 main_v72 main_v76 main_v80 main_v84

def fn_part2 {F : FTy → Type} [FloatOps F] (main_arg2 : FVec F S8x512 .f32) (main_arg3 : IVec S8x512 32) (main_arg4 : IVec S8x512x32 32) (main_arg5 : FVec F S8x512x32 .f32) (main_arg6 : FVec F S100x128 .f32) (main_arg7 : FVec F S3x50x128 .f32) (main_arg8 : FVec F S3x128 .f32) (main_arg9 : FVec F S3x128x128 .f32) (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x128 .f32) (main_v43 : FVec F S8 .f32) (main_v46 : IVec S8x512x3 1) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_v47 : FVec F S100x128 .f32 := Host.absf main_arg6
  let main_cst_0 : FVec F S_ .f32 := constant S_ .f32 0x7F800000#32
  let main_v48 : FVec F S100x128 .f32 := broadcastInDim S100x128 ![] bcast_S_S100x128 main_cst_0
  let main_v49 : IVec S100x128 1 := cmpf .olt main_v47 main_v48
  let main_v50 : FVec F S2x50x128 .f32 := (extractStridedSlice S2x50x128 ![0, 0, 0] · slices_S3x50x128_S2x50x128_0_0_0) main_arg7
  let main_v51 : FVec F S2x50x128 .f32 := Host.absf main_v50
  let main_cst_1 : FVec F S_ .f32 := constant S_ .f32 0x7F800000#32
  let main_v52 : FVec F S2x50x128 .f32 := broadcastInDim S2x50x128 ![] bcast_S_S2x50x128 main_cst_1
  let main_v53 : IVec S2x50x128 1 := cmpf .olt main_v51 main_v52
  let main_v54 : FVec F S2x128 .f32 := (extractStridedSlice S2x128 ![0, 0] · slices_S3x128_S2x128_0_0) main_arg8
  let main_v55 : FVec F S2x128 .f32 := Host.absf main_v54
  let main_cst_2 : FVec F S_ .f32 := constant S_ .f32 0x7F800000#32
  let main_v56 : FVec F S2x128 .f32 := broadcastInDim S2x128 ![] bcast_S_S2x128 main_cst_2
  let main_v57 : IVec S2x128 1 := cmpf .olt main_v55 main_v56
  let main_v58 : FVec F S2x128x128 .f32 := (extractStridedSlice S2x128x128 ![0, 0, 0] · slices_S3x128x128_S2x128x128_0_0_0) main_arg9
  let main_v59 : FVec F S2x128x128 .f32 := Host.absf main_v58
  let main_cst_3 : FVec F S_ .f32 := constant S_ .f32 0x7F800000#32
  let main_v60 : FVec F S2x128x128 .f32 := broadcastInDim S2x128x128 ![] bcast_S_S2x128x128 main_cst_3
  let main_v61 : IVec S2x128x128 1 := cmpf .olt main_v59 main_v60
  let main_v62 : FVec F S2x128 .f32 := (extractStridedSlice S2x128 ![0, 0] · slices_S3x128_S2x128_0_0) main_arg10
  let main_v63 : FVec F S2x128 .f32 := Host.absf main_v62
  let main_cst_4 : FVec F S_ .f32 := constant S_ .f32 0x7F800000#32
  let main_v64 : FVec F S2x128 .f32 := broadcastInDim S2x128 ![] bcast_S_S2x128 main_cst_4
  let main_v65 : IVec S2x128 1 := cmpf .olt main_v63 main_v64
  fn_part3 (F := F) main_arg2 main_arg3 main_arg4 main_arg5 main_arg11 main_arg12 main_arg13 main_arg14 main_arg15 main_v43 main_v46 main_v49 main_v53 main_v57 main_v61 main_v65

def fn_part1 {F : FTy → Type} [FloatOps F] (main_arg0 : FVec F S8x512x3 .f32) (main_arg1 : FVec F S8x3x3 .f32) (main_arg2 : FVec F S8x512 .f32) (main_arg3 : IVec S8x512 32) (main_arg4 : IVec S8x512x32 32) (main_arg5 : FVec F S8x512x32 .f32) (main_arg6 : FVec F S100x128 .f32) (main_arg7 : FVec F S3x50x128 .f32) (main_arg8 : FVec F S3x128 .f32) (main_arg9 : FVec F S3x128x128 .f32) (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x128 .f32) (main_v13 : FVec F S8 .f32) (main_v15 : FVec F S8 .f32) (main_v20 : FVec F S8 .f32) (main_v22 : FVec F S8 .f32) (main_v23 : FVec F S8x1x1 .f32) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_v24 : FVec F S8 .f32 := shapeCast S8 main_v23 shapeCasts_S8x1x1_S8
  let main_v25 : FVec F S8 .f32 := mulf main_v22 main_v24
  let main_v26 : FVec F S8 .f32 := subf main_v20 main_v25
  let main_v27 : FVec F S8 .f32 := mulf main_v15 main_v26
  let main_v28 : FVec F S8 .f32 := addf main_v13 main_v27
  let main_v29 : FVec F S8x1x1 .f32 := (extractStridedSlice S8x1x1 ![0, 0, 2] · slices_S8x3x3_S8x1x1_0_0_2) main_arg1
  let main_v30 : FVec F S8 .f32 := shapeCast S8 main_v29 shapeCasts_S8x1x1_S8
  let main_v31 : FVec F S8x1x1 .f32 := (extractStridedSlice S8x1x1 ![0, 1, 0] · slices_S8x3x3_S8x1x1_0_1_0) main_arg1
  let main_v32 : FVec F S8 .f32 := shapeCast S8 main_v31 shapeCasts_S8x1x1_S8
  let main_v33 : FVec F S8x1x1 .f32 := (extractStridedSlice S8x1x1 ![0, 2, 1] · slices_S8x3x3_S8x1x1_0_2_1) main_arg1
  let main_v34 : FVec F S8 .f32 := shapeCast S8 main_v33 shapeCasts_S8x1x1_S8
  let main_v35 : FVec F S8 .f32 := mulf main_v32 main_v34
  let main_v36 : FVec F S8x1x1 .f32 := (extractStridedSlice S8x1x1 ![0, 1, 1] · slices_S8x3x3_S8x1x1_0_1_1) main_arg1
  let main_v37 : FVec F S8 .f32 := shapeCast S8 main_v36 shapeCasts_S8x1x1_S8
  let main_v38 : FVec F S8x1x1 .f32 := (extractStridedSlice S8x1x1 ![0, 2, 0] · slices_S8x3x3_S8x1x1_0_2_0) main_arg1
  let main_v39 : FVec F S8 .f32 := shapeCast S8 main_v38 shapeCasts_S8x1x1_S8
  let main_v40 : FVec F S8 .f32 := mulf main_v37 main_v39
  let main_v41 : FVec F S8 .f32 := subf main_v35 main_v40
  let main_v42 : FVec F S8 .f32 := mulf main_v30 main_v41
  let main_v43 : FVec F S8 .f32 := addf main_v28 main_v42
  let main_v44 : FVec F S8x512x3 .f32 := Host.absf main_arg0
  let main_cst : FVec F S_ .f32 := constant S_ .f32 0x7F800000#32
  let main_v45 : FVec F S8x512x3 .f32 := broadcastInDim S8x512x3 ![] bcast_S_S8x512x3 main_cst
  let main_v46 : IVec S8x512x3 1 := cmpf .olt main_v44 main_v45
  fn_part2 (F := F) main_arg2 main_arg3 main_arg4 main_arg5 main_arg6 main_arg7 main_arg8 main_arg9 main_arg10 main_arg11 main_arg12 main_arg13 main_arg14 main_arg15 main_v43 main_v46

def fn {F : FTy → Type} [FloatOps F] (main_arg0 : FVec F S8x512x3 .f32) (main_arg1 : FVec F S8x3x3 .f32) (main_arg2 : FVec F S8x512 .f32) (main_arg3 : IVec S8x512 32) (main_arg4 : IVec S8x512x32 32) (main_arg5 : FVec F S8x512x32 .f32) (main_arg6 : FVec F S100x128 .f32) (main_arg7 : FVec F S3x50x128 .f32) (main_arg8 : FVec F S3x128 .f32) (main_arg9 : FVec F S3x128x128 .f32) (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x128 .f32) (main_arg16 : FVec F S128x3 .f32) (main_arg17 : FVec F S3 .f32) (main_arg18 : FVec F S3x6 .f32) (main_arg19 : FVec F S6 .f32) (main_arg20 : FVec F S6x9 .f32) (main_arg21 : FVec F S9 .f32) : IVec S8x512x3 1 × IVec S100x128 1 × IVec S2x50x128 1 × IVec S2x128 1 × IVec S2x128x128 1 × IVec S2x128 1 × IVec S3x128x128 1 × IVec S2x128x128 1 × IVec S2x128 1 × IVec S2x128x128 1 × IVec S2x128 1 × IVec S8x512x32 1 × IVec S8x512 1 × IVec S8x512x32 1 × IVec S8 1 × IVec S8 1 :=
  let main_v0 : FVec F S8x1x1 .f32 := (extractStridedSlice S8x1x1 ![0, 0, 0] · slices_S8x3x3_S8x1x1_0_0_0) main_arg1
  let main_v1 : FVec F S8 .f32 := shapeCast S8 main_v0 shapeCasts_S8x1x1_S8
  let main_v2 : FVec F S8x1x1 .f32 := (extractStridedSlice S8x1x1 ![0, 1, 1] · slices_S8x3x3_S8x1x1_0_1_1) main_arg1
  let main_v3 : FVec F S8 .f32 := shapeCast S8 main_v2 shapeCasts_S8x1x1_S8
  let main_v4 : FVec F S8x1x1 .f32 := (extractStridedSlice S8x1x1 ![0, 2, 2] · slices_S8x3x3_S8x1x1_0_2_2) main_arg1
  let main_v5 : FVec F S8 .f32 := shapeCast S8 main_v4 shapeCasts_S8x1x1_S8
  let main_v6 : FVec F S8 .f32 := mulf main_v3 main_v5
  let main_v7 : FVec F S8x1x1 .f32 := (extractStridedSlice S8x1x1 ![0, 1, 2] · slices_S8x3x3_S8x1x1_0_1_2) main_arg1
  let main_v8 : FVec F S8 .f32 := shapeCast S8 main_v7 shapeCasts_S8x1x1_S8
  let main_v9 : FVec F S8x1x1 .f32 := (extractStridedSlice S8x1x1 ![0, 2, 1] · slices_S8x3x3_S8x1x1_0_2_1) main_arg1
  let main_v10 : FVec F S8 .f32 := shapeCast S8 main_v9 shapeCasts_S8x1x1_S8
  let main_v11 : FVec F S8 .f32 := mulf main_v8 main_v10
  let main_v12 : FVec F S8 .f32 := subf main_v6 main_v11
  let main_v13 : FVec F S8 .f32 := mulf main_v1 main_v12
  let main_v14 : FVec F S8x1x1 .f32 := (extractStridedSlice S8x1x1 ![0, 0, 1] · slices_S8x3x3_S8x1x1_0_0_1) main_arg1
  let main_v15 : FVec F S8 .f32 := shapeCast S8 main_v14 shapeCasts_S8x1x1_S8
  let main_v16 : FVec F S8x1x1 .f32 := (extractStridedSlice S8x1x1 ![0, 1, 2] · slices_S8x3x3_S8x1x1_0_1_2) main_arg1
  let main_v17 : FVec F S8 .f32 := shapeCast S8 main_v16 shapeCasts_S8x1x1_S8
  let main_v18 : FVec F S8x1x1 .f32 := (extractStridedSlice S8x1x1 ![0, 2, 0] · slices_S8x3x3_S8x1x1_0_2_0) main_arg1
  let main_v19 : FVec F S8 .f32 := shapeCast S8 main_v18 shapeCasts_S8x1x1_S8
  let main_v20 : FVec F S8 .f32 := mulf main_v17 main_v19
  let main_v21 : FVec F S8x1x1 .f32 := (extractStridedSlice S8x1x1 ![0, 1, 0] · slices_S8x3x3_S8x1x1_0_1_0) main_arg1
  let main_v22 : FVec F S8 .f32 := shapeCast S8 main_v21 shapeCasts_S8x1x1_S8
  let main_v23 : FVec F S8x1x1 .f32 := (extractStridedSlice S8x1x1 ![0, 2, 2] · slices_S8x3x3_S8x1x1_0_2_2) main_arg1
  fn_part1 (F := F) main_arg0 main_arg1 main_arg2 main_arg3 main_arg4 main_arg5 main_arg6 main_arg7 main_arg8 main_arg9 main_arg10 main_arg11 main_arg12 main_arg13 main_arg14 main_arg15 main_v13 main_v15 main_v20 main_v22 main_v23
-- ==== Kernel.lean ====
abbrev S8x512x3 : Shape := ⟨3, ![8, 512, 3]⟩
abbrev S8x3x3 : Shape := ⟨3, ![8, 3, 3]⟩
abbrev S8x512 : Shape := ⟨2, ![8, 512]⟩
abbrev S8x512x32 : Shape := ⟨3, ![8, 512, 32]⟩
abbrev S100x128 : Shape := ⟨2, ![100, 128]⟩
abbrev S3x50x128 : Shape := ⟨3, ![3, 50, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S3x6 : Shape := ⟨2, ![3, 6]⟩
abbrev S6 : Shape := ⟨1, ![6]⟩
abbrev S6x9 : Shape := ⟨2, ![6, 9]⟩
abbrev S9 : Shape := ⟨1, ![9]⟩
abbrev S_ : Shape := ⟨0, ![]⟩
abbrev S8x512x128 : Shape := ⟨3, ![8, 512, 128]⟩
abbrev S8x512x1 : Shape := ⟨3, ![8, 512, 1]⟩
abbrev S8x16384x1 : Shape := ⟨3, ![8, 16384, 1]⟩
abbrev S128x128 : Shape := ⟨2, ![128, 128]⟩
abbrev S128 : Shape := ⟨1, ![128]⟩
abbrev S1x128 : Shape := ⟨2, ![1, 128]⟩
abbrev S3x1x128 : Shape := ⟨3, ![3, 1, 128]⟩
abbrev S49 : Shape := ⟨1, ![49]⟩
abbrev S1 : Shape := ⟨1, ![1]⟩
abbrev S50 : Shape := ⟨1, ![50]⟩
abbrev S1x1 : Shape := ⟨2, ![1, 1]⟩
abbrev S1x512x128 : Shape := ⟨3, ![1, 512, 128]⟩
abbrev S1x3x3 : Shape := ⟨3, ![1, 3, 3]⟩
abbrev S1x512x1 : Shape := ⟨3, ![1, 512, 1]⟩
abbrev S1x16384x1 : Shape := ⟨3, ![1, 16384, 1]⟩
abbrev S1x512x3 : Shape := ⟨3, ![1, 512, 3]⟩
abbrev S512x128 : Shape := ⟨2, ![512, 128]⟩
abbrev S16384x128 : Shape := ⟨2, ![16384, 128]⟩
abbrev S512x1 : Shape := ⟨2, ![512, 1]⟩
abbrev S512x100 : Shape := ⟨2, ![512, 100]⟩
abbrev S4096x512 : Shape := ⟨2, ![4096, 512]⟩
abbrev S4096x128 : Shape := ⟨2, ![4096, 128]⟩
abbrev S1x4096x1 : Shape := ⟨3, ![1, 4096, 1]⟩
abbrev S4096x1 : Shape := ⟨2, ![4096, 1]⟩
abbrev S1x128x128 : Shape := ⟨3, ![1, 128, 128]⟩
abbrev S1x1x128 : Shape := ⟨3, ![1, 1, 128]⟩
abbrev S128x32x128 : Shape := ⟨3, ![128, 32, 128]⟩
abbrev S1x1x1 : Shape := ⟨3, ![1, 1, 1]⟩
abbrev S512x3 : Shape := ⟨2, ![512, 3]⟩

abbrev nBuf : Space → Nat
  | .hbm => 93
  | .vmem => 34
  | .smem => 0
  | _ => 0

abbrev bufTy : (tb : Table) → Fin (tcTables nBuf tb) → BufTy
  | .hbm, ⟨0, _⟩ => ⟨S8x512x3, .f32⟩
  | .hbm, ⟨1, _⟩ => ⟨S8x3x3, .f32⟩
  | .hbm, ⟨2, _⟩ => ⟨S8x512, .f32⟩
  | .hbm, ⟨3, _⟩ => ⟨S8x512, .i32⟩
  | .hbm, ⟨4, _⟩ => ⟨S8x512x32, .i32⟩
  | .hbm, ⟨5, _⟩ => ⟨S8x512x32, .f32⟩
  | .hbm, ⟨6, _⟩ => ⟨S100x128, .f32⟩
  | .hbm, ⟨7, _⟩ => ⟨S3x50x128, .f32⟩
  | .hbm, ⟨8, _⟩ => ⟨S3x128, .f32⟩
  | .hbm, ⟨9, _⟩ => ⟨S3x128x128, .f32⟩
  | .hbm, ⟨10, _⟩ => ⟨S3x128, .f32⟩
  | .hbm, ⟨11, _⟩ => ⟨S3x128x128, .f32⟩
  | .hbm, ⟨12, _⟩ => ⟨S3x128x128, .f32⟩
  | .hbm, ⟨13, _⟩ => ⟨S3x128, .f32⟩
  | .hbm, ⟨14, _⟩ => ⟨S3x128x128, .f32⟩
  | .hbm, ⟨15, _⟩ => ⟨S3x128, .f32⟩
  | .hbm, ⟨16, _⟩ => ⟨S128x3, .f32⟩
  | .hbm, ⟨17, _⟩ => ⟨S3, .f32⟩
  | .hbm, ⟨18, _⟩ => ⟨S3x6, .f32⟩
  | .hbm, ⟨19, _⟩ => ⟨S6, .f32⟩
  | .hbm, ⟨20, _⟩ => ⟨S6x9, .f32⟩
  | .hbm, ⟨21, _⟩ => ⟨S9, .f32⟩
  | .hbm, ⟨22, _⟩ => ⟨S_, .i32⟩
  | .hbm, ⟨23, _⟩ => ⟨S_, .f32⟩
  | .hbm, ⟨24, _⟩ => ⟨S8x512x128, .f32⟩
  | .hbm, ⟨25, _⟩ => ⟨S8x512x1, .i32⟩
  | .hbm, ⟨26, _⟩ => ⟨S8x16384x1, .i32⟩
  | .hbm, ⟨27, _⟩ => ⟨S8x512x1, .f32⟩
  | .hbm, ⟨28, _⟩ => ⟨S_, .i32⟩
  | .hbm, ⟨29, _⟩ => ⟨S_, .f32⟩
  | .hbm, ⟨30, _⟩ => ⟨S3x128x128, .f32⟩
  | .hbm, ⟨31, _⟩ => ⟨S_, .i32⟩
  | .hbm, ⟨32, _⟩ => ⟨S_, .f32⟩
  | .hbm, ⟨33, _⟩ => ⟨S128x128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S128x128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S128x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S3x1x128, .f32⟩
  | .hbm, ⟨53, _⟩ => ⟨S3x1x128, .f32⟩
  | .hbm, ⟨54, _⟩ => ⟨S3x1x128, .f32⟩
  | .hbm, ⟨55, _⟩ => ⟨S3x1x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S49, .f32⟩
  | .hbm, ⟨64, _⟩ => ⟨S_, .f32⟩
  | .hbm, ⟨65, _⟩ => ⟨S49, .f32⟩
  | .hbm, ⟨66, _⟩ => ⟨S49, .f32⟩
  | .hbm, ⟨67, _⟩ => ⟨S1, .f32⟩
  | .hbm, ⟨68, _⟩ => ⟨S_, .f32⟩
  | .hbm, ⟨69, _⟩ => ⟨S49, .f32⟩
  | .hbm, ⟨70, _⟩ => ⟨S49, .f32⟩
  | .hbm, ⟨71, _⟩ => ⟨S49, .f32⟩
  | .hbm, ⟨72, _⟩ => ⟨S49, .f32⟩
  | .hbm, ⟨73, _⟩ => ⟨S1, .f32⟩
  | .hbm, ⟨74, _⟩ => ⟨S49, .f32⟩
  | .hbm, ⟨75, _⟩ => ⟨S49, .f32⟩
  | .hbm, ⟨76, _⟩ => ⟨S49, .f32⟩
  | .hbm, ⟨77, _⟩ => ⟨S1, .f32⟩
  | .hbm, ⟨78, _⟩ => ⟨S50, .f32⟩
  | .hbm, ⟨79, _⟩ => ⟨S1, .f32⟩
  | .hbm, ⟨80, _⟩ => ⟨S_, .f32⟩
  | .hbm, ⟨81, _⟩ => ⟨S1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S1x1, .f32⟩
  | .hbm, ⟨92, _⟩ => ⟨S8x512x3, .f32⟩
  | .local _ .vmem, ⟨0, _⟩ => ⟨S1x512x128, .f32⟩
  | .local _ .vmem, ⟨1, _⟩ => ⟨S1x512x128, .f32⟩
  | .local _ .vmem, ⟨2, _⟩ => ⟨S1x3x3, .f32⟩
  | .local _ .vmem, ⟨3, _⟩ => ⟨S1x3x3, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .i32⟩
  | .local _ .vmem, ⟨7, _⟩ => ⟨S1x512x1, .i32⟩
  | .local _ .vmem, ⟨8, _⟩ => ⟨S1x16384x1, .i32⟩
  | .local _ .vmem, ⟨9, _⟩ => ⟨S1x16384x1, .i32⟩
  | .local _ .vmem, ⟨10, _⟩ => ⟨S100x128, .f32⟩
  | .local _ .vmem, ⟨11, _⟩ => ⟨S3x128x128, .f32⟩
  | .local _ .vmem, ⟨12, _⟩ => ⟨S3x1x128, .f32⟩
  | .local _ .vmem, ⟨13, _⟩ => ⟨S3x128x128, .f32⟩
  | .local _ .vmem, ⟨14, _⟩ => ⟨S3x1x128, .f32⟩
  | .local _ .vmem, ⟨15, _⟩ => ⟨S3x128x128, .f32⟩
  | .local _ .vmem, ⟨16, _⟩ => ⟨S3x128x128, .f32⟩
  | .local _ .vmem, ⟨17, _⟩ => ⟨S3x1x128, .f32⟩
  | .local _ .vmem, ⟨18, _⟩ => ⟨S3x128x128, .f32⟩
  | .local _ .vmem, ⟨19, _⟩ => ⟨S3x1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x1, .f32⟩
  | .local _ .vmem, ⟨28, _⟩ => ⟨S1x512x3, .f32⟩
  | .local _ .vmem, ⟨29, _⟩ => ⟨S1x512x3, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S16384x128, .f32⟩
  | _, _ => ⟨S8x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_call0_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_v4 : Ref sig .tc := ⟨.hbm, 30, rfl⟩
abbrev main_c_1 : Ref sig .tc := ⟨.hbm, 31, rfl⟩
abbrev main_call2_v0 : Ref sig .tc := ⟨.hbm, 32, rfl⟩
abbrev main_v5 : Ref sig .tc := ⟨.hbm, 33, rfl⟩
abbrev main_c_2 : Ref sig .tc := ⟨.hbm, 34, rfl⟩
abbrev main_call3_v0 : Ref sig .tc := ⟨.hbm, 35, rfl⟩
abbrev main_v6 : Ref sig .tc := ⟨.hbm, 36, rfl⟩
abbrev main_v7 : Ref sig .tc := ⟨.hbm, 37, rfl⟩
abbrev main_c_3 : Ref sig .tc := ⟨.hbm, 38, rfl⟩
abbrev main_call4_v0 : Ref sig .tc := ⟨.hbm, 39, rfl⟩
abbrev main_v8 : Ref sig .tc := ⟨.hbm, 40, rfl⟩
abbrev main_c_4 : Ref sig .tc := ⟨.hbm, 41, rfl⟩
abbrev main_call5_v0 : Ref sig .tc := ⟨.hbm, 42, rfl⟩
abbrev main_v9 : Ref sig .tc := ⟨.hbm, 43, rfl⟩
abbrev main_v10 : Ref sig .tc := ⟨.hbm, 44, rfl⟩
abbrev main_c_5 : Ref sig .tc := ⟨.hbm, 45, rfl⟩
abbrev main_call6_v0 : Ref sig .tc := ⟨.hbm, 46, rfl⟩
abbrev main_v11 : Ref sig .tc := ⟨.hbm, 47, rfl⟩
abbrev main_c_6 : Ref sig .tc := ⟨.hbm, 48, rfl⟩
abbrev main_call7_v0 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst : Ref sig .tc := ⟨.hbm, 56, rfl⟩
abbrev main_cst_7 : Ref sig .tc := ⟨.hbm, 57, rfl⟩
abbrev main_call8_v0 : Ref sig .tc := ⟨.hbm, 58, rfl⟩
abbrev main_call8_v1 : Ref sig .tc := ⟨.hbm, 59, rfl⟩
abbrev main_call8_v2 : Ref sig .tc := ⟨.hbm, 60, rfl⟩
abbrev main_call8_cst : Ref sig .tc := ⟨.hbm, 61, rfl⟩
abbrev main_call8_v3 : Ref sig .tc := ⟨.hbm, 62, rfl⟩
abbrev main_call8_v4 : Ref sig .tc := ⟨.hbm, 63, rfl⟩
abbrev main_call8_cst_0 : Ref sig .tc := ⟨.hbm, 64, rfl⟩
abbrev main_call8_v5 : Ref sig .tc := ⟨.hbm, 65, rfl⟩
abbrev main_call8_v6 : Ref sig .tc := ⟨.hbm, 66, rfl⟩
abbrev main_call8_v7 : Ref sig .tc := ⟨.hbm, 67, rfl⟩
abbrev main_call8_cst_1 : Ref sig .tc := ⟨.hbm, 68, rfl⟩
abbrev main_call8_v8 : Ref sig .tc := ⟨.hbm, 69, rfl⟩
abbrev main_call8_v9 : Ref sig .tc := ⟨.hbm, 70, rfl⟩
abbrev main_call8_v10 : Ref sig .tc := ⟨.hbm, 71, rfl⟩
abbrev main_call8_v11 : Ref sig .tc := ⟨.hbm, 72, rfl⟩
abbrev main_call8_v12 : Ref sig .tc := ⟨.hbm, 73, rfl⟩
abbrev main_call8_v13 : Ref sig .tc := ⟨.hbm, 74, rfl⟩
abbrev main_call8_v14 : Ref sig .tc := ⟨.hbm, 75, rfl⟩
abbrev main_call8_v15 : Ref sig .tc := ⟨.hbm, 76, rfl⟩
abbrev main_call8_v16 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_8 : Ref sig .tc := ⟨.hbm, 85, rfl⟩
abbrev main_v25 : Ref sig .tc := ⟨.hbm, 86, rfl⟩
abbrev main_c_9 : Ref sig .tc := ⟨.hbm, 87, rfl⟩
abbrev main_call9_v0 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem23_1 : DmaSem sig := 29

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_22 : BitVec 32 := 0#32
  let c4_i32 : BitVec 32 := 4#32
  let v81 : BitVec 32 := Scalar.addi c0_i32_22 c4_i32
  let c1_i32_23 : BitVec 32 := 1#32
  ⟨c0_i32_22, v81, c1_i32_23⟩
def k0_mult1 (k0_t1 : Fin k0_t1_loop.trips) : BitVec 32 :=
  let c0_i32_22 : BitVec 32 := 0#32
  let c1_i32_23 : BitVec 32 := 1#32
  let arg29 : BitVec 32 := Scf.iv c0_i32_22 c1_i32_23 k0_t1
  let c4096_i32 : BitVec 32 := 4096#32
  let v542 : BitVec 32 := Scalar.muli arg29 c4096_i32
  v542
def k0_mult2 (k0_t1 : Fin k0_t1_loop.trips) : BitVec 32 :=
  let c0_i32_22 : BitVec 32 := 0#32
  let c1_i32_23 : BitVec 32 := 1#32
  let arg29 : BitVec 32 := Scf.iv c0_i32_22 c1_i32_23 k0_t1
  let c128_i32 : BitVec 32 := 128#32
  let v544 : BitVec 32 := Scalar.muli arg29 c128_i32
  v544
def k0_off1 (k0_t1 : Fin k0_t1_loop.trips) : Fin 3 → Nat :=
  let c0_253 : Index := 0#32
  let c0_i32_22 : BitVec 32 := 0#32
  let c1_i32_23 : BitVec 32 := 1#32
  let arg29 : BitVec 32 := Scf.iv c0_i32_22 c1_i32_23 k0_t1
  let c4096_i32 : BitVec 32 := 4096#32
  let v542 : BitVec 32 := Scalar.muli arg29 c4096_i32
  let v543 : BitVec 32 := v542
  let v546 : Index := Scalar.indexCast v543
  let c0_254 : Index := 0#32
  ![0, v546.toNat, 0]
def k0_off2 (k0_t1 : Fin k0_t1_loop.trips) : Fin 3 → Nat :=
  let c0_258 : Index := 0#32
  let c0_i32_22 : BitVec 32 := 0#32
  let c1_i32_23 : BitVec 32 := 1#32
  let arg29 : BitVec 32 := Scf.iv c0_i32_22 c1_i32_23 k0_t1
  let c128_i32 : BitVec 32 := 128#32
  let v544 : BitVec 32 := Scalar.muli arg29 c128_i32
  let v545 : BitVec 32 := v544
  let v559 : Index := Scalar.indexCast v545
  let c0_259 : Index := 0#32
  ![0, v559.toNat, 0]
def k0_off3 (k0_t1 : Fin k0_t1_loop.trips) : Fin 2 → Nat :=
  let c0_i32_22 : BitVec 32 := 0#32
  let c1_i32_23 : BitVec 32 := 1#32
  let arg29 : BitVec 32 := Scf.iv c0_i32_22 c1_i32_23 k0_t1
  let c4096_i32 : BitVec 32 := 4096#32
  let v542 : BitVec 32 := Scalar.muli arg29 c4096_i32
  let v543 : BitVec 32 := v542
  let v617 : Index := Scalar.indexCast v543
  let c0_272 : Index := 0#32
  ![v617.toNat, 0]
@[reducible] def k0_t2_loop : Scf.Loop 32 :=
  let c0_i32_37 : BitVec 32 := 0#32
  let c4_i32_38 : BitVec 32 := 4#32
  let v103 : BitVec 32 := Scalar.addi c0_i32_37 c4_i32_38
  let c1_i32_39 : BitVec 32 := 1#32
  ⟨c0_i32_37, v103, c1_i32_39⟩
def k0_mult3 (k0_t2 : Fin k0_t2_loop.trips) : BitVec 32 :=
  let c0_i32_37 : BitVec 32 := 0#32
  let c1_i32_39 : BitVec 32 := 1#32
  let arg29 : BitVec 32 := Scf.iv c0_i32_37 c1_i32_39 k0_t2
  let c4096_i32 : BitVec 32 := 4096#32
  let v542 : BitVec 32 := Scalar.muli arg29 c4096_i32
  v542
def k0_mult4 (k0_t2 : Fin k0_t2_loop.trips) : BitVec 32 :=
  let c0_i32_37 : BitVec 32 := 0#32
  let c1_i32_39 : BitVec 32 := 1#32
  let arg29 : BitVec 32 := Scf.iv c0_i32_37 c1_i32_39 k0_t2
  let c128_i32 : BitVec 32 := 128#32
  let v544 : BitVec 32 := Scalar.muli arg29 c128_i32
  v544
def k0_off4 (k0_t2 : Fin k0_t2_loop.trips) : Fin 3 → Nat :=
  let c0_253 : Index := 0#32
  let c0_i32_37 : BitVec 32 := 0#32
  let c1_i32_39 : BitVec 32 := 1#32
  let arg29 : BitVec 32 := Scf.iv c0_i32_37 c1_i32_39 k0_t2
  let c4096_i32 : BitVec 32 := 4096#32
  let v542 : BitVec 32 := Scalar.muli arg29 c4096_i32
  let v543 : BitVec 32 := v542
  let v546 : Index := Scalar.indexCast v543
  let c0_254 : Index := 0#32
  ![0, v546.toNat, 0]
def k0_off5 (k0_t2 : Fin k0_t2_loop.trips) : Fin 2 → Nat :=
  let c0_i32_37 : BitVec 32 := 0#32
  let c1_i32_39 : BitVec 32 := 1#32
  let arg29 : BitVec 32 := Scf.iv c0_i32_37 c1_i32_39 k0_t2
  let c4096_i32 : BitVec 32 := 4096#32
  let v542 : BitVec 32 := Scalar.muli arg29 c4096_i32
  let v543 : BitVec 32 := v542
  let v559 : Index := Scalar.indexCast v543
  let c0_258 : Index := 0#32
  ![v559.toNat, 0]
def k0_off6 (k0_t2 : Fin k0_t2_loop.trips) : Fin 2 → Nat :=
  let c0_i32_37 : BitVec 32 := 0#32
  let c1_i32_39 : BitVec 32 := 1#32
  let arg29 : BitVec 32 := Scf.iv c0_i32_37 c1_i32_39 k0_t2
  let c128_i32 : BitVec 32 := 128#32
  let v544 : BitVec 32 := Scalar.muli arg29 c128_i32
  let v545 : BitVec 32 := v544
  let v591 : Index := Scalar.indexCast v545
  let c0_277 : Index := 0#32
  ![v591.toNat, 0]
@[reducible] def k0_t3_loop : Scf.Loop 32 :=
  let c0_i32_75 : BitVec 32 := 0#32
  let c4_i32_76 : BitVec 32 := 4#32
  let v155 : BitVec 32 := Scalar.addi c0_i32_75 c4_i32_76
  let c1_i32_77 : BitVec 32 := 1#32
  ⟨c0_i32_75, v155, c1_i32_77⟩
def k0_mult5 (k0_t3 : Fin k0_t3_loop.trips) : BitVec 32 :=
  let c0_i32_75 : BitVec 32 := 0#32
  let c1_i32_77 : BitVec 32 := 1#32
  let arg29 : BitVec 32 := Scf.iv c0_i32_75 c1_i32_77 k0_t3
  let c4096_i32 : BitVec 32 := 4096#32
  let v542 : BitVec 32 := Scalar.muli arg29 c4096_i32
  v542
def k0_mult6 (k0_t3 : Fin k0_t3_loop.trips) : BitVec 32 :=
  let c0_i32_75 : BitVec 32 := 0#32
  let c1_i32_77 : BitVec 32 := 1#32
  let arg29 : BitVec 32 := Scf.iv c0_i32_75 c1_i32_77 k0_t3
  let c128_i32 : BitVec 32 := 128#32
  let v544 : BitVec 32 := Scalar.muli arg29 c128_i32
  v544
def k0_off7 (k0_t3 : Fin k0_t3_loop.trips) : Fin 3 → Nat :=
  let c0_253 : Index := 0#32
  let c0_i32_75 : BitVec 32 := 0#32
  let c1_i32_77 : BitVec 32 := 1#32
  let arg29 : BitVec 32 := Scf.iv c0_i32_75 c1_i32_77 k0_t3
  let c4096_i32 : BitVec 32 := 4096#32
  let v542 : BitVec 32 := Scalar.muli arg29 c4096_i32
  let v543 : BitVec 32 := v542
  let v546 : Index := Scalar.indexCast v543
  let c0_254 : Index := 0#32
  ![0, v546.toNat, 0]
def k0_off8 (k0_t3 : Fin k0_t3_loop.trips) : Fin 2 → Nat :=
  let c0_i32_75 : BitVec 32 := 0#32
  let c1_i32_77 : BitVec 32 := 1#32
  let arg29 : BitVec 32 := Scf.iv c0_i32_75 c1_i32_77 k0_t3
  let c4096_i32 : BitVec 32 := 4096#32
  let v542 : BitVec 32 := Scalar.muli arg29 c4096_i32
  let v543 : BitVec 32 := v542
  let v559 : Index := Scalar.indexCast v543
  let c0_258 : Index := 0#32
  ![v559.toNat, 0]
def k0_off9 (k0_t3 : Fin k0_t3_loop.trips) : Fin 2 → Nat :=
  let c0_i32_75 : BitVec 32 := 0#32
  let c1_i32_77 : BitVec 32 := 1#32
  let arg29 : BitVec 32 := Scf.iv c0_i32_75 c1_i32_77 k0_t3
  let c128_i32 : BitVec 32 := 128#32
  let v544 : BitVec 32 := Scalar.muli arg29 c128_i32
  let v545 : BitVec 32 := v544
  let v591 : Index := Scalar.indexCast v545
  let c0_277 : Index := 0#32
  ![v591.toNat, 0]
@[reducible] def k0_t4_loop : Scf.Loop 32 :=
  let c0_i32_113 : BitVec 32 := 0#32
  let c4_i32_114 : BitVec 32 := 4#32
  let v207 : BitVec 32 := Scalar.addi c0_i32_113 c4_i32_114
  let c1_i32_115 : BitVec 32 := 1#32
  ⟨c0_i32_113, v207, c1_i32_115⟩
def k0_mult7 (k0_t4 : Fin k0_t4_loop.trips) : BitVec 32 :=
  let c0_i32_113 : BitVec 32 := 0#32
  let c1_i32_115 : BitVec 32 := 1#32
  let arg29 : BitVec 32 := Scf.iv c0_i32_113 c1_i32_115 k0_t4
  let c4096_i32 : BitVec 32 := 4096#32
  let v542 : BitVec 32 := Scalar.muli arg29 c4096_i32
  v542
def k0_mult8 (k0_t4 : Fin k0_t4_loop.trips) : BitVec 32 :=
  let c0_i32_113 : BitVec 32 := 0#32
  let c1_i32_115 : BitVec 32 := 1#32
  let arg29 : BitVec 32 := Scf.iv c0_i32_113 c1_i32_115 k0_t4
  let c128_i32 : BitVec 32 := 128#32
  let v544 : BitVec 32 := Scalar.muli arg29 c128_i32
  v544
def k0_off10 (k0_t4 : Fin k0_t4_loop.trips) : Fin 3 → Nat :=
  let c0_253 : Index := 0#32
  let c0_i32_113 : BitVec 32 := 0#32
  let c1_i32_115 : BitVec 32 := 1#32
  let arg29 : BitVec 32 := Scf.iv c0_i32_113 c1_i32_115 k0_t4
  let c4096_i32 : BitVec 32 := 4096#32
  let v542 : BitVec 32 := Scalar.muli arg29 c4096_i32
  let v543 : BitVec 32 := v542
  let v546 : Index := Scalar.indexCast v543
  let c0_254 : Index := 0#32
  ![0, v546.toNat, 0]
def k0_off11 (k0_t4 : Fin k0_t4_loop.trips) : Fin 2 → Nat :=
  let c0_i32_113 : BitVec 32 := 0#32
  let c1_i32_115 : BitVec 32 := 1#32
  let arg29 : BitVec 32 := Scf.iv c0_i32_113 c1_i32_115 k0_t4
  let c4096_i32 : BitVec 32 := 4096#32
  let v542 : BitVec 32 := Scalar.muli arg29 c4096_i32
  let v543 : BitVec 32 := v542
  let v559 : Index := Scalar.indexCast v543
  let c0_258 : Index := 0#32
  ![v559.toNat, 0]
def k0_off12 (k0_t4 : Fin k0_t4_loop.trips) : Fin 2 → Nat :=
  let c0_i32_113 : BitVec 32 := 0#32
  let c1_i32_115 : BitVec 32 := 1#32
  let arg29 : BitVec 32 := Scf.iv c0_i32_113 c1_i32_115 k0_t4
  let c128_i32 : BitVec 32 := 128#32
  let v544 : BitVec 32 := Scalar.muli arg29 c128_i32
  let v545 : BitVec 32 := v544
  let v591 : Index := Scalar.indexCast v545
  let c0_277 : Index := 0#32
  ![v591.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S100x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x512x3 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8x512x3 : Shape := ⟨3, ![8, 512, 3]⟩
abbrev S8x3x3 : Shape := ⟨3, ![8, 3, 3]⟩
abbrev S8x512 : Shape := ⟨2, ![8, 512]⟩
abbrev S8x512x32 : Shape := ⟨3, ![8, 512, 32]⟩
abbrev S100x128 : Shape := ⟨2, ![100, 128]⟩
abbrev S3x50x128 : Shape := ⟨3, ![3, 50, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S3x6 : Shape := ⟨2, ![3, 6]⟩
abbrev S6 : Shape := ⟨1, ![6]⟩
abbrev S6x9 : Shape := ⟨2, ![6, 9]⟩
abbrev S9 : Shape := ⟨1, ![9]⟩
abbrev S_ : Shape := ⟨0, ![]⟩
abbrev S8x512x1 : Shape := ⟨3, ![8, 512, 1]⟩
abbrev S8x512x128 : Shape := ⟨3, ![8, 512, 128]⟩
abbrev S8x16384 : Shape := ⟨2, ![8, 16384]⟩
abbrev S8x16384x1 : Shape := ⟨3, ![8, 16384, 1]⟩
abbrev S1 : Shape := ⟨1, ![1]⟩
abbrev S1x1x1 : Shape := ⟨3, ![1, 1, 1]⟩
abbrev S8x16384x3 : Shape := ⟨3, ![8, 16384, 3]⟩
abbrev S8x512x32x3 : Shape := ⟨4, ![8, 512, 32, 3]⟩
abbrev S8x512x1x3 : Shape := ⟨4, ![8, 512, 1, 3]⟩
abbrev S49 : Shape := ⟨1, ![49]⟩
abbrev S50 : Shape := ⟨1, ![50]⟩
abbrev S8x512x32x1 : Shape := ⟨4, ![8, 512, 32, 1]⟩
abbrev S1x1x1x50 : Shape := ⟨4, ![1, 1, 1, 50]⟩
abbrev S8x512x32x50 : Shape := ⟨4, ![8, 512, 32, 50]⟩
abbrev S1x50x128 : Shape := ⟨3, ![1, 50, 128]⟩
abbrev S50x128 : Shape := ⟨2, ![50, 128]⟩
abbrev S8x512x32x128 : Shape := ⟨4, ![8, 512, 32, 128]⟩
abbrev S1x128 : Shape := ⟨2, ![1, 128]⟩
abbrev S128 : Shape := ⟨1, ![128]⟩
abbrev S1x1x1x128 : Shape := ⟨4, ![1, 1, 1, 128]⟩
abbrev S1x128x128 : Shape := ⟨3, ![1, 128, 128]⟩
abbrev S128x128 : Shape := ⟨2, ![128, 128]⟩
abbrev S8x16384x128 : Shape := ⟨3, ![8, 16384, 128]⟩
abbrev S1x1x128 : Shape := ⟨3, ![1, 1, 128]⟩
abbrev S1x1x3 : Shape := ⟨3, ![1, 1, 3]⟩
abbrev S8x2x3 : Shape := ⟨3, ![8, 2, 3]⟩
abbrev S8x1x3 : Shape := ⟨3, ![8, 1, 3]⟩
abbrev S8x3x2 : Shape := ⟨3, ![8, 3, 2]⟩
abbrev S8x3x1 : Shape := ⟨3, ![8, 3, 1]⟩
abbrev S8x3 : Shape := ⟨2, ![8, 3]⟩
abbrev S8 : Shape := ⟨1, ![8]⟩
abbrev S8x1x1 : Shape := ⟨3, ![8, 1, 1]⟩
abbrev S8x512x6 : Shape := ⟨3, ![8, 512, 6]⟩
abbrev S1x1x6 : Shape := ⟨3, ![1, 1, 6]⟩
abbrev S8x512x9 : Shape := ⟨3, ![8, 512, 9]⟩
abbrev S1x1x9 : Shape := ⟨3, ![1, 1, 9]⟩
abbrev S8x9 : Shape := ⟨2, ![8, 9]⟩
abbrev S8x1 : Shape := ⟨2, ![8, 1]⟩
abbrev S3x3 : Shape := ⟨2, ![3, 3]⟩
abbrev S1x3x3 : Shape := ⟨3, ![1, 3, 3]⟩

abbrev nBuf : Space → Nat
  | .hbm => 578
  | .vmem => 0
  | .smem => 0
  | _ => 0

abbrev hbmTy0_0 (i : Nat) : BufTy := match i % 128 with
  | 0 => ⟨S8x512x3, .f32⟩
  | 1 => ⟨S8x3x3, .f32⟩
  | 2 => ⟨S8x512, .f32⟩
  | 3 => ⟨S8x512, .i32⟩
  | 4 => ⟨S8x512x32, .i32⟩
  | 5 => ⟨S8x512x32, .f32⟩
  | 6 => ⟨S100x128, .f32⟩
  | 7 => ⟨S3x50x128, .f32⟩
  | 8 => ⟨S3x128, .f32⟩
  | 9 => ⟨S3x128x128, .f32⟩
  | 10 => ⟨S3x128, .f32⟩
  | 11 => ⟨S3x128x128, .f32⟩
  | 12 => ⟨S3x128x128, .f32⟩
  | 13 => ⟨S3x128, .f32⟩
  | 14 => ⟨S3x128x128, .f32⟩
  | 15 => ⟨S3x128, .f32⟩
  | 16 => ⟨S128x3, .f32⟩
  | 17 => ⟨S3, .f32⟩
  | 18 => ⟨S3x6, .f32⟩
  | 19 => ⟨S6, .f32⟩
  | 20 => ⟨S6x9, .f32⟩
  | 21 => ⟨S9, .f32⟩
  | 22 => ⟨S_, .i32⟩
  | 23 => ⟨S8x512, .i32⟩
  | 24 => ⟨S8x512, .i1⟩
  | 25 => ⟨S_, .i32⟩
  | 26 => ⟨S8x512, .i32⟩
  | 27 => ⟨S8x512, .i32⟩
  | 28 => ⟨S8x512, .i32⟩
  | 29 => ⟨S8x512x1, .i32⟩
  | 30 => ⟨S8x512x128, .f32⟩
  | 31 => ⟨S8x16384, .i32⟩
  | 32 => ⟨S8x16384x1, .i32⟩
  | 33 => ⟨S_, .i32⟩
  | 34 => ⟨S8x16384x1, .i32⟩
  | 35 => ⟨S8x16384x1, .i1⟩
  | 36 => ⟨S_, .i32⟩
  | 37 => ⟨S8x16384x1, .i32⟩
  | 38 => ⟨S8x16384x1, .i32⟩
  | 39 => ⟨S8x16384x1, .i32⟩
  | 40 => ⟨S1, .i32⟩
  | 41 => ⟨S_, .i32⟩
  | 42 => ⟨S8x16384x1, .i32⟩
  | 43 => ⟨S8x16384x1, .i1⟩
  | 44 => ⟨S1x1x1, .i32⟩
  | 45 => ⟨S8x16384x1, .i32⟩
  | 46 => ⟨S8x16384x1, .i1⟩
  | 47 => ⟨S8x16384x1, .i1⟩
  | 48 => ⟨S_, .i1⟩
  | 49 => ⟨S8x16384, .i1⟩
  | 50 => ⟨S8x16384x3, .f32⟩
  | 51 => ⟨S8x16384x3, .i1⟩
  | 52 => ⟨S_, .f32⟩
  | 53 => ⟨S8x16384x3, .f32⟩
  | 54 => ⟨S8x16384x3, .f32⟩
  | 55 => ⟨S8x512x32x3, .f32⟩
  | 56 => ⟨S8x512x1x3, .f32⟩
  | 57 => ⟨S8x512x32x3, .f32⟩
  | 58 => ⟨S8x512x32x3, .f32⟩
  | 59 => ⟨S8x512x32x3, .f32⟩
  | 60 => ⟨S_, .f32⟩
  | 61 => ⟨S8x512x32, .f32⟩
  | 62 => ⟨S_, .f32⟩
  | 63 => ⟨S8x512x32, .f32⟩
  | 64 => ⟨S8x512x32, .f32⟩
  | 65 => ⟨S8x512x32, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S49, .f32⟩
  | 74 => ⟨S_, .f32⟩
  | 75 => ⟨S49, .f32⟩
  | 76 => ⟨S49, .f32⟩
  | 77 => ⟨S1, .f32⟩
  | 78 => ⟨S_, .f32⟩
  | 79 => ⟨S49, .f32⟩
  | 80 => ⟨S49, .f32⟩
  | 81 => ⟨S49, .f32⟩
  | 82 => ⟨S49, .f32⟩
  | 83 => ⟨S1, .f32⟩
  | 84 => ⟨S49, .f32⟩
  | 85 => ⟨S49, .f32⟩
  | 86 => ⟨S49, .f32⟩
  | 87 => ⟨S1, .f32⟩
  | 88 => ⟨S50, .f32⟩
  | 89 => ⟨S1, .f32⟩
  | 90 => ⟨S_, .f32⟩
  | 91 => ⟨S1, .f32⟩
  | 92 => ⟨S_, .f32⟩
  | 93 => ⟨S_, .f32⟩
  | 94 => ⟨S_, .f32⟩
  | 95 => ⟨S_, .f32⟩
  | 96 => ⟨S_, .f32⟩
  | 97 => ⟨S8x512x32x1, .f32⟩
  | 98 => ⟨S1x1x1x50, .f32⟩
  | 99 => ⟨S8x512x32x50, .f32⟩
  | 100 => ⟨S8x512x32x50, .f32⟩
  | 101 => ⟨S8x512x32x50, .f32⟩
  | 102 => ⟨S8x512x32x50, .f32⟩
  | 103 => ⟨S8x512x32x50, .f32⟩
  | 104 => ⟨S8x512x32x50, .f32⟩
  | 105 => ⟨S8x512x32x50, .f32⟩
  | 106 => ⟨S_, .f32⟩
  | 107 => ⟨S8x512x32, .f32⟩
  | 108 => ⟨S8x512x32, .f32⟩
  | 109 => ⟨S_, .f32⟩
  | 110 => ⟨S8x512x32, .f32⟩
  | 111 => ⟨S8x512x32, .f32⟩
  | 112 => ⟨S8x512x32, .f32⟩
  | 113 => ⟨S_, .f32⟩
  | 114 => ⟨S8x512x32, .f32⟩
  | 115 => ⟨S8x512x32, .f32⟩
  | 116 => ⟨S_, .f32⟩
  | 117 => ⟨S8x512x32, .f32⟩
  | 118 => ⟨S8x512x32, .f32⟩
  | 119 => ⟨S_, .f32⟩
  | 120 => ⟨S8x512x32, .f32⟩
  | 121 => ⟨S8x512x32, .i1⟩
  | 122 => ⟨S8x512x32, .f32⟩
  | 123 => ⟨S8x512x32, .f32⟩
  | 124 => ⟨S1x50x128, .f32⟩
  | 125 => ⟨S50x128, .f32⟩
  | 126 => ⟨S8x512x32x128, .f32⟩
  | 127 => ⟨S1x128, .f32⟩
  | _ => ⟨S8x512x3, .f32⟩

abbrev hbmTy0_1 (i : Nat) : BufTy := match i % 128 with
  | 0 => ⟨S128, .f32⟩
  | 1 => ⟨S1x1x1x128, .f32⟩
  | 2 => ⟨S8x512x32x128, .f32⟩
  | 3 => ⟨S8x512x32x128, .f32⟩
  | 4 => ⟨S_, .f32⟩
  | 5 => ⟨S8x512x32x128, .f32⟩
  | 6 => ⟨S8x512x32x128, .f32⟩
  | 7 => ⟨S8x512x32x128, .f32⟩
  | 8 => ⟨S8x512x32x128, .f32⟩
  | 9 => ⟨S8x512x32x128, .i1⟩
  | 10 => ⟨S8x512x32x128, .f32⟩
  | 11 => ⟨S8x512x32x128, .f32⟩
  | 12 => ⟨S8x512x32x128, .f32⟩
  | 13 => ⟨S8x512x32x128, .f32⟩
  | 14 => ⟨S8x512x32x128, .f32⟩
  | 15 => ⟨S8x512x32x128, .f32⟩
  | 16 => ⟨S8x512x32x128, .f32⟩
  | 17 => ⟨S8x512x32x128, .f32⟩
  | 18 => ⟨S_, .f32⟩
  | 19 => ⟨S_, .f32⟩
  | 20 => ⟨S_, .f32⟩
  | 21 => ⟨S8x512x32x128, .f32⟩
  | 22 => ⟨S8x512x32x128, .f32⟩
  | 23 => ⟨S1x128x128, .f32⟩
  | 24 => ⟨S128x128, .f32⟩
  | 25 => ⟨S8x512x32x128, .f32⟩
  | 26 => ⟨S1x128, .f32⟩
  | 27 => ⟨S128, .f32⟩
  | 28 => ⟨S1x1x1x128, .f32⟩
  | 29 => ⟨S8x512x32x128, .f32⟩
  | 30 => ⟨S8x512x32x128, .f32⟩
  | 31 => ⟨S8x512x32x1, .f32⟩
  | 32 => ⟨S8x512x32x128, .f32⟩
  | 33 => ⟨S8x512x32x128, .f32⟩
  | 34 => ⟨S8x512x32x1, .f32⟩
  | 35 => ⟨S8x512x32x128, .f32⟩
  | 36 => ⟨S8x512x32x128, .f32⟩
  | 37 => ⟨S1x128x128, .f32⟩
  | 38 => ⟨S128x128, .f32⟩
  | 39 => ⟨S8x512x128, .f32⟩
  | 40 => ⟨S8x16384x1, .i32⟩
  | 41 => ⟨S_, .i32⟩
  | 42 => ⟨S8x16384x1, .i32⟩
  | 43 => ⟨S8x16384x1, .i1⟩
  | 44 => ⟨S_, .i32⟩
  | 45 => ⟨S8x16384x1, .i32⟩
  | 46 => ⟨S8x16384x1, .i32⟩
  | 47 => ⟨S8x16384x1, .i32⟩
  | 48 => ⟨S1, .i32⟩
  | 49 => ⟨S_, .i32⟩
  | 50 => ⟨S8x16384x1, .i32⟩
  | 51 => ⟨S8x16384x1, .i1⟩
  | 52 => ⟨S1x1x1, .i32⟩
  | 53 => ⟨S8x16384x1, .i32⟩
  | 54 => ⟨S8x16384x1, .i1⟩
  | 55 => ⟨S8x16384x1, .i1⟩
  | 56 => ⟨S_, .i1⟩
  | 57 => ⟨S8x16384, .i1⟩
  | 58 => ⟨S8x16384x128, .f32⟩
  | 59 => ⟨S8x16384x128, .i1⟩
  | 60 => ⟨S_, .f32⟩
  | 61 => ⟨S8x16384x128, .f32⟩
  | 62 => ⟨S8x16384x128, .f32⟩
  | 63 => ⟨S8x512x32x128, .f32⟩
  | 64 => ⟨S8x512x32x128, .f32⟩
  | 65 => ⟨S_, .f32⟩
  | 66 => ⟨S8x512x128, .f32⟩
  | 67 => ⟨S1x128x128, .f32⟩
  | 68 => ⟨S128x128, .f32⟩
  | 69 => ⟨S8x512x128, .f32⟩
  | 70 => ⟨S1x128, .f32⟩
  | 71 => ⟨S128, .f32⟩
  | 72 => ⟨S1x1x128, .f32⟩
  | 73 => ⟨S8x512x128, .f32⟩
  | 74 => ⟨S8x512x128, .f32⟩
  | 75 => ⟨S_, .f32⟩
  | 76 => ⟨S8x512x128, .f32⟩
  | 77 => ⟨S8x512x128, .f32⟩
  | 78 => ⟨S8x512x128, .f32⟩
  | 79 => ⟨S8x512x128, .f32⟩
  | 80 => ⟨S8x512x128, .i1⟩
  | 81 => ⟨S8x512x128, .f32⟩
  | 82 => ⟨S8x512x128, .f32⟩
  | 83 => ⟨S8x512x128, .f32⟩
  | 84 => ⟨S8x512x128, .f32⟩
  | 85 => ⟨S8x512x128, .f32⟩
  | 86 => ⟨S8x512x128, .f32⟩
  | 87 => ⟨S8x512x128, .f32⟩
  | 88 => ⟨S8x512x128, .f32⟩
  | 89 => ⟨S_, .f32⟩
  | 90 => ⟨S_, .f32⟩
  | 91 => ⟨S_, .f32⟩
  | 92 => ⟨S8x512x128, .f32⟩
  | 93 => ⟨S8x512x128, .f32⟩
  | 94 => ⟨S1x128x128, .f32⟩
  | 95 => ⟨S128x128, .f32⟩
  | 96 => ⟨S8x512x128, .f32⟩
  | 97 => ⟨S1x128, .f32⟩
  | 98 => ⟨S128, .f32⟩
  | 99 => ⟨S1x1x128, .f32⟩
  | 100 => ⟨S8x512x128, .f32⟩
  | 101 => ⟨S8x512x128, .f32⟩
  | 102 => ⟨S8x512x128, .f32⟩
  | 103 => ⟨S1x50x128, .f32⟩
  | 104 => ⟨S50x128, .f32⟩
  | 105 => ⟨S8x512x32x128, .f32⟩
  | 106 => ⟨S1x128, .f32⟩
  | 107 => ⟨S128, .f32⟩
  | 108 => ⟨S1x1x1x128, .f32⟩
  | 109 => ⟨S8x512x32x128, .f32⟩
  | 110 => ⟨S8x512x32x128, .f32⟩
  | 111 => ⟨S_, .f32⟩
  | 112 => ⟨S8x512x32x128, .f32⟩
  | 113 => ⟨S8x512x32x128, .f32⟩
  | 114 => ⟨S8x512x32x128, .f32⟩
  | 115 => ⟨S8x512x32x128, .f32⟩
  | 116 => ⟨S8x512x32x128, .i1⟩
  | 117 => ⟨S8x512x32x128, .f32⟩
  | 118 => ⟨S8x512x32x128, .f32⟩
  | 119 => ⟨S8x512x32x128, .f32⟩
  | 120 => ⟨S8x512x32x128, .f32⟩
  | 121 => ⟨S8x512x32x128, .f32⟩
  | 122 => ⟨S8x512x32x128, .f32⟩
  | 123 => ⟨S8x512x32x128, .f32⟩
  | 124 => ⟨S8x512x32x128, .f32⟩
  | 125 => ⟨S_, .f32⟩
  | 126 => ⟨S_, .f32⟩
  | 127 => ⟨S_, .f32⟩
  | _ => ⟨S8x512x3, .f32⟩

abbrev hbmTy0_2 (i : Nat) : BufTy := match i % 128 with
  | 0 => ⟨S8x512x32x128, .f32⟩
  | 1 => ⟨S8x512x32x128, .f32⟩
  | 2 => ⟨S1x128x128, .f32⟩
  | 3 => ⟨S128x128, .f32⟩
  | 4 => ⟨S8x512x32x128, .f32⟩
  | 5 => ⟨S1x128, .f32⟩
  | 6 => ⟨S128, .f32⟩
  | 7 => ⟨S1x1x1x128, .f32⟩
  | 8 => ⟨S8x512x32x128, .f32⟩
  | 9 => ⟨S8x512x32x128, .f32⟩
  | 10 => ⟨S8x512x32x1, .f32⟩
  | 11 => ⟨S8x512x32x128, .f32⟩
  | 12 => ⟨S8x512x32x128, .f32⟩
  | 13 => ⟨S8x512x32x1, .f32⟩
  | 14 => ⟨S8x512x32x128, .f32⟩
  | 15 => ⟨S8x512x32x128, .f32⟩
  | 16 => ⟨S1x128x128, .f32⟩
  | 17 => ⟨S128x128, .f32⟩
  | 18 => ⟨S8x512x128, .f32⟩
  | 19 => ⟨S8x16384x1, .i32⟩
  | 20 => ⟨S_, .i32⟩
  | 21 => ⟨S8x16384x1, .i32⟩
  | 22 => ⟨S8x16384x1, .i1⟩
  | 23 => ⟨S_, .i32⟩
  | 24 => ⟨S8x16384x1, .i32⟩
  | 25 => ⟨S8x16384x1, .i32⟩
  | 26 => ⟨S8x16384x1, .i32⟩
  | 27 => ⟨S1, .i32⟩
  | 28 => ⟨S_, .i32⟩
  | 29 => ⟨S8x16384x1, .i32⟩
  | 30 => ⟨S8x16384x1, .i1⟩
  | 31 => ⟨S1x1x1, .i32⟩
  | 32 => ⟨S8x16384x1, .i32⟩
  | 33 => ⟨S8x16384x1, .i1⟩
  | 34 => ⟨S8x16384x1, .i1⟩
  | 35 => ⟨S_, .i1⟩
  | 36 => ⟨S8x16384, .i1⟩
  | 37 => ⟨S8x16384x128, .f32⟩
  | 38 => ⟨S8x16384x128, .i1⟩
  | 39 => ⟨S_, .f32⟩
  | 40 => ⟨S8x16384x128, .f32⟩
  | 41 => ⟨S8x16384x128, .f32⟩
  | 42 => ⟨S8x512x32x128, .f32⟩
  | 43 => ⟨S8x512x32x128, .f32⟩
  | 44 => ⟨S_, .f32⟩
  | 45 => ⟨S8x512x128, .f32⟩
  | 46 => ⟨S1x128x128, .f32⟩
  | 47 => ⟨S128x128, .f32⟩
  | 48 => ⟨S8x512x128, .f32⟩
  | 49 => ⟨S1x128, .f32⟩
  | 50 => ⟨S128, .f32⟩
  | 51 => ⟨S1x1x128, .f32⟩
  | 52 => ⟨S8x512x128, .f32⟩
  | 53 => ⟨S8x512x128, .f32⟩
  | 54 => ⟨S_, .f32⟩
  | 55 => ⟨S8x512x128, .f32⟩
  | 56 => ⟨S8x512x128, .f32⟩
  | 57 => ⟨S8x512x128, .f32⟩
  | 58 => ⟨S8x512x128, .f32⟩
  | 59 => ⟨S8x512x128, .i1⟩
  | 60 => ⟨S8x512x128, .f32⟩
  | 61 => ⟨S8x512x128, .f32⟩
  | 62 => ⟨S8x512x128, .f32⟩
  | 63 => ⟨S8x512x128, .f32⟩
  | 64 => ⟨S8x512x128, .f32⟩
  | 65 => ⟨S8x512x128, .f32⟩
  | 66 => ⟨S8x512x128, .f32⟩
  | 67 => ⟨S8x512x128, .f32⟩
  | 68 => ⟨S_, .f32⟩
  | 69 => ⟨S_, .f32⟩
  | 70 => ⟨S_, .f32⟩
  | 71 => ⟨S8x512x128, .f32⟩
  | 72 => ⟨S8x512x128, .f32⟩
  | 73 => ⟨S1x128x128, .f32⟩
  | 74 => ⟨S128x128, .f32⟩
  | 75 => ⟨S8x512x128, .f32⟩
  | 76 => ⟨S1x128, .f32⟩
  | 77 => ⟨S128, .f32⟩
  | 78 => ⟨S1x1x128, .f32⟩
  | 79 => ⟨S8x512x128, .f32⟩
  | 80 => ⟨S8x512x128, .f32⟩
  | 81 => ⟨S8x512x128, .f32⟩
  | 82 => ⟨S1x50x128, .f32⟩
  | 83 => ⟨S50x128, .f32⟩
  | 84 => ⟨S8x512x32x128, .f32⟩
  | 85 => ⟨S1x128, .f32⟩
  | 86 => ⟨S128, .f32⟩
  | 87 => ⟨S1x1x1x128, .f32⟩
  | 88 => ⟨S8x512x32x128, .f32⟩
  | 89 => ⟨S8x512x32x128, .f32⟩
  | 90 => ⟨S_, .f32⟩
  | 91 => ⟨S8x512x32x128, .f32⟩
  | 92 => ⟨S8x512x32x128, .f32⟩
  | 93 => ⟨S8x512x32x128, .f32⟩
  | 94 => ⟨S8x512x32x128, .f32⟩
  | 95 => ⟨S8x512x32x128, .i1⟩
  | 96 => ⟨S8x512x32x128, .f32⟩
  | 97 => ⟨S8x512x32x128, .f32⟩
  | 98 => ⟨S8x512x32x128, .f32⟩
  | 99 => ⟨S8x512x32x128, .f32⟩
  | 100 => ⟨S8x512x32x128, .f32⟩
  | 101 => ⟨S8x512x32x128, .f32⟩
  | 102 => ⟨S8x512x32x128, .f32⟩
  | 103 => ⟨S8x512x32x128, .f32⟩
  | 104 => ⟨S_, .f32⟩
  | 105 => ⟨S_, .f32⟩
  | 106 => ⟨S_, .f32⟩
  | 107 => ⟨S8x512x32x128, .f32⟩
  | 108 => ⟨S8x512x32x128, .f32⟩
  | 109 => ⟨S1x128x128, .f32⟩
  | 110 => ⟨S128x128, .f32⟩
  | 111 => ⟨S8x512x32x128, .f32⟩
  | 112 => ⟨S1x128, .f32⟩
  | 113 => ⟨S128, .f32⟩
  | 114 => ⟨S1x1x1x128, .f32⟩
  | 115 => ⟨S8x512x32x128, .f32⟩
  | 116 => ⟨S8x512x32x128, .f32⟩
  | 117 => ⟨S8x512x32x1, .f32⟩
  | 118 => ⟨S8x512x32x128, .f32⟩
  | 119 => ⟨S8x512x32x128, .f32⟩
  | 120 => ⟨S8x512x32x1, .f32⟩
  | 121 => ⟨S8x512x32x128, .f32⟩
  | 122 => ⟨S8x512x32x128, .f32⟩
  | 123 => ⟨S1x128x128, .f32⟩
  | 124 => ⟨S128x128, .f32⟩
  | 125 => ⟨S8x512x128, .f32⟩
  | 126 => ⟨S8x16384x1, .i32⟩
  | 127 => ⟨S_, .i32⟩
  | _ => ⟨S8x512x3, .f32⟩

abbrev hbmTy0_3 (i : Nat) : BufTy := match i % 128 with
  | 0 => ⟨S8x16384x1, .i32⟩
  | 1 => ⟨S8x16384x1, .i1⟩
  | 2 => ⟨S_, .i32⟩
  | 3 => ⟨S8x16384x1, .i32⟩
  | 4 => ⟨S8x16384x1, .i32⟩
  | 5 => ⟨S8x16384x1, .i32⟩
  | 6 => ⟨S1, .i32⟩
  | 7 => ⟨S_, .i32⟩
  | 8 => ⟨S8x16384x1, .i32⟩
  | 9 => ⟨S8x16384x1, .i1⟩
  | 10 => ⟨S1x1x1, .i32⟩
  | 11 => ⟨S8x16384x1, .i32⟩
  | 12 => ⟨S8x16384x1, .i1⟩
  | 13 => ⟨S8x16384x1, .i1⟩
  | 14 => ⟨S_, .i1⟩
  | 15 => ⟨S8x16384, .i1⟩
  | 16 => ⟨S8x16384x128, .f32⟩
  | 17 => ⟨S8x16384x128, .i1⟩
  | 18 => ⟨S_, .f32⟩
  | 19 => ⟨S8x16384x128, .f32⟩
  | 20 => ⟨S8x16384x128, .f32⟩
  | 21 => ⟨S8x512x32x128, .f32⟩
  | 22 => ⟨S8x512x32x128, .f32⟩
  | 23 => ⟨S_, .f32⟩
  | 24 => ⟨S8x512x128, .f32⟩
  | 25 => ⟨S1x128x128, .f32⟩
  | 26 => ⟨S128x128, .f32⟩
  | 27 => ⟨S8x512x128, .f32⟩
  | 28 => ⟨S1x128, .f32⟩
  | 29 => ⟨S128, .f32⟩
  | 30 => ⟨S1x1x128, .f32⟩
  | 31 => ⟨S8x512x128, .f32⟩
  | 32 => ⟨S8x512x128, .f32⟩
  | 33 => ⟨S_, .f32⟩
  | 34 => ⟨S8x512x128, .f32⟩
  | 35 => ⟨S8x512x128, .f32⟩
  | 36 => ⟨S8x512x128, .f32⟩
  | 37 => ⟨S8x512x128, .f32⟩
  | 38 => ⟨S8x512x128, .i1⟩
  | 39 => ⟨S8x512x128, .f32⟩
  | 40 => ⟨S8x512x128, .f32⟩
  | 41 => ⟨S8x512x128, .f32⟩
  | 42 => ⟨S8x512x128, .f32⟩
  | 43 => ⟨S8x512x128, .f32⟩
  | 44 => ⟨S8x512x128, .f32⟩
  | 45 => ⟨S8x512x128, .f32⟩
  | 46 => ⟨S8x512x128, .f32⟩
  | 47 => ⟨S_, .f32⟩
  | 48 => ⟨S_, .f32⟩
  | 49 => ⟨S_, .f32⟩
  | 50 => ⟨S8x512x128, .f32⟩
  | 51 => ⟨S8x512x128, .f32⟩
  | 52 => ⟨S1x128x128, .f32⟩
  | 53 => ⟨S128x128, .f32⟩
  | 54 => ⟨S8x512x128, .f32⟩
  | 55 => ⟨S1x128, .f32⟩
  | 56 => ⟨S128, .f32⟩
  | 57 => ⟨S1x1x128, .f32⟩
  | 58 => ⟨S8x512x128, .f32⟩
  | 59 => ⟨S8x512x128, .f32⟩
  | 60 => ⟨S8x512x128, .f32⟩
  | 61 => ⟨S8x512x3, .f32⟩
  | 62 => ⟨S1x1x3, .f32⟩
  | 63 => ⟨S8x512x3, .f32⟩
  | 64 => ⟨S8x512x3, .f32⟩
  | 65 => ⟨S_, .f32⟩
  | 66 => ⟨S8x512x3, .f32⟩
  | 67 => ⟨S8x512x3, .f32⟩
  | 68 => ⟨S8x512x3, .f32⟩
  | 69 => ⟨S8x512x3, .f32⟩
  | 70 => ⟨S_, .f32⟩
  | 71 => ⟨S8x512x3, .f32⟩
  | 72 => ⟨S8x512x3, .f32⟩
  | 73 => ⟨S_, .f32⟩
  | 74 => ⟨S8x512x3, .f32⟩
  | 75 => ⟨S8x512x3, .f32⟩
  | 76 => ⟨S8x2x3, .f32⟩
  | 77 => ⟨S8x1x3, .f32⟩
  | 78 => ⟨S8x3x3, .f32⟩
  | 79 => ⟨S8x3x2, .f32⟩
  | 80 => ⟨S8x3x1, .f32⟩
  | 81 => ⟨S8x3x3, .f32⟩
  | 82 => ⟨S8x1x3, .f32⟩
  | 83 => ⟨S8x2x3, .f32⟩
  | 84 => ⟨S8x3x3, .f32⟩
  | 85 => ⟨S8x3x1, .f32⟩
  | 86 => ⟨S8x3x2, .f32⟩
  | 87 => ⟨S8x3x3, .f32⟩
  | 88 => ⟨S8x3x3, .f32⟩
  | 89 => ⟨S8x2x3, .f32⟩
  | 90 => ⟨S8x1x3, .f32⟩
  | 91 => ⟨S8x3x3, .f32⟩
  | 92 => ⟨S8x3x1, .f32⟩
  | 93 => ⟨S8x3x2, .f32⟩
  | 94 => ⟨S8x3x3, .f32⟩
  | 95 => ⟨S8x1x3, .f32⟩
  | 96 => ⟨S8x2x3, .f32⟩
  | 97 => ⟨S8x3x3, .f32⟩
  | 98 => ⟨S8x3x2, .f32⟩
  | 99 => ⟨S8x3x1, .f32⟩
  | 100 => ⟨S8x3x3, .f32⟩
  | 101 => ⟨S8x3x3, .f32⟩
  | 102 => ⟨S8x3x3, .f32⟩
  | 103 => ⟨S8x1x3, .f32⟩
  | 104 => ⟨S8x3, .f32⟩
  | 105 => ⟨S8x1x3, .f32⟩
  | 106 => ⟨S8x3, .f32⟩
  | 107 => ⟨S8x3, .f32⟩
  | 108 => ⟨S_, .f32⟩
  | 109 => ⟨S8, .f32⟩
  | 110 => ⟨S8x3x3, .f32⟩
  | 111 => ⟨S8x1x1, .f32⟩
  | 112 => ⟨S8x3x3, .f32⟩
  | 113 => ⟨S8x3x3, .f32⟩
  | 114 => ⟨S8x512x3, .f32⟩
  | 115 => ⟨S8x512x3, .f32⟩
  | 116 => ⟨S_, .f32⟩
  | 117 => ⟨S_, .f32⟩
  | 118 => ⟨S8x512x3, .f32⟩
  | 119 => ⟨S8x512x3, .f32⟩
  | 120 => ⟨S_, .f32⟩
  | 121 => ⟨S8x512x3, .f32⟩
  | 122 => ⟨S8x512x3, .i1⟩
  | 123 => ⟨S_, .f32⟩
  | 124 => ⟨S8x512x3, .f32⟩
  | 125 => ⟨S8x512x3, .i1⟩
  | 126 => ⟨S_, .f32⟩
  | 127 => ⟨S_, .i1⟩
  | _ => ⟨S8x512x3, .f32⟩

abbrev hbmTy0_4 (i : Nat) : BufTy := match i % 128 with
  | 0 => ⟨S8x512x3, .i1⟩
  | 1 => ⟨S8x512x3, .i1⟩
  | 2 => ⟨S8x512x3, .i1⟩
  | 3 => ⟨S8x512x3, .f32⟩
  | 4 => ⟨S8x512x3, .f32⟩
  | 5 => ⟨S8x512x3, .f32⟩
  | 6 => ⟨S8x512x3, .f32⟩
  | 7 => ⟨S8x512x6, .f32⟩
  | 8 => ⟨S1x1x6, .f32⟩
  | 9 => ⟨S8x512x6, .f32⟩
  | 10 => ⟨S8x512x6, .f32⟩
  | 11 => ⟨S_, .f32⟩
  | 12 => ⟨S8x512x6, .f32⟩
  | 13 => ⟨S8x512x6, .f32⟩
  | 14 => ⟨S8x512x6, .f32⟩
  | 15 => ⟨S8x512x6, .f32⟩
  | 16 => ⟨S8x512x6, .i1⟩
  | 17 => ⟨S8x512x6, .f32⟩
  | 18 => ⟨S8x512x6, .f32⟩
  | 19 => ⟨S8x512x6, .f32⟩
  | 20 => ⟨S8x512x6, .f32⟩
  | 21 => ⟨S8x512x6, .f32⟩
  | 22 => ⟨S8x512x6, .f32⟩
  | 23 => ⟨S8x512x6, .f32⟩
  | 24 => ⟨S8x512x6, .f32⟩
  | 25 => ⟨S_, .f32⟩
  | 26 => ⟨S_, .f32⟩
  | 27 => ⟨S_, .f32⟩
  | 28 => ⟨S8x512x6, .f32⟩
  | 29 => ⟨S8x512x6, .f32⟩
  | 30 => ⟨S8x512x9, .f32⟩
  | 31 => ⟨S1x1x9, .f32⟩
  | 32 => ⟨S8x512x9, .f32⟩
  | 33 => ⟨S8x512x9, .f32⟩
  | 34 => ⟨S8x512x1, .f32⟩
  | 35 => ⟨S8x512x9, .f32⟩
  | 36 => ⟨S8x512x9, .f32⟩
  | 37 => ⟨S_, .f32⟩
  | 38 => ⟨S8x9, .f32⟩
  | 39 => ⟨S_, .f32⟩
  | 40 => ⟨S8x1, .f32⟩
  | 41 => ⟨S8x9, .f32⟩
  | 42 => ⟨S8x9, .f32⟩
  | 43 => ⟨S_, .f32⟩
  | 44 => ⟨S8, .f32⟩
  | 45 => ⟨S8x1x1, .f32⟩
  | 46 => ⟨S_, .f32⟩
  | 47 => ⟨S8x1x1, .f32⟩
  | 48 => ⟨S8x1x1, .f32⟩
  | 49 => ⟨S_, .f32⟩
  | 50 => ⟨S8x1x1, .f32⟩
  | 51 => ⟨S8x1x1, .f32⟩
  | 52 => ⟨S3x3, .i32⟩
  | 53 => ⟨S3x3, .i32⟩
  | 54 => ⟨S_, .i32⟩
  | 55 => ⟨S3x3, .i32⟩
  | 56 => ⟨S3x3, .i32⟩
  | 57 => ⟨S3x3, .i1⟩
  | 58 => ⟨S3x3, .f32⟩
  | 59 => ⟨S1x3x3, .f32⟩
  | 60 => ⟨S8x3x3, .f32⟩
  | 61 => ⟨S8x3x3, .f32⟩
  | 62 => ⟨S8x3x3, .f32⟩
  | 63 => ⟨S8x3x3, .f32⟩
  | 64 => ⟨S8x3x3, .f32⟩
  | 65 => ⟨S8x512x3, .f32⟩
  | _ => ⟨S8x512x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x512x3, .f32⟩

abbrev bufTy : (tb : Table) → Fin (tcTables nBuf tb) → BufTy
  | .hbm, ⟨i, _⟩ => hbmTy i
  | _, _ => ⟨S8x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_c_2 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_c_3 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst : Ref sig .tc := ⟨.hbm, 60, rfl⟩
abbrev main_v15 : Ref sig .tc := ⟨.hbm, 61, rfl⟩
abbrev main_cst_1 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_2 : Ref sig .tc := ⟨.hbm, 66, rfl⟩
abbrev main_cst_3 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_v15 : Ref sig .tc := ⟨.hbm, 86, rfl⟩
abbrev main_call1_v16 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_cst_4 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_5 : Ref sig .tc := ⟨.hbm, 106, rfl⟩
abbrev main_v36 : Ref sig .tc := ⟨.hbm, 107, rfl⟩
abbrev main_v37 : Ref sig .tc := ⟨.hbm, 108, rfl⟩
abbrev main_cst_6 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_cst_7 : Ref sig .tc := ⟨.hbm, 113, rfl⟩
abbrev main_v41 : Ref sig .tc := ⟨.hbm, 114, rfl⟩
abbrev main_v42 : Ref sig .tc := ⟨.hbm, 115, rfl⟩
abbrev main_cst_8 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_cst_10 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_11 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_call2_c : Ref sig .tc := ⟨.hbm, 169, rfl⟩
abbrev main_call2_v0 : Ref sig .tc := ⟨.hbm, 170, rfl⟩
abbrev main_call2_v1 : Ref sig .tc := ⟨.hbm, 171, rfl⟩
abbrev main_call2_c_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_c_1 : Ref sig .tc := ⟨.hbm, 176, rfl⟩
abbrev main_call2_c_2 : Ref sig .tc := ⟨.hbm, 177, rfl⟩
abbrev main_call2_v5 : Ref sig .tc := ⟨.hbm, 178, rfl⟩
abbrev main_call2_v6 : Ref sig .tc := ⟨.hbm, 179, rfl⟩
abbrev main_call2_v7 : Ref sig .tc := ⟨.hbm, 180, rfl⟩
abbrev main_call2_v8 : Ref sig .tc := ⟨.hbm, 181, rfl⟩
abbrev main_call2_v9 : Ref sig .tc := ⟨.hbm, 182, rfl⟩
abbrev main_call2_v10 : Ref sig .tc := ⟨.hbm, 183, rfl⟩
abbrev main_call2_c_3 : Ref sig .tc := ⟨.hbm, 184, rfl⟩
abbrev main_call2_v11 : Ref sig .tc := ⟨.hbm, 185, rfl⟩
abbrev main_call2_v12 : Ref sig .tc := ⟨.hbm, 186, rfl⟩
abbrev main_call2_v13 : Ref sig .tc := ⟨.hbm, 187, rfl⟩
abbrev main_call2_cst : Ref sig .tc := ⟨.hbm, 188, rfl⟩
abbrev main_call2_v14 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_12 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_13 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_cst_14 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_cst_15 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_16 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_call3_c : Ref sig .tc := ⟨.hbm, 276, rfl⟩
abbrev main_call3_v0 : Ref sig .tc := ⟨.hbm, 277, rfl⟩
abbrev main_call3_v1 : Ref sig .tc := ⟨.hbm, 278, rfl⟩
abbrev main_call3_c_0 : Ref sig .tc := ⟨.hbm, 279, rfl⟩
abbrev main_call3_v2 : Ref sig .tc := ⟨.hbm, 280, rfl⟩
abbrev main_call3_v3 : Ref sig .tc := ⟨.hbm, 281, rfl⟩
abbrev main_call3_v4 : Ref sig .tc := ⟨.hbm, 282, rfl⟩
abbrev main_call3_c_1 : Ref sig .tc := ⟨.hbm, 283, rfl⟩
abbrev main_call3_c_2 : Ref sig .tc := ⟨.hbm, 284, rfl⟩
abbrev main_call3_v5 : Ref sig .tc := ⟨.hbm, 285, rfl⟩
abbrev main_call3_v6 : Ref sig .tc := ⟨.hbm, 286, rfl⟩
abbrev main_call3_v7 : Ref sig .tc := ⟨.hbm, 287, rfl⟩
abbrev main_call3_v8 : Ref sig .tc := ⟨.hbm, 288, rfl⟩
abbrev main_call3_v9 : Ref sig .tc := ⟨.hbm, 289, rfl⟩
abbrev main_call3_v10 : Ref sig .tc := ⟨.hbm, 290, rfl⟩
abbrev main_call3_c_3 : Ref sig .tc := ⟨.hbm, 291, rfl⟩
abbrev main_call3_v11 : Ref sig .tc := ⟨.hbm, 292, rfl⟩
abbrev main_call3_v12 : Ref sig .tc := ⟨.hbm, 293, rfl⟩
abbrev main_call3_v13 : Ref sig .tc := ⟨.hbm, 294, rfl⟩
abbrev main_call3_cst : Ref sig .tc := ⟨.hbm, 295, rfl⟩
abbrev main_call3_v14 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_cst_17 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_cst_18 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_cst_19 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_cst_20 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_cst_21 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_call4_c : Ref sig .tc := ⟨.hbm, 383, rfl⟩
abbrev main_call4_v0 : Ref sig .tc := ⟨.hbm, 384, rfl⟩
abbrev main_call4_v1 : Ref sig .tc := ⟨.hbm, 385, rfl⟩
abbrev main_call4_c_0 : Ref sig .tc := ⟨.hbm, 386, rfl⟩
abbrev main_call4_v2 : Ref sig .tc := ⟨.hbm, 387, rfl⟩
abbrev main_call4_v3 : Ref sig .tc := ⟨.hbm, 388, rfl⟩
abbrev main_call4_v4 : Ref sig .tc := ⟨.hbm, 389, rfl⟩
abbrev main_call4_c_1 : Ref sig .tc := ⟨.hbm, 390, rfl⟩
abbrev main_call4_c_2 : Ref sig .tc := ⟨.hbm, 391, rfl⟩
abbrev main_call4_v5 : Ref sig .tc := ⟨.hbm, 392, rfl⟩
abbrev main_call4_v6 : Ref sig .tc := ⟨.hbm, 393, rfl⟩
abbrev main_call4_v7 : Ref sig .tc := ⟨.hbm, 394, rfl⟩
abbrev main_call4_v8 : Ref sig .tc := ⟨.hbm, 395, rfl⟩
abbrev main_call4_v9 : Ref sig .tc := ⟨.hbm, 396, rfl⟩
abbrev main_call4_v10 : Ref sig .tc := ⟨.hbm, 397, rfl⟩
abbrev main_call4_c_3 : Ref sig .tc := ⟨.hbm, 398, rfl⟩
abbrev main_call4_v11 : Ref sig .tc := ⟨.hbm, 399, rfl⟩
abbrev main_call4_v12 : Ref sig .tc := ⟨.hbm, 400, rfl⟩
abbrev main_call4_v13 : Ref sig .tc := ⟨.hbm, 401, rfl⟩
abbrev main_call4_cst : Ref sig .tc := ⟨.hbm, 402, rfl⟩
abbrev main_call4_v14 : Ref sig .tc := ⟨.hbm, 403, rfl⟩
abbrev main_v254 : Ref sig .tc := ⟨.hbm, 404, rfl⟩
abbrev main_v255 : Ref sig .tc := ⟨.hbm, 405, rfl⟩
abbrev main_v256 : Ref sig .tc := ⟨.hbm, 406, rfl⟩
abbrev main_cst_22 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_v265 : Ref sig .tc := ⟨.hbm, 416, rfl⟩
abbrev main_cst_23 : Ref sig .tc := ⟨.hbm, 417, rfl⟩
abbrev main_v266 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_cst_24 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_v284 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_cst_25 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_cst_26 : Ref sig .tc := ⟨.hbm, 454, rfl⟩
abbrev main_v300 : Ref sig .tc := ⟨.hbm, 455, rfl⟩
abbrev main_v301 : Ref sig .tc := ⟨.hbm, 456, rfl⟩
abbrev main_cst_27 : Ref sig .tc := ⟨.hbm, 457, rfl⟩
abbrev main_v302 : Ref sig .tc := ⟨.hbm, 458, rfl⟩
abbrev main_v303 : Ref sig .tc := ⟨.hbm, 459, rfl⟩
abbrev main_call5_v0 : Ref sig .tc := ⟨.hbm, 460, rfl⟩
abbrev main_call5_v1 : Ref sig .tc := ⟨.hbm, 461, rfl⟩
abbrev main_call5_v2 : Ref sig .tc := ⟨.hbm, 462, rfl⟩
abbrev main_call5_v3 : Ref sig .tc := ⟨.hbm, 463, rfl⟩
abbrev main_call5_v4 : Ref sig .tc := ⟨.hbm, 464, rfl⟩
abbrev main_v304 : Ref sig .tc := ⟨.hbm, 465, rfl⟩
abbrev main_call6_v0 : Ref sig .tc := ⟨.hbm, 466, rfl⟩
abbrev main_call6_v1 : Ref sig .tc := ⟨.hbm, 467, rfl⟩
abbrev main_call6_v2 : Ref sig .tc := ⟨.hbm, 468, rfl⟩
abbrev main_call6_v3 : Ref sig .tc := ⟨.hbm, 469, rfl⟩
abbrev main_call6_v4 : Ref sig .tc := ⟨.hbm, 470, rfl⟩
abbrev main_v305 : Ref sig .tc := ⟨.hbm, 471, rfl⟩
abbrev main_v306 : Ref sig .tc := ⟨.hbm, 472, rfl⟩
abbrev main_call7_v0 : Ref sig .tc := ⟨.hbm, 473, rfl⟩
abbrev main_call7_v1 : Ref sig .tc := ⟨.hbm, 474, rfl⟩
abbrev main_call7_v2 : Ref sig .tc := ⟨.hbm, 475, rfl⟩
abbrev main_call7_v3 : Ref sig .tc := ⟨.hbm, 476, rfl⟩
abbrev main_call7_v4 : Ref sig .tc := ⟨.hbm, 477, rfl⟩
abbrev main_v307 : Ref sig .tc := ⟨.hbm, 478, rfl⟩
abbrev main_call8_v0 : Ref sig .tc := ⟨.hbm, 479, rfl⟩
abbrev main_call8_v1 : Ref sig .tc := ⟨.hbm, 480, rfl⟩
abbrev main_call8_v2 : Ref sig .tc := ⟨.hbm, 481, rfl⟩
abbrev main_call8_v3 : Ref sig .tc := ⟨.hbm, 482, rfl⟩
abbrev main_call8_v4 : Ref sig .tc := ⟨.hbm, 483, rfl⟩
abbrev main_v308 : Ref sig .tc := ⟨.hbm, 484, rfl⟩
abbrev main_v309 : Ref sig .tc := ⟨.hbm, 485, rfl⟩
abbrev main_v310 : Ref sig .tc := ⟨.hbm, 486, rfl⟩
abbrev main_v311 : Ref sig .tc := ⟨.hbm, 487, rfl⟩
abbrev main_v312 : Ref sig .tc := ⟨.hbm, 488, rfl⟩
abbrev main_v313 : Ref sig .tc := ⟨.hbm, 489, rfl⟩
abbrev main_v314 : Ref sig .tc := ⟨.hbm, 490, rfl⟩
abbrev main_v315 : Ref sig .tc := ⟨.hbm, 491, rfl⟩
abbrev main_cst_28 : Ref sig .tc := ⟨.hbm, 492, rfl⟩
abbrev main_v316 : Ref sig .tc := ⟨.hbm, 493, rfl⟩
abbrev main_v317 : Ref sig .tc := ⟨.hbm, 494, rfl⟩
abbrev main_v318 : Ref sig .tc := ⟨.hbm, 495, rfl⟩
abbrev main_v319 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_29 : Ref sig .tc := ⟨.hbm, 500, rfl⟩
abbrev main_call9_v0 : Ref sig .tc := ⟨.hbm, 501, rfl⟩
abbrev main_call9_v1 : Ref sig .tc := ⟨.hbm, 502, rfl⟩
abbrev main_call9_v2 : Ref sig .tc := ⟨.hbm, 503, rfl⟩
abbrev main_call9_cst : Ref sig .tc := ⟨.hbm, 504, rfl⟩
abbrev main_call9_v3 : Ref sig .tc := ⟨.hbm, 505, rfl⟩
abbrev main_call9_v4 : Ref sig .tc := ⟨.hbm, 506, rfl⟩
abbrev main_call9_cst_0 : Ref sig .tc := ⟨.hbm, 507, rfl⟩
abbrev main_call9_v5 : Ref sig .tc := ⟨.hbm, 508, rfl⟩
abbrev main_call9_v6 : Ref sig .tc := ⟨.hbm, 509, rfl⟩
abbrev main_call9_cst_1 : Ref sig .tc := ⟨.hbm, 510, rfl⟩
abbrev main_call9_v7 : Ref sig .tc := ⟨.hbm, 511, rfl⟩
abbrev main_call9_v8 : Ref sig .tc := ⟨.hbm, 512, rfl⟩
abbrev main_call9_v9 : Ref sig .tc := ⟨.hbm, 513, rfl⟩
abbrev main_call9_v10 : Ref sig .tc := ⟨.hbm, 514, rfl⟩
abbrev main_call9_v11 : Ref sig .tc := ⟨.hbm, 515, rfl⟩
abbrev main_call9_v12 : Ref sig .tc := ⟨.hbm, 516, rfl⟩
abbrev main_v323 : Ref sig .tc := ⟨.hbm, 517, rfl⟩
abbrev main_v324 : Ref sig .tc := ⟨.hbm, 518, rfl⟩
abbrev main_v325 : Ref sig .tc := ⟨.hbm, 519, rfl⟩
abbrev main_v326 : Ref sig .tc := ⟨.hbm, 520, rfl⟩
abbrev main_v327 : Ref sig .tc := ⟨.hbm, 521, rfl⟩
abbrev main_v328 : Ref sig .tc := ⟨.hbm, 522, rfl⟩
abbrev main_cst_30 : Ref sig .tc := ⟨.hbm, 523, rfl⟩
abbrev main_v329 : Ref sig .tc := ⟨.hbm, 524, rfl⟩
abbrev main_v330 : Ref sig .tc := ⟨.hbm, 525, rfl⟩
abbrev main_v331 : Ref sig .tc := ⟨.hbm, 526, rfl⟩
abbrev main_v332 : Ref sig .tc := ⟨.hbm, 527, rfl⟩
abbrev main_v333 : Ref sig .tc := ⟨.hbm, 528, rfl⟩
abbrev main_v334 : Ref sig .tc := ⟨.hbm, 529, rfl⟩
abbrev main_v335 : Ref sig .tc := ⟨.hbm, 530, rfl⟩
abbrev main_v336 : Ref sig .tc := ⟨.hbm, 531, rfl⟩
abbrev main_v337 : Ref sig .tc := ⟨.hbm, 532, rfl⟩
abbrev main_v338 : Ref sig .tc := ⟨.hbm, 533, rfl⟩
abbrev main_v339 : Ref sig .tc := ⟨.hbm, 534, rfl⟩
abbrev main_v340 : Ref sig .tc := ⟨.hbm, 535, rfl⟩
abbrev main_v341 : Ref sig .tc := ⟨.hbm, 536, rfl⟩
abbrev main_cst_31 : Ref sig .tc := ⟨.hbm, 537, rfl⟩
abbrev main_v342 : Ref sig .tc := ⟨.hbm, 538, rfl⟩
abbrev main_v343 : Ref sig .tc := ⟨.hbm, 539, rfl⟩
abbrev main_v344 : Ref sig .tc := ⟨.hbm, 540, rfl⟩
abbrev main_v345 : Ref sig .tc := ⟨.hbm, 541, rfl⟩
abbrev main_v346 : Ref sig .tc := ⟨.hbm, 542, rfl⟩
abbrev main_v347 : Ref sig .tc := ⟨.hbm, 543, rfl⟩
abbrev main_v348 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_v352 : Ref sig .tc := ⟨.hbm, 548, rfl⟩
abbrev main_cst_32 : Ref sig .tc := ⟨.hbm, 549, rfl⟩
abbrev main_v353 : Ref sig .tc := ⟨.hbm, 550, rfl⟩
abbrev main_cst_33 : Ref sig .tc := ⟨.hbm, 551, rfl⟩
abbrev main_v354 : Ref sig .tc := ⟨.hbm, 552, rfl⟩
abbrev main_v355 : Ref sig .tc := ⟨.hbm, 553, rfl⟩
abbrev main_v356 : Ref sig .tc := ⟨.hbm, 554, rfl⟩
abbrev main_cst_34 : Ref sig .tc := ⟨.hbm, 555, rfl⟩
abbrev main_v357 : Ref sig .tc := ⟨.hbm, 556, rfl⟩
abbrev main_v358 : Ref sig .tc := ⟨.hbm, 557, rfl⟩
abbrev main_cst_35 : Ref sig .tc := ⟨.hbm, 558, rfl⟩
abbrev main_v359 : Ref sig .tc := ⟨.hbm, 559, rfl⟩
abbrev main_v360 : Ref sig .tc := ⟨.hbm, 560, rfl⟩
abbrev main_cst_36 : Ref sig .tc := ⟨.hbm, 561, rfl⟩
abbrev main_v361 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_c_37 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_v368 : Ref sig .tc := ⟨.hbm, 570, rfl⟩
abbrev main_v369 : Ref sig .tc := ⟨.hbm, 571, rfl⟩
abbrev main_v370 : Ref sig .tc := ⟨.hbm, 572, rfl⟩
abbrev main_v371 : Ref sig .tc := ⟨.hbm, 573, rfl⟩
abbrev main_v372 : Ref sig .tc := ⟨.hbm, 574, rfl⟩
abbrev main_v373 : Ref sig .tc := ⟨.hbm, 575, rfl⟩
abbrev main_v374 : Ref sig .tc := ⟨.hbm, 576, rfl⟩
abbrev main_v375 : Ref sig .tc := ⟨.hbm, 577, rfl⟩

abbrev nD : Nat := 1
abbrev τ : Topo := Topo.v7x

variable {F : FTy → Type} [FloatOps F]
-- ==== Proof.KernelRun.lean ====
/- The kernel's body, run once at a symbolic grid point from any contents of its scratch buffers. -/
module

public import proofs.«01_k».proof.Proof.Gen.KernelIdeal.Frame
public import proofs.«01_k».proof.Proof.Gen.KernelIdeal.Loops

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body's run: the inputs' buffers at `x0 … x22`, the scratch at any contents `fs0 … fs3`; it ends with the inputs
    as they were, the scratch at some contents, and the output's buffer at the run's own term. -/
def run (c : Dev nD) (i : grid0.Coords) (arg1 : Memref sig .tc .vmem S1x512x128 .f32) (harg1 : arg1.IsWhole) (arg2 : Memref sig .tc .vmem S1x3x3 .f32) (harg2 : arg2.IsWhole) (arg3 : Memref sig .tc .vmem S1x512x1 .f32) (harg3 : arg3.IsWhole) (arg4 : Memref sig .tc .vmem S1x512x1 .i32) (harg4 : arg4.IsWhole) (arg5 : Memref sig .tc .vmem S1x16384x1 .i32) (harg5 : arg5.IsWhole) (arg6 : Memref sig .tc .vmem S100x128 .f32) (harg6 : arg6.IsWhole) (arg7 : Memref sig .tc .vmem S3x128x128 .f32) (harg7 : arg7.IsWhole) (arg8 : Memref sig .tc .vmem S3x1x128 .f32) (harg8 : arg8.IsWhole) (arg9 : Memref sig .tc .vmem S3x128x128 .f32) (harg9 : arg9.IsWhole) (arg10 : Memref sig .tc .vmem S3x1x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S3x1x128 .f32) (harg13 : arg13.IsWhole) (arg14 : Memref sig .tc .vmem S3x128x128 .f32) (harg14 : arg14.IsWhole) (arg15 : Memref sig .tc .vmem S3x1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x1 .f32) (harg23 : arg23.IsWhole) (arg24 : Memref sig .tc .vmem S1x512x3 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S16384x128 .f32) (harg28 : arg28.IsWhole)
    (x0 : Vec F S1x512x128 .f32) (x1 : Vec F S1x3x3 .f32) (x2 : Vec F S1x512x1 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S1x128 .f32) (x22 : Vec F S1x1 .f32)
    (f23 : BufTy.Contents (Elt F) arg24.view.ty) (fs0 : BufTy.Contents (Elt F) arg25.view.ty) (fs1 : BufTy.Contents (Elt F) arg26.view.ty) (fs2 : BufTy.Contents (Elt F) arg27.view.ty) (fs3 : BufTy.Contents (Elt F) arg28.view.ty) :
    { y : Vec F S1x512x3 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (arg24.view.loc (c : Thread nD τ) ↦[arg24.view.set]{fullShare} f23) ∗ (arg25.view.loc (c : Thread nD τ) ↦[arg25.view.set]{fullShare} fs0) ∗ (arg26.view.loc (c : Thread nD τ) ↦[arg26.view.set]{fullShare} fs1) ∗ (arg27.view.loc (c : Thread nD τ) ↦[arg27.view.set]{fullShare} fs2) ∗ (arg28.view.loc (c : Thread nD τ) ↦[arg28.view.set]{fullShare} fs3)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare y ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
    refine ⟨?_, fun E K => ?run⟩
    case run =>
      simp only [cc0__body_eq_skeleton]; unfold cc0__body_skel
      simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, H23, HS0, HS1, HS2, HS3, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]
      · iexists _; isplitr; · ipureintro; exact harg21.read_unread _
        iexact H20
      isplitl [H21]
      · iexists _; isplitr; · ipureintro; exact harg22.read_unread _
        iexact H21
      isplitl [H22]
      · iexists _; isplitr; · ipureintro; exact harg23.read_unread _
        iexact H22
      isplitl [H23]
      · iexists _; isplitr; swap; · iexact H23
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      iexists _, _; isplitr; swap; · iexact HS3
      ipureintro; rfl

end Cert.Proof.KernelRun

end
-- ==== Proof.KernelValue.lean ====
/- What the kernel's body stores, as one closed function of the blocks it is handed: the loops' trips tile the two
   scratch arrays they write, so a later load reads the trips' values whatever the arrays held before. -/
module

public import proofs.«01_k».proof.Proof.KernelRun
public import Idealize.ShloMosaic.Lib.VecWindow
public import Idealize.ShloMosaic.Lib.Pointwise
public import Idealize.ShloMosaic.Lib.CellWrites

@[expose] public section

set_option maxRecDepth 16384

noncomputable section

namespace Cert.Proof.KernelRun

open Idealize.ShloMosaic Idealize.ShloMosaic.TcCoe Idealize.ShloMosaic.Tactic
open Cert.KernelIdeal Cert.KernelIdeal.Gen

/-! ### Arrays tiled by a loop's trips -/

section Tiled

variable {sig : RefSig} {κ : Kind} {sp : Space} {s : Shape} {e : EltTy} {Val : EltTy → Type}

/-- Writes whose every piece agrees with `G` leave `G` wherever some piece lies. -/
theorem read_writes_of_agree (v : View sig κ sp s e) (f : v.ty.Contents Val) (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      rw [View.read_writes_cons_emb]
      exact hG p List.mem_cons_self x
    · have hy' : y ∉ Finset.univ.map p.1.emb := by rwa [Rect.map_emb_univ]
      rw [View.writes_cons, View.read_slice_write_of_not_mem p.1 _ _ _ hy']
      refine read_writes_of_agree v f G y L (fun q hq => hG q (List.mem_cons_of_mem _ hq)) ?_
      obtain ⟨q, hq, hyq⟩ := h
      rcases List.mem_cons.mp hq with rfl | hq'
      · exact absurd hyq hy
      · exact ⟨q, hq', hyq⟩

/-- A loop whose trips each write one piece, the pieces agreeing with `G` and covering the array, leaves `G`. -/
theorem read_tiled (v : View sig κ sp s e) (f : v.ty.Contents Val) {T : ℕ} (pb : ℕ → List (View.Piece Val s e))
    (piece : Fin T → View.Piece Val s e) (h0 : pb 0 = []) (hs : ∀ k : Fin T, pb (k.val + 1) = [piece k] ++ pb k.val)
    (G : s.Idx → Val e) (hG : ∀ k x, (piece k).2 x = G ((piece k).1.emb x)) (hcov : ∀ y, ∃ k, y ∈ (piece k).1.set) :
    v.read Val (v.writes Val f (pb T)) = G := by
  have hall : ∀ n, n ≤ T → ∀ p, p ∈ pb n ↔ ∃ k : Fin T, k.val < n ∧ p = piece k := by
    intro n
    induction n with
    | zero => intro _ p; rw [h0]; exact ⟨fun h => absurd h List.not_mem_nil, fun ⟨k, hk, _⟩ => absurd hk (Nat.not_lt_zero _)⟩
    | succ n ih =>
      intro hn p
      rw [show n + 1 = (⟨n, hn⟩ : Fin T).val + 1 from rfl, hs ⟨n, hn⟩, List.mem_append, List.mem_singleton, ih (by omega)]
      constructor
      · rintro (h | ⟨k, hk, h⟩)
        · exact ⟨⟨n, hn⟩, Nat.lt_succ_self _, h⟩
        · exact ⟨k, Nat.lt_succ_of_lt hk, h⟩
      · rintro ⟨k, hk, h⟩
        rcases Nat.lt_succ_iff_lt_or_eq.mp hk with hk | hk
        · exact Or.inr ⟨k, hk, h⟩
        · exact Or.inl (h.trans (congrArg piece (Fin.ext hk)))
  funext y
  refine read_writes_of_agree v f G y _ (fun p hp x => ?_) ?_
  · obtain ⟨k, _, rfl⟩ := (hall T le_rfl p).mp hp
    exact hG k x
  · obtain ⟨k, hk⟩ := hcov y
    exact ⟨piece k, (hall T le_rfl _).mpr ⟨k, k.isLt, rfl⟩, hk⟩

end Tiled

variable {F : FTy → Type} [FloatOps F] [Named F]

/-! ### The parts of the inputs the body loads -/

/-- The neighbour numbers of a quarter of the edges. -/
def nbBlk (x4 : Vec F S1x16384x1 .i32) (b : Fin 4) : Vec F S1x4096x1 .i32 := fun y =>
  x4 (ix3 0 ⟨b.val * 4096 + (y 1).val, by have h : (y 1).val < 4096 := (y 1).isLt; omega⟩ 0)

/-- The positions of a quarter of the atoms. -/
def posBlk (x0 : Vec F S1x512x128 .f32) (b : Fin 4) : Vec F S1x128x128 .f32 := fun y =>
  x0 (ix3 0 ⟨b.val * 128 + (y 1).val, by have h : (y 1).val < 128 := (y 1).isLt; omega⟩ ⟨(y 2).val, (y 2).isLt⟩)

/-- The edge features of a quarter of the edges. -/
def edgeBlk (g : Vec F S16384x128 .f32) (b : Fin 4) : Vec F S4096x128 .f32 := fun y =>
  g (ix2 ⟨b.val * 4096 + (y 0).val, by have h : (y 0).val < 4096 := (y 0).isLt; omega⟩ ⟨(y 1).val, (y 1).isLt⟩)

/-- One layer's matrix. -/
def mat (x : Vec F S3x128x128 .f32) (l : Fin 3) : Vec F S1x128x128 .f32 := fun y =>
  x (ix3 l ⟨(y 1).val, (y 1).isLt⟩ ⟨(y 2).val, (y 2).isLt⟩)

/-- One layer's row. -/
def row (x : Vec F S3x1x128 .f32) (l : Fin 3) : Vec F S1x1x128 .f32 := fun y => x (ix3 l 0 ⟨(y 2).val, (y 2).isLt⟩)

/-- One entry of the cell. -/
def entry (x : Vec F S1x3x3 .f32) (r k : Fin 3) : Vec F S1x1x1 .f32 := fun _ => x (ix3 0 r k)

/-! ### The body's values -/

/-- The edge features a trip of the first loop stores. -/
def edgePart (x0 : Vec F S1x512x128 .f32) (x4 : Vec F S1x16384x1 .i32) (x21 : Vec F S1x128 .f32) (x22 : Vec F S1x1 .f32)
    (b : Fin 4) : FVec F S4096x128 .f32 :=
  k0_pay24 x21 x22
    (k0_pay2 (iota .tc S4096x512 32 [1] iota_S4096x512_d1_w32)
      (k0_pay17 (iota .tc S4096x128 32 [0] iota_S4096x128_d0_w32) (iota .tc S4096x128 32 [1] iota_S4096x128_d1_w32)
        32#32 k0_pay15 k0_pay16)
      (k0_pay21 (k0_pay13 x0)) (k0_pay22 (k0_pay13 x0)) (k0_pay23 (k0_pay13 x0)) (nbBlk x4 b) (posBlk x0 b))
    k0_pay3

/-- The edge features of every edge. -/
def edges (x0 : Vec F S1x512x128 .f32) (x4 : Vec F S1x16384x1 .i32) (x21 : Vec F S1x128 .f32) (x22 : Vec F S1x1 .f32) :
    Vec F S16384x128 .f32 := fun y =>
  edgePart x0 x4 x21 x22 ⟨(y 0).val / 4096, by have h : (y 0).val < 16384 := (y 0).isLt; omega⟩
    (ix2 ⟨(y 0).val % 4096, by omega⟩ ⟨(y 1).val, (y 1).isLt⟩)

/-- The summed messages a trip of a layer's loop stores. -/
def aggPart (x4 : Vec F S1x16384x1 .i32) (g : Vec F S16384x128 .f32) (w1 : Vec F S1x128x128 .f32) (b1 : Vec F S1x1x128 .f32)
    (w2 : Vec F S1x128x128 .f32) (b2 : Vec F S1x1x128 .f32) (h : Vec F S512x128 .f32) (b : Fin 4) : FVec F S128x128 .f32 :=
  k0_pay33 (k0_pay4 (iota .tc S4096x512 32 [1] iota_S4096x512_d1_w32) (k0_pay30 h) (k0_pay31 h) (k0_pay32 h) (nbBlk x4 b))
    (k0_pay5 (edgeBlk g b)) (k0_pay6 (edgeBlk g b) w1 b1) w2 b2

/-- The summed messages of every atom. -/
def agg (x4 : Vec F S1x16384x1 .i32) (g : Vec F S16384x128 .f32) (w1 : Vec F S1x128x128 .f32) (b1 : Vec F S1x1x128 .f32)
    (w2 : Vec F S1x128x128 .f32) (b2 : Vec F S1x1x128 .f32) (h : Vec F S512x128 .f32) : Vec F S512x128 .f32 := fun y =>
  aggPart x4 g w1 b1 w2 b2 h ⟨(y 0).val / 128, by have h : (y 0).val < 512 := (y 0).isLt; omega⟩
    (ix2 ⟨(y 0).val % 128, by omega⟩ ⟨(y 1).val, (y 1).isLt⟩)

/-- An interaction layer. -/
def layerV (x4 : Vec F S1x16384x1 .i32) (g : Vec F S16384x128 .f32) (x6 : Vec F S3x128x128 .f32) (x7 : Vec F S3x1x128 .f32)
    (x8 : Vec F S3x128x128 .f32) (x9 : Vec F S3x1x128 .f32) (x10 x11 : Vec F S3x128x128 .f32) (x12 : Vec F S3x1x128 .f32)
    (x13 : Vec F S3x128x128 .f32) (x14 : Vec F S3x1x128 .f32) (l : Fin 3) (z : Vec F S512x128 .f32) : Vec F S512x128 .f32 :=
  k0_pay36 (k0_pay34 (agg x4 g (mat x6 l) (row x7 l) (mat x8 l) (row x9 l) (k0_pay26 (k0_pay25 z (mat x10 l)))) (mat x11 l) (row x12 l))
    (k0_pay35 (mat x13 l)) (row x14 l) z

/-! ### The loads -/

section Loads

variable {sig' : RefSig} {κ : Kind} {sp : Space}

theorem readAt_whole {s : Shape} {e : EltTy} {m : Memref sig' κ sp s e} (h : m.IsWhole) (x : s.Idx → Elt F e)
    {off : Fin s.rank → ℕ} (inb : ∀ a, off a + s.size a ≤ s.size a) :
    m.view.readAt (Elt F) (Rect.unit off s.size inb).toLoadRect (h.unread x) = x := by
  rw [View.readAt_full, h.read_unread]

theorem readAt_mat {m : Memref sig' κ sp S3x128x128 .f32} (h : m.IsWhole) (x : Vec F S3x128x128 .f32) (l : Fin 3)
    (inb : ∀ a, (![l.val, 0, 0] : Fin 3 → ℕ) a + S1x128x128.size a ≤ S3x128x128.size a) :
    m.view.readAt (Elt F) (Rect.unit (s := S3x128x128) ![l.val, 0, 0] S1x128x128.size inb).toLoadRect (h.unread x) = mat x l := by
  funext y
  show m.view.read (Elt F) (h.unread x) _ = _
  rw [h.read_unread]
  refine congrArg x (funext fun a => Fin.ext ?_)
  have h0 : (y 0).val < 1 := (y 0).isLt
  fin_cases a
  · show l.val + 1 * (y 0).val = l.val; omega
  · show 0 + 1 * (y 1).val = (y 1).val; omega
  · show 0 + 1 * (y 2).val = (y 2).val; omega

theorem readAt_row {m : Memref sig' κ sp S3x1x128 .f32} (h : m.IsWhole) (x : Vec F S3x1x128 .f32) (l : Fin 3)
    (inb : ∀ a, (![l.val, 0, 0] : Fin 3 → ℕ) a + S1x1x128.size a ≤ S3x1x128.size a) :
    m.view.readAt (Elt F) (Rect.unit (s := S3x1x128) ![l.val, 0, 0] S1x1x128.size inb).toLoadRect (h.unread x) = row x l := by
  funext y
  show m.view.read (Elt F) (h.unread x) _ = _
  rw [h.read_unread]
  refine congrArg x (funext fun a => Fin.ext ?_)
  have h0 : (y 0).val < 1 := (y 0).isLt
  have h1 : (y 1).val < 1 := (y 1).isLt
  fin_cases a
  · show l.val + 1 * (y 0).val = l.val; omega
  · show 0 + 1 * (y 1).val = 0; omega
  · show 0 + 1 * (y 2).val = (y 2).val; omega

theorem readAt_entry {m : Memref sig' κ sp S1x3x3 .f32} (h : m.IsWhole) (x : Vec F S1x3x3 .f32) (r k : Fin 3)
    (inb : ∀ a, (![0, r.val, k.val] : Fin 3 → ℕ) a + S1x1x1.size a ≤ S1x3x3.size a) :
    m.view.readAt (Elt F) (Rect.unit (s := S1x3x3) ![0, r.val, k.val] S1x1x1.size inb).toLoadRect (h.unread x) = entry x r k := by
  funext y
  show m.view.read (Elt F) (h.unread x) _ = _
  rw [h.read_unread]
  refine congrArg x (funext fun a => Fin.ext ?_)
  have h0 : (y 0).val < 1 := (y 0).isLt
  have h1 : (y 1).val < 1 := (y 1).isLt
  have h2 : (y 2).val < 1 := (y 2).isLt
  fin_cases a
  · show 0 + 1 * (y 0).val = 0; omega
  · show r.val + 1 * (y 1).val = r.val; omega
  · show k.val + 1 * (y 2).val = k.val; omega

theorem readAt_nb {m : Memref sig' κ sp S1x16384x1 .i32} (h : m.IsWhole) (x : Vec F S1x16384x1 .i32) (b : Fin 4)
    {off : Fin 3 → ℕ} (ho : off = ![0, 4096 * b.val, 0]) (inb : ∀ a, off a + S1x4096x1.size a ≤ S1x16384x1.size a) :
    m.view.readAt (Elt F) (Rect.unit (s := S1x16384x1) off S1x4096x1.size inb).toLoadRect (h.unread x) = nbBlk x b := by
  subst ho
  funext y
  show m.view.read (Elt F) (h.unread x) _ = _
  rw [h.read_unread]
  refine congrArg x (funext fun a => Fin.ext ?_)
  have h0 : (y 0).val < 1 := (y 0).isLt
  have h2 : (y 2).val < 1 := (y 2).isLt
  fin_cases a
  · show 0 + 1 * (y 0).val = 0; omega
  · show 4096 * b.val + 1 * (y 1).val = b.val * 4096 + (y 1).val; omega
  · show 0 + 1 * (y 2).val = 0; omega

theorem readAt_pos {m : Memref sig' κ sp S1x512x128 .f32} (h : m.IsWhole) (x : Vec F S1x512x128 .f32) (b : Fin 4)
    {off : Fin 3 → ℕ} (ho : off = ![0, 128 * b.val, 0]) (inb : ∀ a, off a + S1x128x128.size a ≤ S1x512x128.size a) :
    m.view.readAt (Elt F) (Rect.unit (s := S1x512x128) off S1x128x128.size inb).toLoadRect (h.unread x) = posBlk x b := by
  subst ho
  funext y
  show m.view.read (Elt F) (h.unread x) _ = _
  rw [h.read_unread]
  refine congrArg x (funext fun a => Fin.ext ?_)
  have h0 : (y 0).val < 1 := (y 0).isLt
  fin_cases a
  · show 0 + 1 * (y 0).val = 0; omega
  · show 128 * b.val + 1 * (y 1).val = b.val * 128 + (y 1).val; omega
  · show 0 + 1 * (y 2).val = (y 2).val; omega

theorem readAt_edge (m : Memref sig' κ sp S16384x128 .f32) (g : BufTy.Contents (Elt F) m.view.ty) (b : Fin 4)
    {off : Fin 2 → ℕ} (ho : off = ![4096 * b.val, 0]) (inb : ∀ a, off a + S4096x128.size a ≤ S16384x128.size a) :
    m.view.readAt (Elt F) (Rect.unit (s := S16384x128) off S4096x128.size inb).toLoadRect g = edgeBlk (m.view.read (Elt F) g) b := by
  subst ho
  funext y
  show m.view.read (Elt F) g _ = m.view.read (Elt F) g _
  refine congrArg (m.view.read (Elt F) g) (funext fun a => Fin.ext ?_)
  fin_cases a
  · show 4096 * b.val + 1 * (y 0).val = b.val * 4096 + (y 0).val; omega
  · show 0 + 1 * (y 1).val = (y 1).val; omega

/-- Rows of a scratch array stored quarter by quarter. -/
theorem read_quarters {N R : ℕ} (hN : N = 4 * R) (hR : 0 < R) (v : View sig' κ sp (⟨2, ![N, 128]⟩ : Shape) .f32)
    (f : v.ty.Contents (Elt F)) {T : ℕ} (hT : T = 4)
    (pb : ℕ → List (View.Piece (Elt F) (⟨2, ![N, 128]⟩ : Shape) .f32)) (off : Fin T → Fin 2 → ℕ)
    (inb : ∀ k a, off k a + (![R, 128] : Fin 2 → ℕ) a ≤ (⟨2, ![N, 128]⟩ : Shape).size a)
    (ho : ∀ k : Fin T, off k = ![R * k.val, 0]) (w : Fin 4 → (⟨2, ![R, 128]⟩ : Shape).Idx → Elt F .f32)
    (h0 : pb 0 = []) (hs : ∀ k : Fin T, pb (k.val + 1) = [⟨Rect.unit (off k) ![R, 128] (inb k), w (k.cast hT)⟩] ++ pb k.val)
    (G : (⟨2, ![N, 128]⟩ : Shape).Idx → Elt F .f32)
    (hG : ∀ (b : Fin 4) (r : Fin R) (f : Fin 128), w b (ix2 r f) = G (ix2 ⟨R * b.val + r.val, by
      have := r.isLt; have := b.isLt; rw [hN]; nlinarith⟩ f)) :
    v.read (Elt F) (v.writes (Elt F) f (pb T)) = G := by
  refine read_tiled v f pb (fun k => ⟨Rect.unit (off k) ![R, 128] (inb k), w (k.cast hT)⟩) h0 hs G (fun k x => ?_) fun y => ?_
  · have hx : x = ix2 ⟨(x 0).val, (x 0).isLt⟩ ⟨(x 1).val, (x 1).isLt⟩ := by
      funext a; fin_cases a <;> rfl
    refine (congrArg (w (k.cast hT)) hx).trans ((hG (k.cast hT) _ _).trans (congrArg G (funext fun a => Fin.ext ?_)))
    have e0 : off k 0 = R * k.val := by rw [ho]; rfl
    have e1 : off k 1 = 0 := by rw [ho]; rfl
    fin_cases a
    · show R * k.val + (x 0).val = off k 0 + 1 * (x 0).val
      omega
    · show (x 1).val = off k 1 + 1 * (x 1).val
      omega
  · have h0 : (y 0).val < N := (y 0).isLt
    have h1 : (y 1).val < 128 := (y 1).isLt
    have hk : (y 0).val / R < 4 := Nat.div_lt_of_lt_mul (by rw [← Nat.mul_comm 4 R, ← hN]; exact h0)
    refine ⟨⟨(y 0).val / R, by omega⟩, ?_⟩
    rw [Rect.mem_set_unit]
    have e := ho ⟨(y 0).val / R, by omega⟩
    have hd := Nat.div_add_mod (y 0).val R
    have hm := Nat.mod_lt (y 0).val hR
    intro a
    rw [e]
    fin_cases a
    · show R * ((y 0).val / R) ≤ (y 0).val ∧ (y 0).val < R * ((y 0).val / R) + R
      omega
    · show 0 ≤ (y 1).val ∧ (y 1).val < 0 + 128
      omega

end Loads

section Body

variable (c : Dev nD) (i : grid0.Coords) (arg1 : Memref sig .tc .vmem S1x512x128 .f32) (harg1 : arg1.IsWhole) (arg2 : Memref sig .tc .vmem S1x3x3 .f32) (harg2 : arg2.IsWhole) (arg3 : Memref sig .tc .vmem S1x512x1 .f32) (harg3 : arg3.IsWhole) (arg4 : Memref sig .tc .vmem S1x512x1 .i32) (harg4 : arg4.IsWhole) (arg5 : Memref sig .tc .vmem S1x16384x1 .i32) (harg5 : arg5.IsWhole) (arg6 : Memref sig .tc .vmem S100x128 .f32) (harg6 : arg6.IsWhole) (arg7 : Memref sig .tc .vmem S3x128x128 .f32) (harg7 : arg7.IsWhole) (arg8 : Memref sig .tc .vmem S3x1x128 .f32) (harg8 : arg8.IsWhole) (arg9 : Memref sig .tc .vmem S3x128x128 .f32) (harg9 : arg9.IsWhole) (arg10 : Memref sig .tc .vmem S3x1x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S3x1x128 .f32) (harg13 : arg13.IsWhole) (arg14 : Memref sig .tc .vmem S3x128x128 .f32) (harg14 : arg14.IsWhole) (arg15 : Memref sig .tc .vmem S3x1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x1 .f32) (harg23 : arg23.IsWhole) (arg24 : Memref sig .tc .vmem S1x512x3 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S16384x128 .f32) (harg28 : arg28.IsWhole)

/-! ### The loops -/

theorem edges_read (x0 : Vec F S1x512x128 .f32) (x4 : Vec F S1x16384x1 .i32) (x21 : Vec F S1x128 .f32) (x22 : Vec F S1x1 .f32)
    (f : BufTy.Contents (Elt F) arg28.view.ty) :
    arg28.view.read (Elt F) (arg28.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (k0_pay13 x0)
        (iota .tc S4096x512 32 [1] iota_S4096x512_d1_w32) (iota .tc S4096x128 32 [0] iota_S4096x128_d0_w32)
        (iota .tc S4096x128 32 [1] iota_S4096x128_d1_w32) 32#32 k0_pay15 k0_pay16 x21 x22 (harg1.unread x0) (harg5.unread x4)
        k0_t1_loop.trips)) = edges x0 x4 x21 x22 := by
  refine read_quarters (N := 16384) (R := 4096) rfl (by norm_num) arg28.view f (T := k0_t1_loop.trips) (by decide +kernel)
    (fun n => pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (k0_pay13 x0)
        (iota .tc S4096x512 32 [1] iota_S4096x512_d1_w32) (iota .tc S4096x128 32 [0] iota_S4096x128_d0_w32)
        (iota .tc S4096x128 32 [1] iota_S4096x128_d1_w32) 32#32 k0_pay15 k0_pay16 x21 x22 (harg1.unread x0) (harg5.unread x4) n)
    k0_off3 k0_off3_inb k0_off3_eq (edgePart x0 x4 x21 x22) rfl (fun k => ?_) (edges x0 x4 x21 x22) fun b r f => ?_
  · refine (pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ _ _ k).trans (congrArg (· ++ _) ?_)
    unfold tripL_k0_t1 trip_k0_t1
    show [(⟨Rect.unit (s := S16384x128) (k0_off3 k) S4096x128.size (k0_off3_inb k), k0_pay24 x21 x22 (k0_pay2 _ _ _ _ _ (arg5.view.readAt (Elt F) (Rect.unit (s := S1x16384x1) (k0_off1 k) S1x4096x1.size (k0_off1_inb k)).toLoadRect _)
      (arg1.view.readAt (Elt F) (Rect.unit (s := S1x512x128) (k0_off2 k) S1x128x128.size (k0_off2_inb k)).toLoadRect _)) _⟩ : View.Piece (Elt F) S16384x128 .f32)] = _
    rw [readAt_nb harg5 x4 (k.cast (by decide +kernel)) (k0_off1_eq k), readAt_pos harg1 x0 (k.cast (by decide +kernel)) (k0_off2_eq k)]
    rfl
  · unfold edges
    have hr : r.val < 4096 := r.isLt
    have hd : (4096 * b.val + r.val) / 4096 = b.val := by omega
    have hm : (4096 * b.val + r.val) % 4096 = r.val := by omega
    refine congr (congrArg (edgePart x0 x4 x21 x22) (Fin.ext hd.symm)) (congrArg (fun q => ix2 q f) (Fin.ext hm.symm))

theorem agg_read0 (x4 : Vec F S1x16384x1 .i32) (x6 : Vec F S3x128x128 .f32) (x7 : Vec F S3x1x128 .f32) (x8 : Vec F S3x128x128 .f32)
    (x9 : Vec F S3x1x128 .f32) (v85 : FVec F S512x128 .f32) (h : Vec F S512x128 .f32) (g : BufTy.Contents (Elt F) arg28.view.ty)
    (f : BufTy.Contents (Elt F) arg27.view.ty) :
    arg27.view.read (Elt F) (arg27.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v85 h (harg5.unread x4) (harg7.unread x6) (harg8.unread x7)
        (harg9.unread x8) (harg10.unread x9) g k0_t2_loop.trips))
      = agg x4 (arg28.view.read (Elt F) g) (mat x6 0) (row x7 0) (mat x8 0) (row x9 0) h := by
  refine read_quarters (N := 512) (R := 128) rfl (by norm_num) arg27.view f (T := k0_t2_loop.trips) (by decide +kernel)
    (fun n => pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v85 h (harg5.unread x4) (harg7.unread x6) (harg8.unread x7)
        (harg9.unread x8) (harg10.unread x9) g n)
    k0_off6 k0_off6_inb k0_off6_eq
    (aggPart x4 (arg28.view.read (Elt F) g) (mat x6 0) (row x7 0) (mat x8 0) (row x9 0) h) rfl (fun k => ?_)
    (agg x4 (arg28.view.read (Elt F) g) (mat x6 0) (row x7 0) (mat x8 0) (row x9 0) h) fun b r f => ?_
  · refine (pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ k).trans (congrArg (· ++ _) ?_)
    unfold tripL_k0_t2 trip_k0_t2
    show [(⟨Rect.unit (s := S512x128) (k0_off6 k) S128x128.size (k0_off6_inb k), k0_pay33 (k0_pay4 _ _ _ _ (arg5.view.readAt (Elt F) (Rect.unit (s := S1x16384x1) (k0_off4 k) S1x4096x1.size (k0_off4_inb k)).toLoadRect _))
      (k0_pay5 (arg28.view.readAt (Elt F) (Rect.unit (s := S16384x128) (k0_off5 k) S4096x128.size (k0_off5_inb k)).toLoadRect g))
      (k0_pay6 (arg28.view.readAt (Elt F) (Rect.unit (s := S16384x128) (k0_off5 k) S4096x128.size (k0_off5_inb k)).toLoadRect g)
        (arg7.view.readAt (Elt F) (Rect.unit (s := S3x128x128) ![(0 : Fin 3).val, 0, 0] S1x128x128.size inb_S3x128x128_S1x128x128_0_0_0).toLoadRect _)
        (arg8.view.readAt (Elt F) (Rect.unit (s := S3x1x128) ![(0 : Fin 3).val, 0, 0] S1x1x128.size inb_S3x1x128_S1x1x128_0_0_0).toLoadRect _))
      (arg9.view.readAt (Elt F) (Rect.unit (s := S3x128x128) ![(0 : Fin 3).val, 0, 0] S1x128x128.size inb_S3x128x128_S1x128x128_0_0_0).toLoadRect _)
      (arg10.view.readAt (Elt F) (Rect.unit (s := S3x1x128) ![(0 : Fin 3).val, 0, 0] S1x1x128.size inb_S3x1x128_S1x1x128_0_0_0).toLoadRect _)⟩
        : View.Piece (Elt F) S512x128 .f32)] = _
    rw [readAt_nb harg5 x4 (k.cast (by decide +kernel)) (k0_off4_eq k), readAt_edge arg28 g (k.cast (by decide +kernel)) (k0_off5_eq k),
      readAt_mat harg7 x6 0, readAt_row harg8 x7 0, readAt_mat harg9 x8 0, readAt_row harg10 x9 0]
    rfl
  · unfold agg
    have hr : r.val < 128 := r.isLt
    have hd : (128 * b.val + r.val) / 128 = b.val := by omega
    have hm : (128 * b.val + r.val) % 128 = r.val := by omega
    refine congr (congrArg (aggPart x4 (arg28.view.read (Elt F) g) (mat x6 0) (row x7 0) (mat x8 0) (row x9 0) h) (Fin.ext hd.symm))
      (congrArg (fun q => ix2 q f) (Fin.ext hm.symm))

theorem agg_read1 (x4 : Vec F S1x16384x1 .i32) (x6 : Vec F S3x128x128 .f32) (x7 : Vec F S3x1x128 .f32) (x8 : Vec F S3x128x128 .f32)
    (x9 : Vec F S3x1x128 .f32) (v121 : FVec F S512x128 .f32) (v123 : FVec F S128x128 .f32) (h : Vec F S512x128 .f32) (g : BufTy.Contents (Elt F) arg28.view.ty)
    (f : BufTy.Contents (Elt F) arg27.view.ty) :
    arg27.view.read (Elt F) (arg27.view.writes (Elt F) f (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v121 v123 h (harg5.unread x4) (harg7.unread x6) (harg8.unread x7)
        (harg9.unread x8) (harg10.unread x9) g k0_t3_loop.trips))
      = agg x4 (arg28.view.read (Elt F) g) (mat x6 1) (row x7 1) (mat x8 1) (row x9 1) h := by
  refine read_quarters (N := 512) (R := 128) rfl (by norm_num) arg27.view f (T := k0_t3_loop.trips) (by decide +kernel)
    (fun n => pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v121 v123 h (harg5.unread x4) (harg7.unread x6) (harg8.unread x7)
        (harg9.unread x8) (harg10.unread x9) g n)
    k0_off9 k0_off9_inb k0_off9_eq
    (aggPart x4 (arg28.view.read (Elt F) g) (mat x6 1) (row x7 1) (mat x8 1) (row x9 1) h) rfl (fun k => ?_)
    (agg x4 (arg28.view.read (Elt F) g) (mat x6 1) (row x7 1) (mat x8 1) (row x9 1) h) fun b r f => ?_
  · refine (pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ _ k).trans (congrArg (· ++ _) ?_)
    unfold tripL_k0_t3 trip_k0_t3
    show [(⟨Rect.unit (s := S512x128) (k0_off9 k) S128x128.size (k0_off9_inb k), k0_pay44 (k0_pay7 _ _ _ _ (arg5.view.readAt (Elt F) (Rect.unit (s := S1x16384x1) (k0_off7 k) S1x4096x1.size (k0_off7_inb k)).toLoadRect _))
      (k0_pay8 (arg28.view.readAt (Elt F) (Rect.unit (s := S16384x128) (k0_off8 k) S4096x128.size (k0_off8_inb k)).toLoadRect g))
      (k0_pay9 (arg28.view.readAt (Elt F) (Rect.unit (s := S16384x128) (k0_off8 k) S4096x128.size (k0_off8_inb k)).toLoadRect g)
        (arg7.view.readAt (Elt F) (Rect.unit (s := S3x128x128) ![(1 : Fin 3).val, 0, 0] S1x128x128.size inb_S3x128x128_S1x128x128_1_0_0).toLoadRect _)
        (arg8.view.readAt (Elt F) (Rect.unit (s := S3x1x128) ![(1 : Fin 3).val, 0, 0] S1x1x128.size inb_S3x1x128_S1x1x128_1_0_0).toLoadRect _))
      (arg9.view.readAt (Elt F) (Rect.unit (s := S3x128x128) ![(1 : Fin 3).val, 0, 0] S1x128x128.size inb_S3x128x128_S1x128x128_1_0_0).toLoadRect _)
      (arg10.view.readAt (Elt F) (Rect.unit (s := S3x1x128) ![(1 : Fin 3).val, 0, 0] S1x1x128.size inb_S3x1x128_S1x1x128_1_0_0).toLoadRect _)⟩
        : View.Piece (Elt F) S512x128 .f32)] = _
    rw [readAt_nb harg5 x4 (k.cast (by decide +kernel)) (k0_off7_eq k), readAt_edge arg28 g (k.cast (by decide +kernel)) (k0_off8_eq k),
      readAt_mat harg7 x6 1, readAt_row harg8 x7 1, readAt_mat harg9 x8 1, readAt_row harg10 x9 1]
    rfl
  · unfold agg
    have hr : r.val < 128 := r.isLt
    have hd : (128 * b.val + r.val) / 128 = b.val := by omega
    have hm : (128 * b.val + r.val) % 128 = r.val := by omega
    refine congr (congrArg (aggPart x4 (arg28.view.read (Elt F) g) (mat x6 1) (row x7 1) (mat x8 1) (row x9 1) h) (Fin.ext hd.symm))
      (congrArg (fun q => ix2 q f) (Fin.ext hm.symm))

theorem agg_read2 (x4 : Vec F S1x16384x1 .i32) (x6 : Vec F S3x128x128 .f32) (x7 : Vec F S3x1x128 .f32) (x8 : Vec F S3x128x128 .f32)
    (x9 : Vec F S3x1x128 .f32) (v189 : FVec F S512x128 .f32) (h : Vec F S512x128 .f32) (g : BufTy.Contents (Elt F) arg28.view.ty)
    (f : BufTy.Contents (Elt F) arg27.view.ty) :
    arg27.view.read (Elt F) (arg27.view.writes (Elt F) f (pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v189 h (harg5.unread x4) (harg7.unread x6) (harg8.unread x7)
        (harg9.unread x8) (harg10.unread x9) g k0_t4_loop.trips))
      = agg x4 (arg28.view.read (Elt F) g) (mat x6 2) (row x7 2) (mat x8 2) (row x9 2) h := by
  refine read_quarters (N := 512) (R := 128) rfl (by norm_num) arg27.view f (T := k0_t4_loop.trips) (by decide +kernel)
    (fun n => pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28
        (iota .tc S4096x512 32 [1] iota_S4096x512_d1_w32) v189 h (harg5.unread x4) (harg7.unread x6) (harg8.unread x7)
        (harg9.unread x8) (harg10.unread x9) g n)
    k0_off12 k0_off12_inb k0_off12_eq
    (aggPart x4 (arg28.view.read (Elt F) g) (mat x6 2) (row x7 2) (mat x8 2) (row x9 2) h) rfl (fun k => ?_)
    (agg x4 (arg28.view.read (Elt F) g) (mat x6 2) (row x7 2) (mat x8 2) (row x9 2) h) fun b r f => ?_
  · refine (pb_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ k).trans (congrArg (· ++ _) ?_)
    unfold tripL_k0_t4 trip_k0_t4
    show [(⟨Rect.unit (s := S512x128) (k0_off12 k) S128x128.size (k0_off12_inb k), k0_pay54 (k0_pay10 _ _ _ _ (arg5.view.readAt (Elt F) (Rect.unit (s := S1x16384x1) (k0_off10 k) S1x4096x1.size (k0_off10_inb k)).toLoadRect _))
      (k0_pay11 (arg28.view.readAt (Elt F) (Rect.unit (s := S16384x128) (k0_off11 k) S4096x128.size (k0_off11_inb k)).toLoadRect g))
      (k0_pay12 (arg28.view.readAt (Elt F) (Rect.unit (s := S16384x128) (k0_off11 k) S4096x128.size (k0_off11_inb k)).toLoadRect g)
        (arg7.view.readAt (Elt F) (Rect.unit (s := S3x128x128) ![(2 : Fin 3).val, 0, 0] S1x128x128.size inb_S3x128x128_S1x128x128_2_0_0).toLoadRect _)
        (arg8.view.readAt (Elt F) (Rect.unit (s := S3x1x128) ![(2 : Fin 3).val, 0, 0] S1x1x128.size inb_S3x1x128_S1x1x128_2_0_0).toLoadRect _))
      (arg9.view.readAt (Elt F) (Rect.unit (s := S3x128x128) ![(2 : Fin 3).val, 0, 0] S1x128x128.size inb_S3x128x128_S1x128x128_2_0_0).toLoadRect _)
      (arg10.view.readAt (Elt F) (Rect.unit (s := S3x1x128) ![(2 : Fin 3).val, 0, 0] S1x1x128.size inb_S3x1x128_S1x1x128_2_0_0).toLoadRect _)⟩
        : View.Piece (Elt F) S512x128 .f32)] = _
    rw [readAt_nb harg5 x4 (k.cast (by decide +kernel)) (k0_off10_eq k), readAt_edge arg28 g (k.cast (by decide +kernel)) (k0_off11_eq k),
      readAt_mat harg7 x6 2, readAt_row harg8 x7 2, readAt_mat harg9 x8 2, readAt_row harg10 x9 2]
    rfl
  · unfold agg
    have hr : r.val < 128 := r.isLt
    have hd : (128 * b.val + r.val) / 128 = b.val := by omega
    have hm : (128 * b.val + r.val) % 128 = r.val := by omega
    refine congr (congrArg (aggPart x4 (arg28.view.read (Elt F) g) (mat x6 2) (row x7 2) (mat x8 2) (row x9 2) h) (Fin.ext hd.symm))
      (congrArg (fun q => ix2 q f) (Fin.ext hm.symm))

end Body

end Cert.Proof.KernelRun

end
-- ==== Proof.KernelStored.lean ====
/- The body's stored block in closed form: the chain of named values of the run, each rewritten to the function of the
   operands' blocks it is. -/
module

public import proofs.«01_k».proof.Proof.KernelValue

@[expose] public section

set_option maxRecDepth 16384

noncomputable section

namespace Cert.Proof.KernelRun

open Idealize.ShloMosaic Idealize.ShloMosaic.TcCoe Idealize.ShloMosaic.Tactic
open Cert.KernelIdeal Cert.KernelIdeal.Gen

variable {F : FTy → Type} [FloatOps F] [Named F]

/-! ### The tail: from the last layer to the stored block -/

/-- Row numbers and column numbers of a 128 by 128 matrix. -/
def rowNo : IVec S128x128 32 := iota .tc S128x128 32 [0] iota_S128x128_d0_w32
def colNo : IVec S128x128 32 := iota .tc S128x128 32 [1] iota_S128x128_d1_w32

/-- The reciprocal of the cell's determinant. -/
def recDet (x1 : Vec F S1x3x3 .f32) : F .f32 :=
  k0_pay77 (k0_pay59 (entry x1 0 0)) (k0_pay60 (entry x1 0 1)) (k0_pay61 (entry x1 0 2)) (k0_pay62 (entry x1 1 0)) (entry x1 1 1)
    (entry x1 1 2) (entry x1 2 0) (entry x1 2 1) (entry x1 2 2)

/-- The rows of the cell's inverse, each spread over a matrix. -/
def invRow0 (x1 : Vec F S1x3x3 .f32) : FVec F S128x128 .f32 :=
  k0_pay79 (k0_pay69 (k0_pay60 (entry x1 0 1)) (k0_pay61 (entry x1 0 2)) (entry x1 2 1) (entry x1 2 2))
    (k0_pay70 (k0_pay60 (entry x1 0 1)) (k0_pay61 (entry x1 0 2)) (entry x1 1 1) (entry x1 1 2)) (recDet x1) colNo
    (k0_pay78 (k0_pay59 (entry x1 0 0)) (k0_pay60 (entry x1 0 1)) (k0_pay61 (entry x1 0 2)) (k0_pay62 (entry x1 1 0)) (entry x1 1 1)
      (entry x1 1 2) (entry x1 2 0) (entry x1 2 1) (entry x1 2 2))

def invRow1 (x1 : Vec F S1x3x3 .f32) : FVec F S128x128 .f32 :=
  k0_pay80 (k0_pay71 (k0_pay62 (entry x1 1 0)) (entry x1 1 2) (entry x1 2 0) (entry x1 2 2))
    (k0_pay72 (k0_pay59 (entry x1 0 0)) (k0_pay61 (entry x1 0 2)) (entry x1 2 0) (entry x1 2 2))
    (k0_pay73 (k0_pay59 (entry x1 0 0)) (k0_pay61 (entry x1 0 2)) (k0_pay62 (entry x1 1 0)) (entry x1 1 2)) (recDet x1) colNo

def invRow2 (x1 : Vec F S1x3x3 .f32) : FVec F S128x128 .f32 :=
  k0_pay81 (k0_pay74 (k0_pay62 (entry x1 1 0)) (entry x1 1 1) (entry x1 2 0) (entry x1 2 1))
    (k0_pay75 (k0_pay59 (entry x1 0 0)) (k0_pay60 (entry x1 0 1)) (entry x1 2 0) (entry x1 2 1))
    (k0_pay76 (k0_pay59 (entry x1 0 0)) (k0_pay60 (entry x1 0 1)) (k0_pay62 (entry x1 1 0)) (entry x1 1 1)) (recDet x1) colNo

/-- The fractional coordinates after the shift `sh`. -/
def fracV (x0 : Vec F S1x512x128 .f32) (x1 : Vec F S1x3x3 .f32) (sh : FVec F S512x128 .f32) : FVec F S512x128 .f32 :=
  k0_pay82 (k0_pay13 x0) sh rowNo (invRow0 x1) (invRow1 x1) (invRow2 x1) 0#32

/-- The rows of the cell, each spread over a matrix. -/
def cellRow0 (x1 : Vec F S1x3x3 .f32) : FVec F S128x128 .f32 :=
  k0_pay83 (k0_pay59 (entry x1 0 0)) (k0_pay60 (entry x1 0 1)) (k0_pay61 (entry x1 0 2)) colNo
def cellRow1 (x1 : Vec F S1x3x3 .f32) : FVec F S128x128 .f32 :=
  k0_pay84 (k0_pay62 (entry x1 1 0)) (k0_pay63 (entry x1 1 1)) (k0_pay64 (entry x1 1 2)) colNo

/-- The cell head's hidden layer times its second weight, from the fractional coordinates. -/
def hidV (x1 : Vec F S1x3x3 .f32) (x17 : Vec F S128x128 .f32) (x18 : Vec F S1x128 .f32) (x19 : Vec F S128x128 .f32)
    (fr : FVec F S512x128 .f32) : FVec F S512x128 .f32 :=
  k0_pay88 (k0_pay65 (entry x1 2 0)) (k0_pay66 (entry x1 2 1)) (k0_pay67 (entry x1 2 2)) rowNo colNo fr (cellRow0 x1) (cellRow1 x1)
    (k0_pay85 colNo) (k0_pay86 colNo) k0_pay87 x17 x18 x19

/-- The rows of the new cell, each spread over a matrix. -/
def newRow0 (hid : FVec F S512x128 .f32) (x20 : Vec F S1x128 .f32) (x2 : Vec F S1x512x1 .f32) : FVec F S128x128 .f32 :=
  k0_pay102 colNo (k0_pay94 hid (k0_pay89 x20) x2) (k0_pay95 hid (k0_pay89 x20) x2) (k0_pay96 hid (k0_pay89 x20) x2)
def newRow1 (hid : FVec F S512x128 .f32) (x20 : Vec F S1x128 .f32) (x2 : Vec F S1x512x1 .f32) : FVec F S128x128 .f32 :=
  k0_pay103 colNo (k0_pay97 hid (k0_pay89 x20) x2) (k0_pay98 hid (k0_pay89 x20) x2) (k0_pay99 hid (k0_pay89 x20) x2)
def newRow2 (hid : FVec F S512x128 .f32) (x20 : Vec F S1x128 .f32) (x2 : Vec F S1x512x1 .f32) : FVec F S128x128 .f32 :=
  k0_pay104 colNo (k0_pay92 x2) (k0_pay93 hid (k0_pay89 x20) x2) (k0_pay100 hid (k0_pay89 x20) x2) (k0_pay101 hid (k0_pay89 x20) x2)

/-- The stored block, from the fractional coordinates and the hidden values. -/
def outV (fr hid : FVec F S512x128 .f32) (x20 : Vec F S1x128 .f32) (x2 : Vec F S1x512x1 .f32) : FVec F S1x512x3 .f32 :=
  k0_pay1 rowNo fr (newRow0 hid x20 x2) (newRow1 hid x20 x2) (newRow2 hid x20 x2) (k0_pay105 rowNo) (k0_pay106 rowNo)

def frV (z : Vec F S512x128 .f32) (x0 : Vec F S1x512x128 .f32) (x1 : Vec F S1x3x3 .f32) (x15 : Vec F S128x128 .f32)
    (x16 : Vec F S1x128 .f32) : FVec F S512x128 .f32 := fracV x0 x1 (k0_pay58 z x15 x16)

/-- The layers' values. -/
def st0 (x3 : Vec F S1x512x1 .i32) (x5 : Vec F S100x128 .f32) : Vec F S512x128 .f32 := k0_pay14 x3 x5
def st1 (x0 : Vec F S1x512x128 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x21 : Vec F S1x128 .f32) (x22 : Vec F S1x1 .f32) : Vec F S512x128 .f32 := layerV x4 (edges x0 x4 x21 x22) x6 x7 x8 x9 x10 x11 x12 x13 x14 0 (st0 x3 x5)
def st2 (x0 : Vec F S1x512x128 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x21 : Vec F S1x128 .f32) (x22 : Vec F S1x1 .f32) : Vec F S512x128 .f32 := layerV x4 (edges x0 x4 x21 x22) x6 x7 x8 x9 x10 x11 x12 x13 x14 1 (st1 x0 x3 x4 x5 x6 x7 x8 x9 x10 x11 x12 x13 x14 x21 x22)
def st3 (x0 : Vec F S1x512x128 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x21 : Vec F S1x128 .f32) (x22 : Vec F S1x1 .f32) : Vec F S512x128 .f32 := layerV x4 (edges x0 x4 x21 x22) x6 x7 x8 x9 x10 x11 x12 x13 x14 2 (st2 x0 x3 x4 x5 x6 x7 x8 x9 x10 x11 x12 x13 x14 x21 x22)

/-- The block the body stores, a function of its operands' blocks. -/
def kval (x0 : Vec F S1x512x128 .f32) (x1 : Vec F S1x3x3 .f32) (x2 : Vec F S1x512x1 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S1x128 .f32) (x22 : Vec F S1x1 .f32) : Vec F S1x512x3 .f32 :=
  outV (frV (st3 x0 x3 x4 x5 x6 x7 x8 x9 x10 x11 x12 x13 x14 x21 x22) x0 x1 x15 x16) (hidV x1 x17 x18 x19 (frV (st3 x0 x3 x4 x5 x6 x7 x8 x9 x10 x11 x12 x13 x14 x21 x22) x0 x1 x15 x16)) x20 x2

section Body

variable (c : Dev nD) (i : grid0.Coords) (arg1 : Memref sig .tc .vmem S1x512x128 .f32) (harg1 : arg1.IsWhole) (arg2 : Memref sig .tc .vmem S1x3x3 .f32) (harg2 : arg2.IsWhole) (arg3 : Memref sig .tc .vmem S1x512x1 .f32) (harg3 : arg3.IsWhole) (arg4 : Memref sig .tc .vmem S1x512x1 .i32) (harg4 : arg4.IsWhole) (arg5 : Memref sig .tc .vmem S1x16384x1 .i32) (harg5 : arg5.IsWhole) (arg6 : Memref sig .tc .vmem S100x128 .f32) (harg6 : arg6.IsWhole) (arg7 : Memref sig .tc .vmem S3x128x128 .f32) (harg7 : arg7.IsWhole) (arg8 : Memref sig .tc .vmem S3x1x128 .f32) (harg8 : arg8.IsWhole) (arg9 : Memref sig .tc .vmem S3x128x128 .f32) (harg9 : arg9.IsWhole) (arg10 : Memref sig .tc .vmem S3x1x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S3x1x128 .f32) (harg13 : arg13.IsWhole) (arg14 : Memref sig .tc .vmem S3x128x128 .f32) (harg14 : arg14.IsWhole) (arg15 : Memref sig .tc .vmem S3x1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x1 .f32) (harg23 : arg23.IsWhole) (arg24 : Memref sig .tc .vmem S1x512x3 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S16384x128 .f32) (harg28 : arg28.IsWhole)
  (x0 : Vec F S1x512x128 .f32) (x1 : Vec F S1x3x3 .f32) (x2 : Vec F S1x512x1 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S1x128 .f32) (x22 : Vec F S1x1 .f32) (fs2 : BufTy.Contents (Elt F) arg27.view.ty) (fs3 : BufTy.Contents (Elt F) arg28.view.ty)

theorem v82_eq : run.sl.v82 (F := F) c arg4 harg4 arg6 harg6 arg25 x3 x5 = st0 x3 x5 := by
  unfold run.sl.v82 run.sl.HS0_1
  rw [View.readCov_full, readAt_whole, readAt_whole]; rfl

theorem v129_eq : run.sl.v129 (F := F) c arg4 harg4 arg6 harg6 arg25 x3 x5 = st0 x3 x5 := by
  unfold run.sl.v129 run.sl.HS0_1
  rw [View.readCov_full, readAt_whole, readAt_whole]; rfl

theorem r_1_eq : run.sl.r_1 (F := F) c arg4 harg4 arg6 harg6 arg11 harg11 arg25 x3 x5 x10 = k0_pay25 (st0 x3 x5) (mat x10 0) := by
  unfold run.sl.r_1
  rw [v82_eq]; exact congrArg (k0_pay25 _) (readAt_mat harg11 x10 0 _)

theorem v89_eq : run.sl.v89 (F := F) c arg4 harg4 arg6 harg6 arg11 harg11 arg25 arg26 x3 x5 x10 = k0_pay26 (k0_pay25 (st0 x3 x5) (mat x10 0)) := by
  unfold run.sl.v89 run.sl.HS1_1
  rw [View.readCov_full, r_1_eq]

theorem v104_eq : run.sl.v104 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x21 x22 fs2 fs3 = agg x4 (edges x0 x4 x21 x22) (mat x6 0) (row x7 0) (mat x8 0) (row x9 0) (k0_pay26 (k0_pay25 (st0 x3 x5) (mat x10 0))) := by
  unfold run.sl.v104 run.sl.r
  rw [View.readAt_full]
  try rw [View.writes_append]
  rw [v89_eq, readAt_whole harg1 x0, readAt_whole harg22 x21, readAt_whole harg23 x22]
  refine (agg_read0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x4 x6 x7 x8 x9 _ _ _ _).trans ?_
  exact congrArg (fun g => agg x4 g (mat x6 0) (row x7 0) (mat x8 0) (row x9 0) _) (edges_read (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x4 x21 x22 fs3)

theorem r_2_eq : run.sl.r_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x21 x22 fs2 fs3 = k0_pay34 (agg x4 (edges x0 x4 x21 x22) (mat x6 0) (row x7 0) (mat x8 0) (row x9 0) (k0_pay26 (k0_pay25 (st0 x3 x5) (mat x10 0)))) (mat x11 0) (row x12 0) := by
  unfold run.sl.r_2
  rw [v104_eq]; exact congrArg₂ (k0_pay34 _) (readAt_mat harg12 x11 0 _) (readAt_row harg13 x12 0 _)

theorem r_3_eq : run.sl.r_3 (F := F) c arg14 harg14 x13 = k0_pay35 (mat x13 0) := by
  unfold run.sl.r_3
  exact congrArg k0_pay35 (readAt_mat harg14 x13 0 _)

theorem v134_eq : run.sl.v134 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = st1 x0 x3 x4 x5 x6 x7 x8 x9 x10 x11 x12 x13 x14 x21 x22 := by
  unfold run.sl.v134 run.sl.HS0_2
  rw [View.readCov_full, r_2_eq, r_3_eq, v129_eq]
  exact congrArg (fun r => k0_pay36 _ _ r _) (readAt_row harg15 x14 0 _)

theorem v181_eq : run.sl.v181 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = st1 x0 x3 x4 x5 x6 x7 x8 x9 x10 x11 x12 x13 x14 x21 x22 := by
  unfold run.sl.v181 run.sl.HS0_2
  rw [View.readCov_full, r_2_eq, r_3_eq, v129_eq]
  exact congrArg (fun r => k0_pay36 _ _ r _) (readAt_row harg15 x14 0 _)

theorem v141_eq : run.sl.v141 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = k0_pay26 (k0_pay25 (st1 x0 x3 x4 x5 x6 x7 x8 x9 x10 x11 x12 x13 x14 x21 x22) (mat x10 1)) := by
  unfold run.sl.v141 run.sl.HS1_2
  rw [View.readCov_full, v134_eq]
  exact congrArg (fun w => k0_pay26 (k0_pay25 _ w)) (readAt_mat harg11 x10 1 _)

theorem v156_eq : run.sl.v156 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = agg x4 (edges x0 x4 x21 x22) (mat x6 1) (row x7 1) (mat x8 1) (row x9 1) (k0_pay26 (k0_pay25 (st1 x0 x3 x4 x5 x6 x7 x8 x9 x10 x11 x12 x13 x14 x21 x22) (mat x10 1))) := by
  unfold run.sl.v156 run.sl.r
  rw [View.readAt_full]
  try rw [View.writes_append]
  rw [v141_eq, readAt_whole harg1 x0, readAt_whole harg22 x21, readAt_whole harg23 x22]
  refine (agg_read1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x4 x6 x7 x8 x9 _ _ _ _ _).trans ?_
  exact congrArg (fun g => agg x4 g (mat x6 1) (row x7 1) (mat x8 1) (row x9 1) _) (edges_read (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x4 x21 x22 fs3)

theorem v186_eq : run.sl.v186 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = st2 x0 x3 x4 x5 x6 x7 x8 x9 x10 x11 x12 x13 x14 x21 x22 := by
  unfold run.sl.v186 run.sl.HS0_3
  rw [View.readCov_full, v156_eq, v181_eq]
  have e1 := readAt_mat harg12 x11 1 inb_S3x128x128_S1x128x128_1_0_0
  have e2 := readAt_row harg13 x12 1 inb_S3x1x128_S1x1x128_1_0_0
  have e3 := readAt_mat harg14 x13 1 inb_S3x128x128_S1x128x128_1_0_0
  have e4 := readAt_row harg15 x14 1 inb_S3x1x128_S1x1x128_1_0_0
  unfold st2 layerV
  rw [← e1, ← e2, ← e3, ← e4]; rfl

theorem v233_eq : run.sl.v233 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = st2 x0 x3 x4 x5 x6 x7 x8 x9 x10 x11 x12 x13 x14 x21 x22 := by
  unfold run.sl.v233 run.sl.HS0_3
  rw [View.readCov_full, v156_eq, v181_eq]
  have e1 := readAt_mat harg12 x11 1 inb_S3x128x128_S1x128x128_1_0_0
  have e2 := readAt_row harg13 x12 1 inb_S3x1x128_S1x1x128_1_0_0
  have e3 := readAt_mat harg14 x13 1 inb_S3x128x128_S1x128x128_1_0_0
  have e4 := readAt_row harg15 x14 1 inb_S3x1x128_S1x1x128_1_0_0
  unfold st2 layerV
  rw [← e1, ← e2, ← e3, ← e4]; rfl

theorem r_4_eq : run.sl.r_4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = k0_pay46 (st2 x0 x3 x4 x5 x6 x7 x8 x9 x10 x11 x12 x13 x14 x21 x22) (mat x10 2) := by
  unfold run.sl.r_4
  rw [v186_eq]; exact congrArg (k0_pay46 _) (readAt_mat harg11 x10 2 _)

theorem v193_eq : run.sl.v193 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = k0_pay26 (k0_pay25 (st2 x0 x3 x4 x5 x6 x7 x8 x9 x10 x11 x12 x13 x14 x21 x22) (mat x10 2)) := by
  unfold run.sl.v193 run.sl.HS1_3
  rw [View.readCov_full, r_4_eq]; rfl

theorem v208_eq : run.sl.v208 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = agg x4 (edges x0 x4 x21 x22) (mat x6 2) (row x7 2) (mat x8 2) (row x9 2) (k0_pay26 (k0_pay25 (st2 x0 x3 x4 x5 x6 x7 x8 x9 x10 x11 x12 x13 x14 x21 x22) (mat x10 2))) := by
  unfold run.sl.v208 run.sl.r
  rw [View.readAt_full]
  try rw [View.writes_append]
  rw [v193_eq, readAt_whole harg1 x0, readAt_whole harg22 x21, readAt_whole harg23 x22]
  refine (agg_read2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x4 x6 x7 x8 x9 _ _ _ _).trans ?_
  exact congrArg (fun g => agg x4 g (mat x6 2) (row x7 2) (mat x8 2) (row x9 2) _) (edges_read (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x4 x21 x22 fs3)

theorem r_5_eq : run.sl.r_5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = k0_pay55 (agg x4 (edges x0 x4 x21 x22) (mat x6 2) (row x7 2) (mat x8 2) (row x9 2) (k0_pay26 (k0_pay25 (st2 x0 x3 x4 x5 x6 x7 x8 x9 x10 x11 x12 x13 x14 x21 x22) (mat x10 2)))) (mat x11 2) (row x12 2) := by
  unfold run.sl.r_5
  rw [v208_eq]; exact congrArg₂ (k0_pay55 _) (readAt_mat harg12 x11 2 _) (readAt_row harg13 x12 2 _)

theorem r_6_eq : run.sl.r_6 (F := F) c arg14 harg14 x13 = k0_pay56 (mat x13 2) := by
  unfold run.sl.r_6
  exact congrArg k0_pay56 (readAt_mat harg14 x13 2 _)

theorem v238_eq : run.sl.v238 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x21 x22 fs2 fs3 = st3 x0 x3 x4 x5 x6 x7 x8 x9 x10 x11 x12 x13 x14 x21 x22 := by
  unfold run.sl.v238 run.sl.HS0_4
  rw [View.readCov_full, r_5_eq, r_6_eq, v233_eq]
  exact congrArg (fun r => k0_pay57 _ _ r _) (readAt_row harg15 x14 2 _)

theorem r_7_eq : run.sl.r_7 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x4 x5 x6 x7 x8 x9 x10 x11 x12 x13 x14 x15 x16 x21 x22 fs2 fs3 = k0_pay58 (st3 x0 x3 x4 x5 x6 x7 x8 x9 x10 x11 x12 x13 x14 x21 x22) x15 x16 := by
  unfold run.sl.r_7
  rw [v238_eq, readAt_whole, readAt_whole]

theorem r_eq : run.sl.r (F := F) c arg1 harg1 x0 = k0_pay13 x0 := by
  unfold run.sl.r
  rw [readAt_whole]

theorem ld00 (inb : ∀ a, (![0, 0, 0] : Fin 3 → ℕ) a + S1x1x1.size a ≤ S1x3x3.size a) :
    arg2.view.readAt (Elt F) (Rect.unit (s := S1x3x3) ![0, 0, 0] S1x1x1.size inb).toLoadRect (harg2.unread x1) = entry x1 0 0 :=
  readAt_entry harg2 x1 0 0 inb

theorem ld01 (inb : ∀ a, (![0, 0, 1] : Fin 3 → ℕ) a + S1x1x1.size a ≤ S1x3x3.size a) :
    arg2.view.readAt (Elt F) (Rect.unit (s := S1x3x3) ![0, 0, 1] S1x1x1.size inb).toLoadRect (harg2.unread x1) = entry x1 0 1 :=
  readAt_entry harg2 x1 0 1 inb

theorem ld02 (inb : ∀ a, (![0, 0, 2] : Fin 3 → ℕ) a + S1x1x1.size a ≤ S1x3x3.size a) :
    arg2.view.readAt (Elt F) (Rect.unit (s := S1x3x3) ![0, 0, 2] S1x1x1.size inb).toLoadRect (harg2.unread x1) = entry x1 0 2 :=
  readAt_entry harg2 x1 0 2 inb

theorem ld10 (inb : ∀ a, (![0, 1, 0] : Fin 3 → ℕ) a + S1x1x1.size a ≤ S1x3x3.size a) :
    arg2.view.readAt (Elt F) (Rect.unit (s := S1x3x3) ![0, 1, 0] S1x1x1.size inb).toLoadRect (harg2.unread x1) = entry x1 1 0 :=
  readAt_entry harg2 x1 1 0 inb

theorem ld11 (inb : ∀ a, (![0, 1, 1] : Fin 3 → ℕ) a + S1x1x1.size a ≤ S1x3x3.size a) :
    arg2.view.readAt (Elt F) (Rect.unit (s := S1x3x3) ![0, 1, 1] S1x1x1.size inb).toLoadRect (harg2.unread x1) = entry x1 1 1 :=
  readAt_entry harg2 x1 1 1 inb

theorem ld12 (inb : ∀ a, (![0, 1, 2] : Fin 3 → ℕ) a + S1x1x1.size a ≤ S1x3x3.size a) :
    arg2.view.readAt (Elt F) (Rect.unit (s := S1x3x3) ![0, 1, 2] S1x1x1.size inb).toLoadRect (harg2.unread x1) = entry x1 1 2 :=
  readAt_entry harg2 x1 1 2 inb

theorem ld20 (inb : ∀ a, (![0, 2, 0] : Fin 3 → ℕ) a + S1x1x1.size a ≤ S1x3x3.size a) :
    arg2.view.readAt (Elt F) (Rect.unit (s := S1x3x3) ![0, 2, 0] S1x1x1.size inb).toLoadRect (harg2.unread x1) = entry x1 2 0 :=
  readAt_entry harg2 x1 2 0 inb

theorem ld21 (inb : ∀ a, (![0, 2, 1] : Fin 3 → ℕ) a + S1x1x1.size a ≤ S1x3x3.size a) :
    arg2.view.readAt (Elt F) (Rect.unit (s := S1x3x3) ![0, 2, 1] S1x1x1.size inb).toLoadRect (harg2.unread x1) = entry x1 2 1 :=
  readAt_entry harg2 x1 2 1 inb

theorem ld22 (inb : ∀ a, (![0, 2, 2] : Fin 3 → ℕ) a + S1x1x1.size a ≤ S1x3x3.size a) :
    arg2.view.readAt (Elt F) (Rect.unit (s := S1x3x3) ![0, 2, 2] S1x1x1.size inb).toLoadRect (harg2.unread x1) = entry x1 2 2 :=
  readAt_entry harg2 x1 2 2 inb

theorem r_8_eq : run.sl.r_8 (F := F) c arg2 harg2 x1 = k0_pay59 (entry x1 0 0) := by
  unfold run.sl.r_8
  rw [ld00]

theorem r_9_eq : run.sl.r_9 (F := F) c arg2 harg2 x1 = k0_pay60 (entry x1 0 1) := by
  unfold run.sl.r_9
  rw [ld01]

theorem r_10_eq : run.sl.r_10 (F := F) c arg2 harg2 x1 = k0_pay61 (entry x1 0 2) := by
  unfold run.sl.r_10
  rw [ld02]

theorem r_11_eq : run.sl.r_11 (F := F) c arg2 harg2 x1 = k0_pay62 (entry x1 1 0) := by
  unfold run.sl.r_11
  rw [ld10]

theorem r_12_eq : run.sl.r_12 (F := F) c arg2 harg2 x1 = k0_pay63 (entry x1 1 1) := by
  unfold run.sl.r_12
  rw [ld11]

theorem r_13_eq : run.sl.r_13 (F := F) c arg2 harg2 x1 = k0_pay64 (entry x1 1 2) := by
  unfold run.sl.r_13
  rw [ld12]

theorem r_14_eq : run.sl.r_14 (F := F) c arg2 harg2 x1 = k0_pay65 (entry x1 2 0) := by
  unfold run.sl.r_14
  rw [ld20]

theorem r_15_eq : run.sl.r_15 (F := F) c arg2 harg2 x1 = k0_pay66 (entry x1 2 1) := by
  unfold run.sl.r_15
  rw [ld21]

theorem r_16_eq : run.sl.r_16 (F := F) c arg2 harg2 x1 = k0_pay67 (entry x1 2 2) := by
  unfold run.sl.r_16
  rw [ld22]

theorem r_27_eq : run.sl.r_27 (F := F) c arg2 harg2 x1 = invRow0 x1 := by
  unfold run.sl.r_27 run.sl.r_17 run.sl.r_18 run.sl.r_25 run.sl.r_26 run.sl.r_10 run.sl.r_11 run.sl.r_8 run.sl.r_9 run.sl.v301
  (try rw [ld00]); (try rw [ld01]); (try rw [ld02]); (try rw [ld10]); (try rw [ld11]); (try rw [ld12]); (try rw [ld20]); (try rw [ld21]); (try rw [ld22])
  rfl

theorem r_28_eq : run.sl.r_28 (F := F) c arg2 harg2 x1 = invRow1 x1 := by
  unfold run.sl.r_28 run.sl.r_19 run.sl.r_20 run.sl.r_21 run.sl.r_25 run.sl.r_10 run.sl.r_11 run.sl.r_8 run.sl.r_9 run.sl.v301
  (try rw [ld00]); (try rw [ld01]); (try rw [ld02]); (try rw [ld10]); (try rw [ld11]); (try rw [ld12]); (try rw [ld20]); (try rw [ld21]); (try rw [ld22])
  rfl

theorem r_29_eq : run.sl.r_29 (F := F) c arg2 harg2 x1 = invRow2 x1 := by
  unfold run.sl.r_29 run.sl.r_22 run.sl.r_23 run.sl.r_24 run.sl.r_25 run.sl.r_10 run.sl.r_11 run.sl.r_8 run.sl.r_9 run.sl.v301
  (try rw [ld00]); (try rw [ld01]); (try rw [ld02]); (try rw [ld10]); (try rw [ld11]); (try rw [ld12]); (try rw [ld20]); (try rw [ld21]); (try rw [ld22])
  rfl

theorem r_31_eq : run.sl.r_31 (F := F) c arg2 harg2 x1 = cellRow0 x1 := by
  unfold run.sl.r_31 run.sl.r_10 run.sl.r_8 run.sl.r_9 run.sl.v301
  (try rw [ld00]); (try rw [ld01]); (try rw [ld02]); (try rw [ld10]); (try rw [ld11]); (try rw [ld12]); (try rw [ld20]); (try rw [ld21]); (try rw [ld22])
  rfl

theorem r_32_eq : run.sl.r_32 (F := F) c arg2 harg2 x1 = cellRow1 x1 := by
  unfold run.sl.r_32 run.sl.r_11 run.sl.r_12 run.sl.r_13 run.sl.v301
  (try rw [ld00]); (try rw [ld01]); (try rw [ld02]); (try rw [ld10]); (try rw [ld11]); (try rw [ld12]); (try rw [ld20]); (try rw [ld21]); (try rw [ld22])
  rfl

theorem r_30_eq : run.sl.r_30 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x3 x4 x5 x6 x7 x8 x9 x10 x11 x12 x13 x14 x15 x16 x21 x22 fs2 fs3 = frV (st3 x0 x3 x4 x5 x6 x7 x8 x9 x10 x11 x12 x13 x14 x21 x22) x0 x1 x15 x16 := by
  unfold run.sl.r_30
  rw [r_7_eq, r_27_eq, r_28_eq, r_29_eq, r_eq]; rfl

theorem r_33_eq : run.sl.r_33 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x3 x4 x5 x6 x7 x8 x9 x10 x11 x12 x13 x14 x15 x16 x17 x18 x19 x21 x22 fs2 fs3 = hidV x1 x17 x18 x19 (frV (st3 x0 x3 x4 x5 x6 x7 x8 x9 x10 x11 x12 x13 x14 x21 x22) x0 x1 x15 x16) := by
  unfold run.sl.r_33
  rw [r_30_eq, r_31_eq, r_32_eq, r_14_eq, r_15_eq, r_16_eq, readAt_whole, readAt_whole, readAt_whole]; rfl

theorem r_34_eq : run.sl.r_34 (F := F) c arg21 harg21 x20 = k0_pay89 x20 := by
  unfold run.sl.r_34
  rw [readAt_whole]

theorem r_35_eq : run.sl.r_35 (F := F) c arg3 harg3 x2 = k0_pay92 x2 := by
  unfold run.sl.r_35
  rw [readAt_whole]

theorem r_36_eq : run.sl.r_36 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay93 (hidV x1 x17 x18 x19 (frV (st3 x0 x3 x4 x5 x6 x7 x8 x9 x10 x11 x12 x13 x14 x21 x22) x0 x1 x15 x16)) (k0_pay89 x20) x2 := by
  unfold run.sl.r_36
  rw [r_33_eq, r_34_eq, readAt_whole]

theorem r_37_eq : run.sl.r_37 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay94 (hidV x1 x17 x18 x19 (frV (st3 x0 x3 x4 x5 x6 x7 x8 x9 x10 x11 x12 x13 x14 x21 x22) x0 x1 x15 x16)) (k0_pay89 x20) x2 := by
  unfold run.sl.r_37
  rw [r_33_eq, r_34_eq, readAt_whole]

theorem r_38_eq : run.sl.r_38 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay95 (hidV x1 x17 x18 x19 (frV (st3 x0 x3 x4 x5 x6 x7 x8 x9 x10 x11 x12 x13 x14 x21 x22) x0 x1 x15 x16)) (k0_pay89 x20) x2 := by
  unfold run.sl.r_38
  rw [r_33_eq, r_34_eq, readAt_whole]

theorem r_39_eq : run.sl.r_39 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay96 (hidV x1 x17 x18 x19 (frV (st3 x0 x3 x4 x5 x6 x7 x8 x9 x10 x11 x12 x13 x14 x21 x22) x0 x1 x15 x16)) (k0_pay89 x20) x2 := by
  unfold run.sl.r_39
  rw [r_33_eq, r_34_eq, readAt_whole]

theorem r_40_eq : run.sl.r_40 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay97 (hidV x1 x17 x18 x19 (frV (st3 x0 x3 x4 x5 x6 x7 x8 x9 x10 x11 x12 x13 x14 x21 x22) x0 x1 x15 x16)) (k0_pay89 x20) x2 := by
  unfold run.sl.r_40
  rw [r_33_eq, r_34_eq, readAt_whole]

theorem r_41_eq : run.sl.r_41 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay98 (hidV x1 x17 x18 x19 (frV (st3 x0 x3 x4 x5 x6 x7 x8 x9 x10 x11 x12 x13 x14 x21 x22) x0 x1 x15 x16)) (k0_pay89 x20) x2 := by
  unfold run.sl.r_41
  rw [r_33_eq, r_34_eq, readAt_whole]

theorem r_42_eq : run.sl.r_42 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay99 (hidV x1 x17 x18 x19 (frV (st3 x0 x3 x4 x5 x6 x7 x8 x9 x10 x11 x12 x13 x14 x21 x22) x0 x1 x15 x16)) (k0_pay89 x20) x2 := by
  unfold run.sl.r_42
  rw [r_33_eq, r_34_eq, readAt_whole]

theorem r_43_eq : run.sl.r_43 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay100 (hidV x1 x17 x18 x19 (frV (st3 x0 x3 x4 x5 x6 x7 x8 x9 x10 x11 x12 x13 x14 x21 x22) x0 x1 x15 x16)) (k0_pay89 x20) x2 := by
  unfold run.sl.r_43
  rw [r_33_eq, r_34_eq, readAt_whole]

theorem r_44_eq : run.sl.r_44 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = k0_pay101 (hidV x1 x17 x18 x19 (frV (st3 x0 x3 x4 x5 x6 x7 x8 x9 x10 x11 x12 x13 x14 x21 x22) x0 x1 x15 x16)) (k0_pay89 x20) x2 := by
  unfold run.sl.r_44
  rw [r_33_eq, r_34_eq, readAt_whole]

theorem r_45_eq : run.sl.r_45 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = newRow0 (hidV x1 x17 x18 x19 (frV (st3 x0 x3 x4 x5 x6 x7 x8 x9 x10 x11 x12 x13 x14 x21 x22) x0 x1 x15 x16)) x20 x2 := by
  unfold run.sl.r_45
  rw [r_37_eq, r_38_eq, r_39_eq]; rfl

theorem r_46_eq : run.sl.r_46 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = newRow1 (hidV x1 x17 x18 x19 (frV (st3 x0 x3 x4 x5 x6 x7 x8 x9 x10 x11 x12 x13 x14 x21 x22) x0 x1 x15 x16)) x20 x2 := by
  unfold run.sl.r_46
  rw [r_40_eq, r_41_eq, r_42_eq]; rfl

theorem r_47_eq : run.sl.r_47 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 fs2 fs3 = newRow2 (hidV x1 x17 x18 x19 (frV (st3 x0 x3 x4 x5 x6 x7 x8 x9 x10 x11 x12 x13 x14 x21 x22) x0 x1 x15 x16)) x20 x2 := by
  unfold run.sl.r_47
  rw [r_35_eq, r_36_eq, r_43_eq, r_44_eq]; rfl

/-- Whatever the output buffer and the scratch arrays held, the body stores `kval` of its operands' blocks. -/
theorem run_value (f23 : BufTy.Contents (Elt F) arg24.view.ty) (fs0 : BufTy.Contents (Elt F) arg25.view.ty) (fs1 : BufTy.Contents (Elt F) arg26.view.ty) :
    (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 f23 fs0 fs1 fs2 fs3).1 = kval x0 x1 x2 x3 x4 x5 x6 x7 x8 x9 x10 x11 x12 x13 x14 x15 x16 x17 x18 x19 x20 x21 x22 := by
  unfold run; dsimp only
  rw [View.read_writes_full, r_30_eq, r_45_eq, r_46_eq, r_47_eq]
  rfl

end Body

end Cert.Proof.KernelRun

end
-- ==== Proof.IdealFrame.lean ====
/- The program read over the reals: the launch of its one pipeline over the body's run, the output's block named. Its
   arguments end as they were, every counter at zero, and its result is read off block by block. -/
module

public import proofs.«01_k».proof.Proof.KernelStored
public import Idealize.ShloMosaic.Lib.Claim

@[expose] public section

-- membership in a rectangle of production extents (`View.cover_of_tiled`): the elaborator's structural look
-- recurses once per coordinate of the long axes
set_option maxRecDepth 16384

noncomputable section

namespace Cert.Proof.IdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The staging buffers and the scratch -/

abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16384x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S100x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3x1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x512x3 .f32 := win0_23.stage (cfg0.slots t 23)
abbrev hs0_23 (t : Fin cfg0.N) : (ms0_23 t).IsWhole := hstage0_23 ((cfg0.slots t 23).cast nbuf0_23)
abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S16384x128 .f32 := Memref.whole cc0_scratch3

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- A memref owned at some value is its buffer held at some contents. -/
theorem owns_contents (c : Dev nD) {sp : Space} {sh : Shape} {e : EltTy} (mr : Memref sig .tc sp sh e) (q) (d : sh.Idx → Elt F e) :
    owns (c : Thread nD τ) mr q d ⊢ (iprop(∃ f, mr.view.loc (c : Thread nD τ) ↦[mr.view.set]{q} f) : sProp 𝕄) := by
  unfold owns
  iintro ⟨%f, %hf, H⟩
  iexists f
  iexact H

/-! ## The pipeline's proof data -/

/-- The proof data of the one pipeline on core `c`: the arrays as the region finds them; after the body at point `t` each
    input's buffer at its block, the output's at the stored block; the scratch and the generator register at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => KernelRun.kval (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_23 (c : Dev nD) (t : Fin cfg0.N) : (dats m 0 c).after 23 t = KernelRun.kval (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_22 (c : Dev nD) (t : Fin cfg0.N) : (dats m 0 c).after 22 t = iblk m c 22 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  ihave H23 := (owns_contents _ _ _ _) $$ H23
  icases H23 with ⟨%fH23, H23⟩
  ihave HS0 := (owns_contents _ _ _ _) $$ HS0
  icases HS0 with ⟨%fHS0, HS0⟩
  ihave HS1 := (owns_contents _ _ _ _) $$ HS1
  icases HS1 with ⟨%fHS1, HS1⟩
  ihave HS2 := (owns_contents _ _ _ _) $$ HS2
  icases HS2 with ⟨%fHS2, HS2⟩
  ihave HS3 := (owns_contents _ _ _ _) $$ HS3
  icases HS3 with ⟨%fHS3, HS3⟩
  iapply ((KernelRun.run c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) fH23 fHS0 fHS1 fHS2 fHS3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, H23, HS0, HS1, HS2, HS3⟩
  rw [KernelRun.run_value]
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every final state has every array of the pipeline at what the library computes from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Proof.IdealFrame

end
-- ==== Proof.Spec.lean ====
/- What one batch of the problem computes, over the extended reals: plain functions of coordinates. -/
module

public import Idealize.ShloMosaic.PureOps.Ideal
public import Idealize.ShloMosaic.PureOps.Ideal.Laws

@[expose] public section

noncomputable section

namespace Cert.Proof.Spec

open Idealize.ShloMosaic

/-- The number a 32-bit float word stands for. -/
abbrev lit (w : BitVec 32) : EReal := Ideal.ofBits .f32 w

/-- An extended real that is a real number. -/
def IsReal (x : EReal) : Prop := ∃ r : ℝ, x = r

/-- `log 2`. -/
def ln2 : EReal := ((Real.log 2 : ℝ) : EReal)

/-- The shifted softplus, `log (e^x + 1) − log 2`. -/
def ssp (x : EReal) : EReal := max x 0 + Ideal.log1p (Ideal.exp (0 - max x (-x))) - ln2

/-- One batch's inputs and the shared weights, by coordinates; `off` and `q` are the radial grid and its factor. -/
structure Data where
  pos : Fin 512 → Fin 3 → EReal
  cell : Fin 3 → Fin 3 → EReal
  mask : Fin 512 → EReal
  z : Fin 512 → Fin 100
  nb : Fin 512 → Fin 32 → Fin 512
  emb : Fin 100 → Fin 128 → EReal
  fw1 : Fin 3 → Fin 50 → Fin 128 → EReal
  fb1 : Fin 3 → Fin 128 → EReal
  fw2 : Fin 3 → Fin 128 → Fin 128 → EReal
  fb2 : Fin 3 → Fin 128 → EReal
  in2f : Fin 3 → Fin 128 → Fin 128 → EReal
  ow1 : Fin 3 → Fin 128 → Fin 128 → EReal
  ob1 : Fin 3 → Fin 128 → EReal
  ow2 : Fin 3 → Fin 128 → Fin 128 → EReal
  ob2 : Fin 3 → Fin 128 → EReal
  dw : Fin 128 → Fin 3 → EReal
  db : Fin 3 → EReal
  pw1 : Fin 3 → Fin 6 → EReal
  pb1 : Fin 6 → EReal
  pw2 : Fin 6 → Fin 9 → EReal
  pb2 : Fin 9 → EReal
  off : Fin 50 → EReal
  q : EReal

variable (D : Data)

/-- The distance from an atom to its neighbour. -/
def dist (a : Fin 512) (j : Fin 32) : EReal :=
  Ideal.sqrt ((∑ c : Fin 3, (D.pos (D.nb a j) c - D.pos a c) * (D.pos (D.nb a j) c - D.pos a c)) + lit 0x322BCC77#32)

/-- The radial functions of a distance. -/
def rbf (d : EReal) (k : Fin 50) : EReal := Ideal.exp (D.q * ((d - D.off k) * (d - D.off k)))

/-- The cosine cutoff of a distance. -/
def cut (d : EReal) : EReal :=
  if d < lit 0x40A00000#32 then
    lit 0x3F000000#32 * (Ideal.cos (Ideal.div (lit 0x40490FDB#32 * d) (lit 0x40A00000#32)) + 1)
  else 0

/-- Two dense maps with the shifted softplus between them. -/
def mlp {n k l : ℕ} (w1 : Fin n → Fin k → EReal) (b1 : Fin k → EReal) (w2 : Fin k → Fin l → EReal) (b2 : Fin l → EReal)
    (x : Fin n → EReal) (f : Fin l) : EReal :=
  (∑ c, ssp ((∑ k, x k * w1 k c) + b1 c) * w2 c f) + b2 f

/-- A layer's filter on an edge. -/
def filt (i : Fin 3) (d : EReal) (f : Fin 128) : EReal :=
  mlp (D.fw1 i) (D.fb1 i) (D.fw2 i) (D.fb2 i) (rbf D d) f * cut d

/-- A layer's features before the gather. -/
def feat (i : Fin 3) (x : Fin 512 → Fin 128 → EReal) (a : Fin 512) (f : Fin 128) : EReal := ∑ h, x a h * D.in2f i h f

/-- A layer's messages, summed over an atom's neighbours. -/
def conv (i : Fin 3) (x : Fin 512 → Fin 128 → EReal) (a : Fin 512) (f : Fin 128) : EReal :=
  ∑ j, feat D i x (D.nb a j) f * filt D i (dist D a j) f

/-- A layer. -/
def layer (i : Fin 3) (x : Fin 512 → Fin 128 → EReal) (a : Fin 512) (f : Fin 128) : EReal :=
  x a f + mlp (D.ow1 i) (D.ob1 i) (D.ow2 i) (D.ob2 i) (conv D i x a) f

/-- The embedding's rows. -/
def x0 (a : Fin 512) (f : Fin 128) : EReal := D.emb (D.z a) f

/-- The features after the three layers. -/
def x3 : Fin 512 → Fin 128 → EReal := layer D 2 (layer D 1 (layer D 0 (x0 D)))

/-- The displacement in the unit cell. -/
def shift (a : Fin 512) (c : Fin 3) : EReal :=
  Ideal.logistic (lit 0x41200000#32 * ((∑ f, x3 D a f * D.dw f c) + D.db c))

/-- The adjugate of the cell. -/
def adj (i j : Fin 3) : EReal :=
  D.cell (j + 1) (i + 1) * D.cell (j + 2) (i + 2) - D.cell (j + 1) (i + 2) * D.cell (j + 2) (i + 1)

/-- The determinant of the cell, along its first row. -/
def det : EReal := ∑ j, D.cell 0 j * adj D j 0

/-- The fractional coordinates before they are wrapped. -/
def fr (a : Fin 512) (c : Fin 3) : EReal := (∑ k, D.pos a k * Ideal.div (adj D k c) (det D)) + shift D a c

/-- The fractional coordinates. -/
def frac (a : Fin 512) (c : Fin 3) : EReal := fr D a c - Ideal.liftRound Int.floor (fr D a c)

/-- The coordinates in the old cell. -/
def rep (a : Fin 512) (c : Fin 3) : EReal := ∑ k, frac D a k * D.cell k c

/-- The number of atoms. -/
def num : EReal := ∑ a, D.mask a

/-- The masked mean of the predictor's outputs. -/
def mean (o : Fin 9) : EReal := Ideal.div (∑ a, mlp D.pw1 D.pb1 D.pw2 D.pb2 (rep D a) o * D.mask a) (num D)

/-- The scale of the new cell. -/
def scale : EReal := lit 0x40400000#32 * Ideal.exp (Ideal.log (num D) * lit 0x3EAAAAAB#32)

/-- The new cell. -/
def newCell (r c : Fin 3) : EReal :=
  scale D * ((if r = c then 1 else 0) + mean D ⟨3 * r.val + c.val, by omega⟩)

/-- The result. -/
def out (a : Fin 512) (c : Fin 3) : EReal := ∑ k, frac D a k * newCell D k c

/-- What the precondition says of one batch, and what the constants are. -/
structure Tame : Prop where
  pos : ∀ a c, IsReal (D.pos a c)
  emb : ∀ a c, IsReal (D.emb a c)
  fw1 : ∀ (i : Fin 2) a c, IsReal (D.fw1 i.castSucc a c)
  fb1 : ∀ (i : Fin 2) c, IsReal (D.fb1 i.castSucc c)
  fw2 : ∀ (i : Fin 2) a c, IsReal (D.fw2 i.castSucc a c)
  fb2 : ∀ (i : Fin 2) c, IsReal (D.fb2 i.castSucc c)
  in2f : ∀ i a c, IsReal (D.in2f i a c)
  ow1 : ∀ (i : Fin 2) a c, IsReal (D.ow1 i.castSucc a c)
  ob1 : ∀ (i : Fin 2) c, IsReal (D.ob1 i.castSucc c)
  ow2 : ∀ (i : Fin 2) a c, IsReal (D.ow2 i.castSucc a c)
  ob2 : ∀ (i : Fin 2) c, IsReal (D.ob2 i.castSucc c)
  off : ∀ k, IsReal (D.off k)
  q : IsReal D.q
  det : det D ≠ 0
  num : 0 ≤ num D

end Cert.Proof.Spec
-- ==== Proof.Reals.lean ====
/- Which of the batch's numbers are real, and the laws of the extended reals the two programs differ by. -/
module

public import proofs.«01_k».proof.Proof.Spec

@[expose] public section

noncomputable section

namespace Cert.Proof.Spec

open Idealize.ShloMosaic

/-! ### Real numbers among the extended reals -/

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => simpa using IsReal.zero
  | insert i s hi ih => rw [Finset.sum_insert hi]; exact (h i).add ih

theorem IsReal.exp {x : EReal} : IsReal x → IsReal (Ideal.exp x) := by
  rintro ⟨a, rfl⟩; exact ⟨_, Ideal.exp_coe a⟩

theorem IsReal.cos {x : EReal} : IsReal x → IsReal (Ideal.cos x) := by
  rintro ⟨a, rfl⟩; exact ⟨_, Ideal.cos_coe a⟩

theorem IsReal.max {x y : EReal} (hx : IsReal x) (hy : IsReal y) : IsReal (max x y) := by
  rcases max_choice x y with h | h <;> rw [h] <;> assumption

theorem IsReal.neg {x : EReal} : IsReal x → IsReal (-x) := by
  rintro ⟨a, rfl⟩; exact ⟨-a, (EReal.coe_neg a).symm⟩

theorem IsReal.div {x : EReal} {y : ℝ} (hx : IsReal x) (hy : y ≠ 0) : IsReal (Ideal.div x y) := by
  rw [Ideal.div_coe hy]; exact hx.mul (.coe _)

theorem IsReal.ssp {x : EReal} (hx : IsReal x) : IsReal (ssp x) := by
  refine IsReal.sub (IsReal.add (hx.max .zero) ?_) (.coe _)
  obtain ⟨r, hr⟩ := IsReal.sub .zero (hx.max hx.neg)
  rw [hr, Ideal.exp_coe, Ideal.log1p, ← EReal.coe_one, ← EReal.coe_add, Ideal.log_coe, if_neg]
  · exact ⟨_, rfl⟩
  · have := Real.exp_pos r; linarith

theorem IsReal.mlp {n k l : ℕ} {w1 : Fin n → Fin k → EReal} {b1 : Fin k → EReal} {w2 : Fin k → Fin l → EReal}
    {b2 : Fin l → EReal} {x : Fin n → EReal} (h1 : ∀ a c, IsReal (w1 a c)) (h2 : ∀ c, IsReal (b1 c))
    (h3 : ∀ a c, IsReal (w2 a c)) (h4 : ∀ c, IsReal (b2 c)) (hx : ∀ c, IsReal (x c)) (f : Fin l) :
    IsReal (mlp w1 b1 w2 b2 x f) :=
  (IsReal.sum _ _ fun c => (IsReal.ssp ((IsReal.sum _ _ fun k => (hx k).mul (h1 k c)).add (h2 c))).mul (h3 c f)).add (h4 f)

/-! ### The literals -/

theorem lit_one : lit 0x3F800000#32 = 1 := by
  simp [Ideal.ofBits, Ideal.ieee, -EReal.coe_mul]; norm_num

theorem lit_half : lit 0x3F000000#32 = ((1 / 2 : ℝ) : EReal) := by
  simp [Ideal.ofBits, Ideal.ieee, -EReal.coe_mul]; norm_num

theorem lit_neg_half : lit 0xBF000000#32 = ((-(1 / 2) : ℝ) : EReal) := by
  simp [Ideal.ofBits, Ideal.ieee, -EReal.coe_mul]; norm_num

theorem lit_two : lit 0x40000000#32 = ((2 : ℝ) : EReal) := by
  simp [Ideal.ofBits, Ideal.ieee, -EReal.coe_mul]; norm_num

theorem lit_five : lit 0x40A00000#32 = ((5 : ℝ) : EReal) := by
  simp [Ideal.ofBits, Ideal.ieee, -EReal.coe_mul]; norm_num

theorem lit_49 : lit 0x42440000#32 = ((49 : ℝ) : EReal) := by
  simp [Ideal.ofBits, Ideal.ieee, -EReal.coe_mul]; norm_num

theorem lit_third : lit 0x3EAAAAAB#32 = ((11184811 / 33554432 : ℝ) : EReal) := by
  simp [Ideal.ofBits, Ideal.ieee, -EReal.coe_mul]; norm_num

theorem lit_pi : ∃ r : ℝ, lit 0x40490FDB#32 = (r : EReal) := by
  simp [Ideal.ofBits, Ideal.ieee, -EReal.coe_mul]

theorem lit_eps : ∃ r : ℝ, 0 ≤ r ∧ lit 0x322BCC77#32 = (r : EReal) := by
  refine ⟨11258999 / 1125899906842624, by norm_num, ?_⟩
  simp [Ideal.ofBits, Ideal.ieee, -EReal.coe_mul]; norm_num

/-! ### The features stay real -/

variable {D : Data}

theorem IsReal.sqrt_add_sq {f : Fin 3 → EReal} (h : ∀ c, IsReal (f c)) :
    IsReal (Ideal.sqrt ((∑ c : Fin 3, f c * f c) + lit 0x322BCC77#32)) := by
  obtain ⟨e, he, hl⟩ := lit_eps
  choose g hg using h
  have hs : (∑ c : Fin 3, f c * f c) + lit 0x322BCC77#32 = (((∑ c, g c * g c) + e : ℝ) : EReal) := by
    rw [hl]; simp only [Fin.sum_univ_three, hg]; push_cast; rfl
  rw [hs, Ideal.sqrt_coe, if_neg]
  · exact ⟨_, rfl⟩
  · exact not_lt.2 (add_nonneg (Finset.sum_nonneg fun c _ => mul_self_nonneg _) he)

theorem Tame.dist (h : Tame D) (a : Fin 512) (j : Fin 32) : IsReal (dist D a j) :=
  IsReal.sqrt_add_sq fun c => (h.pos _ c).sub (h.pos _ c)

theorem Tame.cut {d : EReal} (hd : IsReal d) : IsReal (cut d) := by
  unfold Spec.cut
  split_ifs
  · obtain ⟨p, hp⟩ := lit_pi
    rw [lit_half, lit_five]
    refine (IsReal.coe _).mul (IsReal.add (IsReal.cos (IsReal.div (IsReal.mul ?_ hd) (by norm_num))) .one)
    exact ⟨p, hp⟩
  · exact .zero

theorem Tame.filt (h : Tame D) (i : Fin 2) {d : EReal} (hd : IsReal d) (f : Fin 128) : IsReal (filt D i.castSucc d f) :=
  (IsReal.mlp (h.fw1 i) (h.fb1 i) (h.fw2 i) (h.fb2 i)
    (fun k => ((h.q.mul ((hd.sub (h.off k)).mul (hd.sub (h.off k)))).exp)) f).mul (Tame.cut hd)

theorem Tame.feat (h : Tame D) (i : Fin 3) {x : Fin 512 → Fin 128 → EReal} (hx : ∀ a f, IsReal (x a f)) (a : Fin 512)
    (f : Fin 128) : IsReal (feat D i x a f) :=
  IsReal.sum _ _ fun k => (hx a k).mul (h.in2f i k f)

theorem Tame.layer (h : Tame D) (i : Fin 2) {x : Fin 512 → Fin 128 → EReal} (hx : ∀ a f, IsReal (x a f)) (a : Fin 512)
    (f : Fin 128) : IsReal (layer D i.castSucc x a f) :=
  (hx a f).add (IsReal.mlp (h.ow1 i) (h.ob1 i) (h.ow2 i) (h.ob2 i)
    (fun g => IsReal.sum _ _ fun j => (h.feat i.castSucc hx _ g).mul (h.filt i (h.dist a j) g)) f)

theorem Tame.x0 (h : Tame D) (a : Fin 512) (f : Fin 128) : IsReal (x0 D a f) := h.emb _ f
theorem Tame.x1 (h : Tame D) : ∀ a f, IsReal (Spec.layer D 0 (Spec.x0 D) a f) := h.layer 0 h.x0
theorem Tame.x2 (h : Tame D) : ∀ a f, IsReal (Spec.layer D 1 (Spec.layer D 0 (Spec.x0 D)) a f) := h.layer 1 h.x1

/-! ### A row taken by a product with zeros and ones -/

/-- A real number is the sum of the three parts it is split into. -/
theorem split_sum {t : EReal} (h : IsReal t) : t + (t - t) + (t - t - (t - t)) = t := by
  obtain ⟨r, rfl⟩ := h
  norm_cast; simp

/-- The sum against an indicator is the entry it marks. -/
theorem sum_indicator {n : ℕ} (i : Fin n) (e x : Fin n → EReal) (he : ∀ k, e k = if k = i then 1 else 0) :
    ∑ k, e k * x k = x i := by
  rw [Finset.sum_eq_single i]
  · rw [he, if_pos rfl, one_mul]
  · intro k _ hk; rw [he, if_neg hk, zero_mul]
  · intro h; exact absurd (Finset.mem_univ _) h

/-- Three products with one indicator, against the three parts of real numbers, take the row. -/
theorem gather_split {n : ℕ} (i : Fin n) (e x : Fin n → EReal) (he : ∀ k, e k = if k = i then 1 else 0)
    (hx : IsReal (x i)) :
    ∑ k, e k * x k + ∑ k, e k * (x k - x k) + ∑ k, e k * (x k - x k - (x k - x k)) = x i := by
  rw [sum_indicator i e _ he, sum_indicator i e (fun k => x k - x k) he,
    sum_indicator i e (fun k => x k - x k - (x k - x k)) he, split_sum hx]

/-- A sum whose terms vanish from `m` on is the sum of its first `m` terms. -/
theorem sum_pad {m n : ℕ} (hmn : m ≤ n) (f : Fin n → EReal) (h : ∀ k : Fin n, m ≤ k.val → f k = 0) :
    ∑ k, f k = ∑ k : Fin m, f (k.castLE hmn) := by
  obtain ⟨d, rfl⟩ := Nat.exists_eq_add_of_le hmn
  rw [Fin.sum_univ_add, Finset.sum_eq_zero (s := (Finset.univ : Finset (Fin d))), add_zero]
  · rfl
  · intro k _; exact h _ (by simp)

/-! ### The other differences -/

/-- Multiplying by the reciprocal of a number that is not zero is dividing by it. -/
theorem mul_div_one {x y : EReal} (hy : y ≠ 0) : x * Ideal.div 1 y = Ideal.div x y := by
  unfold Ideal.div; rw [if_neg hy, if_neg hy, one_mul]

/-- A power of a number that is not negative is the exponential of the product with its logarithm. -/
theorem pow_eq_exp_log {x : EReal} (hx : 0 ≤ x) {y : ℝ} (hy : 0 < y) :
    Ideal.pow x y = Ideal.exp (Ideal.log x * y) := by
  induction x using EReal.rec with
  | bot => simp at hx
  | top =>
    rw [Ideal.pow_top, if_pos (by exact_mod_cast hy), Ideal.log_top, EReal.top_mul_coe_of_pos hy, Ideal.exp_top]
  | coe r =>
    have hr : 0 ≤ r := by exact_mod_cast hx
    rw [Ideal.pow_coe_coe, Ideal.log_coe]
    split_ifs with h
    · have : r = 0 := le_antisymm h hr
      subst this
      rw [EReal.bot_mul_coe_of_pos hy, Ideal.exp_bot]
      exact_mod_cast Real.zero_rpow hy.ne'
    · rw [← EReal.coe_mul, Ideal.exp_coe]
      exact_mod_cast Real.rpow_def_of_pos (not_le.1 h) y

end Cert.Proof.Spec
-- ==== Proof.LayerPay.lean ====
/- The kernel's operations of the neighbour sums and of the layers, read at an index: one block of 128 atoms and their
   4096 edges at a time. -/
module

public import proofs.«01_k».proof.Proof.Gen.KernelIdeal.Skeleton
public import proofs.«01_k».proof.Proof.Reals
public import Idealize.ShloMosaic.Lib.Pointwise
public import Idealize.ShloMosaic.PureOps.IdealRules

@[expose] public section

set_option maxRecDepth 16384

noncomputable section

namespace Cert.Proof.LayerPay

open Idealize.ShloMosaic Cert.KernelIdeal Cert.KernelIdeal.Gen Cert.Proof.Spec

/-! ### Indicators -/

/-- A comparison of words widened to a float is one or zero. -/
theorem sitofp_eq (x y : BitVec 32) :
    FloatOps.sitofp (F := Ideal) .f32 (BitVec.setWidth 32 (IntOp.cmpi .eq x y)) = if x = y then 1 else 0 := by
  show (((BitVec.setWidth 32 (BitVec.ofBool (x == y))).toInt : ℝ) : EReal) = _
  by_cases h : x = y
  · subst h; simp
  · rw [if_neg h, beq_eq_false_iff_ne.2 h]; simp

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A coordinate compared with a word that names coordinate `i`. -/
theorem sitofp_fin {n : ℕ} (hn : n ≤ 2 ^ 32) (k i : Fin n) (w : BitVec 32) (hw : w = BitVec.ofNat 32 i.val) :
    FloatOps.sitofp (F := Ideal) .f32 (BitVec.setWidth 32 (IntOp.cmpi .eq (BitVec.ofNat 32 k.val) w))
      = if k = i then 1 else 0 := by
  rw [sitofp_eq, hw]
  simp only [ofNat_eq_iff (lt_of_lt_of_le k.isLt hn) (lt_of_lt_of_le i.isLt hn), Fin.ext_iff]

/-- The kernel's `log 2`. -/
theorem named_ln2 : Named.named (F := Ideal) (φ := .f32) κ "ln2" 0x3F317218#32 = ln2 :=
  IdealRules.named_const.ideal_named_scalar _ _ _ _ rfl

/-- The shifted softplus as the kernel writes it. -/
theorem ssp_eq (x : EReal) :
    max x 0 + Ideal.log1p (Ideal.exp (0 - FloatOps.absf (F := Ideal) (φ := .f32) x))
      - Named.named (F := Ideal) (φ := .f32) κ "ln2" 0x3F317218#32 = ssp x := by
  rw [named_ln2]; rfl

/-! ### The embedding -/

theorem pay14_apply (D : Data) (hD : Tame D) (v2 : Vec Ideal S1x512x1 .i32) (v10 : Vec Ideal S100x128 .f32)
    (h2 : ∀ a : Fin 512, v2 (ix3 0 a 0) = BitVec.ofNat 32 (D.z a).val)
    (h10 : ∀ (k : Fin 100) (f : Fin 128), v10 (ix2 k f) = D.emb k f) (a : Fin 512) (f : Fin 128) :
    k0_pay14 v2 v10 (ix2 a f) = x0 D a f := by
  pointwise [k0_pay14]
  simp only [h10]
  exact gather_split (D.z a) _ (fun k => D.emb k f) (fun k => sitofp_fin (by norm_num) k _ _ (h2 a)) (hD.emb _ _)

/-! ### The distances -/

/-- The atom of an edge, of the block's edges counted from the block's start. -/
def atomOf (b : Fin 4) (r : Fin 4096) : Fin 512 := ⟨b.val * 128 + r.val / 32, by omega⟩

/-- The place of an edge among its atom's. -/
def slotOf (r : Fin 4096) : Fin 32 := ⟨r.val % 32, by omega⟩

theorem divFloor : ∀ r : Fin 4096,
    Scalar.select
        (IntOp.andi
          (IntOp.cmpi .ne
            (IntOp.subi (BitVec.setWidth 32 (IntOp.cmpi .sgt (BitVec.ofNat 32 r.val) 0#32))
              (BitVec.setWidth 32 (IntOp.cmpi .slt (BitVec.ofNat 32 r.val) 0#32)))
            (Scalar.subi (Scalar.extui (Scalar.cmpi .sgt 32#32 0#32)) (Scalar.extui (Scalar.cmpi .slt 32#32 0#32))))
          (IntOp.cmpi .ne (IntOp.remsi .vector (BitVec.ofNat 32 r.val) 32#32) 0#32))
        (IntOp.subi (IntOp.divsi .vector (BitVec.ofNat 32 r.val) 32#32) 1#32)
        (IntOp.divsi .vector (BitVec.ofNat 32 r.val) 32#32) = BitVec.ofNat 32 (r.val / 32) := by
  decide +kernel

/-- The block's atoms repeated along their edges. -/
theorem pay17_apply (r : Fin 4096) (k : Fin 128) :
    k0_pay17 (F := Ideal) (iota .tc S4096x128 32 [0] iota_S4096x128_d0_w32) (iota .tc S4096x128 32 [1] iota_S4096x128_d1_w32)
        32#32 k0_pay15 k0_pay16 (ix2 r k)
      = if k = ⟨r.val / 32, by omega⟩ then 1 else 0 := by
  pointwise [k0_pay17, k0_pay15, k0_pay16]
  rw [sitofp_eq]
  refine if_congr ?_ rfl rfl
  rw [divFloor r, ofNat_eq_iff (by omega) (by omega), Fin.ext_iff]
  exact eq_comm

theorem pay2_apply (D : Data) (hD : Tame D) (b : Fin 4) (v1 : Vec Ideal S512x128 .f32) (v547 : Vec Ideal S1x4096x1 .i32)
    (v560 : Vec Ideal S1x128x128 .f32) (h1 : ∀ (a : Fin 512) (c : Fin 3), v1 (ix2 a (c.castLE (by norm_num))) = D.pos a c)
    (h547 : ∀ r : Fin 4096, v547 (ix3 0 r 0) = BitVec.ofNat 32 (D.nb (atomOf b r) (slotOf r)).val)
    (h560 : ∀ (a : Fin 128) (c : Fin 3), v560 (ix3 0 a (c.castLE (by norm_num))) = D.pos ⟨b.val * 128 + a.val, by omega⟩ c)
    (r : Fin 4096) :
    k0_pay2 (iota .tc S4096x512 32 [1] iota_S4096x512_d1_w32)
        (k0_pay17 (iota .tc S4096x128 32 [0] iota_S4096x128_d0_w32) (iota .tc S4096x128 32 [1] iota_S4096x128_d1_w32)
          32#32 k0_pay15 k0_pay16) (k0_pay21 v1) (k0_pay22 v1) (k0_pay23 v1) v547 v560 (ix2 r 0)
      = ∑ c : Fin 3, (D.pos (D.nb (atomOf b r) (slotOf r)) c - D.pos (atomOf b r) c)
          * (D.pos (D.nb (atomOf b r) (slotOf r)) c - D.pos (atomOf b r) c) := by
  have hj : ∀ c : Fin 3,
      ∑ x : Fin 512, FloatOps.sitofp (F := Ideal) .f32 (BitVec.setWidth 32 (IntOp.cmpi .eq (BitVec.ofNat 32 x.val) (v547 (ix3 0 r 0))))
            * v1 (ix2 x (c.castLE (by norm_num)))
          + ∑ x : Fin 512, FloatOps.sitofp (F := Ideal) .f32 (BitVec.setWidth 32 (IntOp.cmpi .eq (BitVec.ofNat 32 x.val) (v547 (ix3 0 r 0))))
            * (v1 (ix2 x (c.castLE (by norm_num))) - v1 (ix2 x (c.castLE (by norm_num))))
          + ∑ x : Fin 512, FloatOps.sitofp (F := Ideal) .f32 (BitVec.setWidth 32 (IntOp.cmpi .eq (BitVec.ofNat 32 x.val) (v547 (ix3 0 r 0))))
            * (v1 (ix2 x (c.castLE (by norm_num))) - v1 (ix2 x (c.castLE (by norm_num)))
              - (v1 (ix2 x (c.castLE (by norm_num))) - v1 (ix2 x (c.castLE (by norm_num)))))
        = D.pos (D.nb (atomOf b r) (slotOf r)) c := fun c => by
    simp only [h1]
    exact gather_split _ _ (fun k => D.pos k c) (fun k => sitofp_fin (by norm_num) k _ _ (h547 r)) (hD.pos _ _)
  have hi : ∀ (e : Fin 128 → EReal) (_ : ∀ k, e k = if k = ⟨r.val / 32, by omega⟩ then 1 else 0) (c : Fin 3),
      ∑ x : Fin 128, e x * v560 (ix3 0 x (c.castLE (by norm_num)))
          + ∑ x : Fin 128, e x * (v560 (ix3 0 x (c.castLE (by norm_num))) - v560 (ix3 0 x (c.castLE (by norm_num))))
          + ∑ x : Fin 128, e x * (v560 (ix3 0 x (c.castLE (by norm_num))) - v560 (ix3 0 x (c.castLE (by norm_num)))
              - (v560 (ix3 0 x (c.castLE (by norm_num))) - v560 (ix3 0 x (c.castLE (by norm_num)))))
        = D.pos (atomOf b r) c := fun e he c => by
    simp only [h560]
    exact gather_split _ e (fun k : Fin 128 => D.pos ⟨b.val * 128 + k.val, by omega⟩ c) he (hD.pos _ _)
  have he := pay17_apply r
  generalize k0_pay17 (F := Ideal) (iota .tc S4096x128 32 [0] iota_S4096x128_d0_w32)
    (iota .tc S4096x128 32 [1] iota_S4096x128_d1_w32) 32#32 k0_pay15 k0_pay16 = p at he ⊢
  pointwise [k0_pay2, k0_pay18, k0_pay19, k0_pay20, k0_pay21, k0_pay22, k0_pay23]
  have j0 := hj 0; have j1 := hj 1; have j2 := hj 2
  have i0 := hi _ he 0; have i1 := hi _ he 1; have i2 := hi _ he 2
  simp only [show (Fin.castLE (n := 3) (m := 128) (by norm_num) 0) = 0 from rfl,
    show (Fin.castLE (n := 3) (m := 128) (by norm_num) 1) = 1 from rfl,
    show (Fin.castLE (n := 3) (m := 128) (by norm_num) 2) = 2 from rfl] at j0 j1 j2 i0 i1 i2
  rw [j0, j1, j2, i0, i1, i2, Fin.sum_univ_three, add_right_comm]

/-- What the kernel keeps of an edge: its radial functions, and its cutoff in column 50. -/
def edge (D : Data) (coff : Fin 128 → EReal) (d : EReal) (f : Fin 128) : EReal :=
  if f = 50 then cut d else Ideal.exp (D.q * ((d - coff f) * (d - coff f)))

theorem pay24_apply (D : Data) (v64 : Vec Ideal S1x128 .f32) (v66 : Vec Ideal S1x1 .f32) (v588 : FVec Ideal S4096x1 .f32)
    (h66 : v66 (ix2 0 0) = D.q) (r : Fin 4096) (f : Fin 128) :
    k0_pay24 v64 v66 v588 k0_pay3 (ix2 r f)
      = edge D (fun f => v64 (ix2 0 f)) (Ideal.sqrt (v588 (ix2 r 0) + lit 0x322BCC77#32)) f := by
  pointwise [k0_pay24, k0_pay3]
  rw [h66]
  unfold edge
  have hc : IntOp.cmpi .eq (BitVec.ofNat 32 f.val) 50#32 = BitVec.ofBool (decide (f = 50)) := by
    revert f; decide +kernel
  rw [hc]
  by_cases h : f = 50
  · rw [if_pos h, decide_eq_true h]; rfl
  · rw [if_neg h, decide_eq_false h]; rfl

/-! ### A layer's filters, gather and messages -/

theorem pay4_apply (D : Data) (b : Fin 4) (v89 : Vec Ideal S512x128 .f32) (v547 : Vec Ideal S1x4096x1 .i32)
    (h547 : ∀ r : Fin 4096, v547 (ix3 0 r 0) = BitVec.ofNat 32 (D.nb (atomOf b r) (slotOf r)).val)
    (hx : ∀ (a : Fin 512) (f : Fin 128), IsReal (v89 (ix2 a f))) (r : Fin 4096) (f : Fin 128) :
    k0_pay4 (iota .tc S4096x512 32 [1] iota_S4096x512_d1_w32) (k0_pay30 v89) (k0_pay31 v89) (k0_pay32 v89) v547 (ix2 r f)
      = v89 (ix2 (D.nb (atomOf b r) (slotOf r)) f) := by
  pointwise [k0_pay4, k0_pay30, k0_pay31, k0_pay32, k0_pay29, k0_pay28, k0_pay27]
  exact gather_split _ _ (fun k => v89 (ix2 k f)) (fun k => sitofp_fin (by norm_num) k _ _ (h547 r)) (hx _ _)

theorem pay6_apply (v560 : Vec Ideal S4096x128 .f32) (v562 : Vec Ideal S1x128x128 .f32) (v565 : Vec Ideal S1x1x128 .f32)
    (r : Fin 4096) (f : Fin 128) :
    k0_pay6 v560 v562 v565 (ix2 r f) = ssp ((∑ k, v560 (ix2 r k) * v562 (ix3 0 k f)) + v565 (ix3 0 0 f)) := by
  pointwise [k0_pay6]
  exact ssp_eq _

theorem pay5_apply (v560 : Vec Ideal S4096x128 .f32) (r : Fin 4096) : k0_pay5 v560 (ix2 r 0) = v560 (ix2 r 50) := by
  pointwise [k0_pay5]

theorem pay33_apply (v558 : FVec Ideal S4096x128 .f32) (v561 : FVec Ideal S4096x1 .f32) (v578 : FVec Ideal S4096x128 .f32)
    (v579 : Vec Ideal S1x128x128 .f32) (v582 : Vec Ideal S1x1x128 .f32) (a : Fin 128) (f : Fin 128) :
    k0_pay33 v558 v561 v578 v579 v582 (ix2 a f)
      = ∑ j : Fin 32, v558 (ix2 ⟨a.val * 32 + j.val, by omega⟩ f)
          * (((∑ k, v578 (ix2 ⟨a.val * 32 + j.val, by omega⟩ k) * v579 (ix3 0 k f)) + v582 (ix3 0 0 f))
              * v561 (ix2 ⟨a.val * 32 + j.val, by omega⟩ 0)) := by
  pointwise [k0_pay33]

/-- A block's part of a layer: the messages to the block's atoms, summed over each atom's neighbours. -/
theorem block_apply (D : Data) (i : Fin 3) (b : Fin 4) (coff : Fin 128 → EReal) (x : Fin 512 → Fin 128 → EReal)
    (hx : ∀ a f, IsReal (feat D i x a f)) (v89 : Vec Ideal S512x128 .f32) (v547 : Vec Ideal S1x4096x1 .i32)
    (v560 : Vec Ideal S4096x128 .f32) (v562 : Vec Ideal S1x128x128 .f32) (v565 : Vec Ideal S1x1x128 .f32)
    (v579 : Vec Ideal S1x128x128 .f32) (v582 : Vec Ideal S1x1x128 .f32)
    (h547 : ∀ r : Fin 4096, v547 (ix3 0 r 0) = BitVec.ofNat 32 (D.nb (atomOf b r) (slotOf r)).val)
    (h89 : ∀ (a : Fin 512) (f : Fin 128), v89 (ix2 a f) = feat D i x a f)
    (h560 : ∀ (r : Fin 4096) (f : Fin 128), v560 (ix2 r f) = edge D coff (dist D (atomOf b r) (slotOf r)) f)
    (hcoff : ∀ k : Fin 50, coff (k.castLE (by norm_num)) = D.off k)
    (h562 : ∀ (k : Fin 50) (f : Fin 128), v562 (ix3 0 (k.castLE (by norm_num)) f) = D.fw1 i k f)
    (h562' : ∀ k f : Fin 128, 50 ≤ k.val → v562 (ix3 0 k f) = 0)
    (h565 : ∀ f : Fin 128, v565 (ix3 0 0 f) = D.fb1 i f)
    (h579 : ∀ k f : Fin 128, v579 (ix3 0 k f) = D.fw2 i k f)
    (h582 : ∀ f : Fin 128, v582 (ix3 0 0 f) = D.fb2 i f) (a : Fin 128) (f : Fin 128) :
    k0_pay33 (k0_pay4 (iota .tc S4096x512 32 [1] iota_S4096x512_d1_w32) (k0_pay30 v89) (k0_pay31 v89) (k0_pay32 v89) v547)
        (k0_pay5 v560) (k0_pay6 v560 v562 v565) v579 v582 (ix2 a f)
      = conv D i x ⟨b.val * 128 + a.val, by omega⟩ f := by
  rw [pay33_apply]
  refine Finset.sum_congr rfl fun j _ => ?_
  have ha : atomOf b ⟨a.val * 32 + j.val, by omega⟩ = ⟨b.val * 128 + a.val, by omega⟩ :=
    Fin.ext (by show b.val * 128 + (a.val * 32 + j.val) / 32 = _; dsimp only; omega)
  have hs : slotOf ⟨a.val * 32 + j.val, by omega⟩ = j :=
    Fin.ext (by show (a.val * 32 + j.val) % 32 = _; omega)
  rw [pay4_apply D b v89 v547 h547 (fun a f => by rw [h89]; exact hx a f), h89, pay5_apply, h560, ha, hs]
  have hcut : edge D coff (dist D ⟨b.val * 128 + a.val, by omega⟩ j) 50
      = cut (dist D ⟨b.val * 128 + a.val, by omega⟩ j) := if_pos rfl
  rw [hcut]
  refine congrArg (_ * ·) (congrArg (· * _) ?_)
  rw [h582]
  refine congrArg (· + _) (Finset.sum_congr rfl fun c _ => ?_)
  rw [h579, pay6_apply, h565]
  refine congrArg (fun t => ssp (t + _) * _) ?_
  simp only [h560, ha, hs]
  rw [sum_pad (m := 50) (by norm_num) _ fun k hk => by rw [h562' k c hk, mul_zero]]
  refine Finset.sum_congr rfl fun k _ => ?_
  rw [h562, edge, if_neg (by intro h; have := congrArg Fin.val h; have h2 := k.isLt; simp at this; omega), hcoff]
  rfl

/-! ### A layer's dense maps -/

theorem pay25_apply (v82 : Vec Ideal S512x128 .f32) (v83 : Vec Ideal S1x128x128 .f32) (a : Fin 512) (f : Fin 128) :
    k0_pay25 v82 v83 (ix2 a f) = ∑ k, v82 (ix2 a k) * v83 (ix3 0 k f) := by
  pointwise [k0_pay25]

theorem pay34_apply (v104 : Vec Ideal S512x128 .f32) (v105 : Vec Ideal S1x128x128 .f32) (v108 : Vec Ideal S1x1x128 .f32)
    (a : Fin 512) (f : Fin 128) :
    k0_pay34 v104 v105 v108 (ix2 a f) = ssp ((∑ k, v104 (ix2 a k) * v105 (ix3 0 k f)) + v108 (ix3 0 0 f)) := by
  pointwise [k0_pay34]
  exact ssp_eq _

theorem pay36_apply (v104 : Vec Ideal S512x128 .f32) (v105 : Vec Ideal S1x128x128 .f32) (v108 : Vec Ideal S1x1x128 .f32)
    (v122 : Vec Ideal S1x128x128 .f32) (v125 : Vec Ideal S1x1x128 .f32) (v129 : Vec Ideal S512x128 .f32) (a : Fin 512)
    (f : Fin 128) :
    k0_pay36 (k0_pay34 v104 v105 v108) (k0_pay35 v122) v125 v129 (ix2 a f)
      = v129 (ix2 a f) + mlp (fun k c => v105 (ix3 0 k c)) (fun c => v108 (ix3 0 0 c)) (fun k c => v122 (ix3 0 k c))
          (fun c => v125 (ix3 0 0 c)) (fun k => v104 (ix2 a k)) f := by
  pointwise [k0_pay36, k0_pay35]
  simp only [pay34_apply]
  rfl

end Cert.Proof.LayerPay
-- ==== Proof.Fits.lean ====
/- What it is for a step's operand blocks to be a batch's inputs. -/
module

public import proofs.«01_k».proof.Proof.Gen.KernelIdeal.Skeleton
public import proofs.«01_k».proof.Proof.Reals
public import Idealize.ShloMosaic.Lib.Pointwise

@[expose] public section

set_option maxRecDepth 16384

noncomputable section

namespace Cert.Proof

open Idealize.ShloMosaic Cert.KernelIdeal Cert.Proof.Spec

/-- The kernel's padded column of a short column. -/
abbrev wide {n : ℕ} (k : Fin n) (h : n ≤ 128 := by norm_num) : Fin 128 := k.castLE h

/-- The operand blocks of one step hold the batch `D`, its short arrays padded to 128 with zeros where the body reads them. -/
structure Fits (D : Data) (x0 : Vec Ideal S1x512x128 .f32) (x1 : Vec Ideal S1x3x3 .f32) (x2 : Vec Ideal S1x512x1 .f32) (x3 : Vec Ideal S1x512x1 .i32) (x4 : Vec Ideal S1x16384x1 .i32) (x5 : Vec Ideal S100x128 .f32) (x6 : Vec Ideal S3x128x128 .f32) (x7 : Vec Ideal S3x1x128 .f32) (x8 : Vec Ideal S3x128x128 .f32) (x9 : Vec Ideal S3x1x128 .f32) (x10 : Vec Ideal S3x128x128 .f32) (x11 : Vec Ideal S3x128x128 .f32) (x12 : Vec Ideal S3x1x128 .f32) (x13 : Vec Ideal S3x128x128 .f32) (x14 : Vec Ideal S3x1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S1x128 .f32) (x22 : Vec Ideal S1x1 .f32) : Prop where
  h0 : ∀ (a : Fin 512) (c : Fin 3), x0 (ix3 0 a (wide c)) = D.pos a c
  h1 : ∀ i j : Fin 3, x1 (ix3 0 i j) = D.cell i j
  h2 : ∀ a : Fin 512, x2 (ix3 0 a 0) = D.mask a
  h3 : ∀ a : Fin 512, x3 (ix3 0 a 0) = BitVec.ofNat 32 (D.z a).val
  h4 : ∀ (a : Fin 512) (j : Fin 32), x4 (ix3 0 ⟨a.val * 32 + j.val, by omega⟩ 0) = BitVec.ofNat 32 (D.nb a j).val
  h5 : ∀ (k : Fin 100) (f : Fin 128), x5 (ix2 k f) = D.emb k f
  h6 : ∀ (i : Fin 3) (k : Fin 50) (f : Fin 128), x6 (ix3 i (wide k) f) = D.fw1 i k f
  h6z : ∀ (i : Fin 3) (k f : Fin 128), 50 ≤ k.val → x6 (ix3 i k f) = 0
  h7 : ∀ (i : Fin 3) (f : Fin 128), x7 (ix3 i 0 f) = D.fb1 i f
  h8 : ∀ (i : Fin 3) (k f : Fin 128), x8 (ix3 i k f) = D.fw2 i k f
  h9 : ∀ (i : Fin 3) (f : Fin 128), x9 (ix3 i 0 f) = D.fb2 i f
  h10 : ∀ (i : Fin 3) (k f : Fin 128), x10 (ix3 i k f) = D.in2f i k f
  h11 : ∀ (i : Fin 3) (k f : Fin 128), x11 (ix3 i k f) = D.ow1 i k f
  h12 : ∀ (i : Fin 3) (f : Fin 128), x12 (ix3 i 0 f) = D.ob1 i f
  h13 : ∀ (i : Fin 3) (k f : Fin 128), x13 (ix3 i k f) = D.ow2 i k f
  h14 : ∀ (i : Fin 3) (f : Fin 128), x14 (ix3 i 0 f) = D.ob2 i f
  h15 : ∀ (f : Fin 128) (c : Fin 3), x15 (ix2 f (wide c)) = D.dw f c
  h16 : ∀ c : Fin 3, x16 (ix2 0 (wide c)) = D.db c
  h17 : ∀ (j : Fin 3) (k : Fin 6), x17 (ix2 (wide j) (wide k)) = D.pw1 j k
  h18 : ∀ k : Fin 6, x18 (ix2 0 (wide k)) = D.pb1 k
  h19 : ∀ (k : Fin 6) (o : Fin 9), x19 (ix2 (wide k) (wide o)) = D.pw2 k o
  h19z : ∀ k o : Fin 128, 6 ≤ k.val → x19 (ix2 k o) = 0
  h20 : ∀ o : Fin 9, x20 (ix2 0 (wide o)) = D.pb2 o
  h21 : ∀ k : Fin 50, x21 (ix2 0 (wide k)) = D.off k
  h22 : x22 (ix2 0 0) = D.q

end Cert.Proof

end
-- ==== Proof.TailPay.lean ====
/- The relaxation of the positions and of the cell, as the kernel's body computes it from the layers' features, read at an
   index. -/
module

public import proofs.«01_k».proof.Proof.KernelStored
public import proofs.«01_k».proof.Proof.LayerPay
public import proofs.«01_k».proof.Proof.Fits

@[expose] public section

set_option maxRecDepth 16384

noncomputable section

namespace Cert.Proof.TailPay

open Idealize.ShloMosaic Cert.KernelIdeal Cert.KernelIdeal.Gen Cert.Proof.Spec Cert.Proof.KernelRun Cert.Proof.LayerPay

/-! ### Three rows or columns selected by their number -/

theorem select_eq (n : ℕ) (hn : n < 2 ^ 32) (k : Fin 128) (x y : EReal) :
    Scalar.select (IntOp.cmpi CmpIPredicate.eq (BitVec.ofNat 32 k.val) (BitVec.ofNat 32 n)) x y
      = if k.val = n then x else y := by
  unfold Scalar.select IntOp.cmpi
  by_cases h : k.val = n
  · subst h; simp
  · have : ¬ BitVec.ofNat 32 k.val = BitVec.ofNat 32 n := by
      rw [ofNat_eq_iff (by omega) hn]; exact h
    rw [if_neg h, show (BitVec.ofNat 32 k.val == BitVec.ofNat 32 n) = false from beq_false_of_ne this]; rfl

theorem pick (k : Fin 128) (u v w : EReal) :
    Scalar.select (IntOp.cmpi CmpIPredicate.eq (BitVec.ofNat 32 k.val) 0#32) u
        (Scalar.select (IntOp.cmpi CmpIPredicate.eq (BitVec.ofNat 32 k.val) 1#32) v
          (Scalar.select (IntOp.cmpi CmpIPredicate.eq (BitVec.ofNat 32 k.val) 2#32) w 0))
      = if k.val = 0 then u else if k.val = 1 then v else if k.val = 2 then w else 0 := by
  rw [select_eq 0 (by norm_num), select_eq 1 (by norm_num), select_eq 2 (by norm_num)]

theorem sum_pick (f u v w : Fin 128 → EReal) :
    ∑ k : Fin 128, f k * (if k.val = 0 then u k else if k.val = 1 then v k else if k.val = 2 then w k else 0)
      = ∑ k : Fin 3, f (wide k) * ![u 0, v 1, w 2] k := by
  rw [sum_pad (m := 3) (by norm_num)]
  · rw [Fin.sum_univ_three, Fin.sum_univ_three]; rfl
  · intro k hk
    rw [if_neg (by omega), if_neg (by omega), if_neg (by omega), mul_zero]

/-! ### The cell and its inverse -/

variable (D : Data)

theorem det_eq : det D = D.cell 0 0 * (D.cell 1 1 * D.cell 2 2 - D.cell 1 2 * D.cell 2 1)
    + D.cell 0 1 * (D.cell 1 2 * D.cell 2 0 - D.cell 1 0 * D.cell 2 2)
    + D.cell 0 2 * (D.cell 1 0 * D.cell 2 1 - D.cell 1 1 * D.cell 2 0) := by
  rw [det, Fin.sum_univ_three]; rfl

theorem inv0 (hD : det D ≠ 0) (x1 : Vec Ideal S1x3x3 .f32) (h1 : ∀ i j : Fin 3, x1 (ix3 0 i j) = D.cell i j) (a : Fin 128)
    (c : Fin 3) : invRow0 x1 (ix2 a (wide c)) = Ideal.div (adj D 0 c) (det D) := by
  rw [← mul_div_one hD, det_eq]
  pointwise [invRow0, recDet, k0_pay78, k0_pay79, k0_pay77, k0_pay69, k0_pay70, entry, k0_pay59, k0_pay60, k0_pay61, k0_pay62, colNo, k0_pay63, k0_pay64, k0_pay65, k0_pay66, k0_pay67, k0_pay68, k0_pay71, k0_pay74]
  rw [pick]; simp only [h1]
  fin_cases c
  · rfl
  · exact congrArg (· * _) (congrArg₂ (· - ·) (mul_comm _ _) (mul_comm _ _))
  · rfl

theorem inv1 (hD : det D ≠ 0) (x1 : Vec Ideal S1x3x3 .f32) (h1 : ∀ i j : Fin 3, x1 (ix3 0 i j) = D.cell i j) (a : Fin 128)
    (c : Fin 3) : invRow1 x1 (ix2 a (wide c)) = Ideal.div (adj D 1 c) (det D) := by
  rw [← mul_div_one hD, det_eq]
  pointwise [invRow1, recDet, k0_pay80, k0_pay77, k0_pay72, k0_pay73, entry, k0_pay59, k0_pay60, k0_pay61, k0_pay62, colNo, k0_pay63, k0_pay64, k0_pay65, k0_pay66, k0_pay67, k0_pay68, k0_pay71, k0_pay74]
  rw [pick]; simp only [h1]
  fin_cases c
  · rfl
  · exact congrArg (· * _) (congrArg₂ (· - ·) (mul_comm _ _) (mul_comm _ _))
  · rfl

theorem inv2 (hD : det D ≠ 0) (x1 : Vec Ideal S1x3x3 .f32) (h1 : ∀ i j : Fin 3, x1 (ix3 0 i j) = D.cell i j) (a : Fin 128)
    (c : Fin 3) : invRow2 x1 (ix2 a (wide c)) = Ideal.div (adj D 2 c) (det D) := by
  rw [← mul_div_one hD, det_eq]
  pointwise [invRow2, recDet, k0_pay81, k0_pay77, k0_pay75, k0_pay76, entry, k0_pay59, k0_pay60, k0_pay61, k0_pay62, colNo, k0_pay63, k0_pay64, k0_pay65, k0_pay66, k0_pay67, k0_pay68, k0_pay71, k0_pay74]
  rw [pick]; simp only [h1]
  fin_cases c
  · rfl
  · exact congrArg (· * _) (congrArg₂ (· - ·) (mul_comm _ _) (mul_comm _ _))
  · rfl

/-! ### The fractional coordinates -/

theorem frV_apply (hD : det D ≠ 0) (z : Vec Ideal S512x128 .f32) (hz : ∀ a f, z (ix2 a f) = x3 D a f) (x0 : Vec Ideal S1x512x128 .f32)
    (h0 : ∀ (a : Fin 512) (c : Fin 3), x0 (ix3 0 a (wide c)) = D.pos a c) (x1 : Vec Ideal S1x3x3 .f32)
    (h1 : ∀ i j : Fin 3, x1 (ix3 0 i j) = D.cell i j) (x15 : Vec Ideal S128x128 .f32)
    (h15 : ∀ (f : Fin 128) (c : Fin 3), x15 (ix2 f (wide c)) = D.dw f c) (x16 : Vec Ideal S1x128 .f32)
    (h16 : ∀ c : Fin 3, x16 (ix2 0 (wide c)) = D.db c) (a : Fin 512) (c : Fin 3) :
    frV z x0 x1 x15 x16 (ix2 a (wide c)) = frac D a c := by
  have hs : k0_pay58 z x15 x16 (ix2 a (wide c)) = shift D a c := by
    pointwise [k0_pay58]
    simp only [hz, h15, h16]; rfl
  have h : ∑ k : Fin 3, k0_pay13 x0 (ix2 a (wide k)) * ![invRow0 x1 (ix2 0 (wide c)), invRow1 x1 (ix2 1 (wide c)),
      invRow2 x1 (ix2 2 (wide c))] k = ∑ k, D.pos a k * Ideal.div (adj D k c) (det D) := by
    refine Finset.sum_congr rfl fun k _ => ?_
    rw [inv0 D hD x1 h1, inv1 D hD x1 h1, inv2 D hD x1 h1]
    congr 1
    · pointwise [k0_pay13]
      exact h0 a k
    · fin_cases k <;> rfl
  unfold frV fracV
  pointwise [k0_pay82, rowNo]
  simp only [pick]
  rw [sum_pick _ (fun k => invRow0 x1 (ix2 k (wide c))) (fun k => invRow1 x1 (ix2 k (wide c))) (fun k => invRow2 x1 (ix2 k (wide c)))]
  rw [h, hs]; rfl

/-! ### The cell head -/

theorem hid_apply (x1 : Vec Ideal S1x3x3 .f32) (h1 : ∀ i j : Fin 3, x1 (ix3 0 i j) = D.cell i j)
    (x17 x19 : Vec Ideal S128x128 .f32) (x18 : Vec Ideal S1x128 .f32)
    (h17 : ∀ (j : Fin 3) (k : Fin 6), x17 (ix2 (wide j) (wide k)) = D.pw1 j k)
    (h18 : ∀ k : Fin 6, x18 (ix2 0 (wide k)) = D.pb1 k)
    (h19 : ∀ (k : Fin 6) (o : Fin 9), x19 (ix2 (wide k) (wide o)) = D.pw2 k o)
    (h19z : ∀ k o : Fin 128, 6 ≤ k.val → x19 (ix2 k o) = 0)
    (fr : FVec Ideal S512x128 .f32) (hfr : ∀ (a : Fin 512) (c : Fin 3), fr (ix2 a (wide c)) = frac D a c) (a : Fin 512) (o : Fin 9) :
    hidV x1 x17 x18 x19 fr (ix2 a (wide o)) = ∑ c, ssp ((∑ k, rep D a k * D.pw1 k c) + D.pb1 c) * D.pw2 c o := by
  pointwise [hidV, k0_pay88, cellRow0, cellRow1, k0_pay83, k0_pay84, k0_pay85, k0_pay86, k0_pay87, rowNo, colNo, entry, k0_pay59, k0_pay60, k0_pay61, k0_pay62, k0_pay63, k0_pay64, k0_pay65, k0_pay66, k0_pay67]
  simp only [pick, h1, sum_pick]
  refine (Finset.sum_congr rfl fun x _ => congrArg (· * _) (ssp_eq _)).trans ?_
  rw [sum_pad (m := 6) (by norm_num)]
  · refine Finset.sum_congr rfl fun k _ => ?_
    rw [← h19, h18]
    congr 3
    rw [sum_pad (m := 3) (by norm_num)]
    · refine Finset.sum_congr rfl fun j _ => ?_
      rw [h17]
      congr 1
      refine Finset.sum_congr rfl fun i _ => ?_
      rw [hfr]
      congr 1
      fin_cases i <;> fin_cases j <;> rfl
    · intro j hj
      rw [Finset.sum_eq_zero, zero_mul]
      intro i _
      have e0 : ¬ j.val = 0 := by omega
      have e1 : ¬ j.val = 1 := by omega
      have e2 : ¬ j.val = 2 := by omega
      simp only [e0, e1, e2, if_false]
      fin_cases i <;> exact mul_zero _
  · intro k hk
    rw [h19z k _ hk, mul_zero]

/-! ### The new cell -/

section New

variable (hid : FVec Ideal S512x128 .f32) (x20 : Vec Ideal S1x128 .f32) (x2 : Vec Ideal S1x512x1 .f32)
  (hm : ∀ o : Fin 9, Ideal.div (∑ a : Fin 512, (hid (ix2 a (wide o)) + x20 (ix2 0 (wide o))) * x2 (ix3 0 a 0))
    (∑ a : Fin 512, x2 (ix3 0 a 0)) = mean D o)
  (hn : ∑ a : Fin 512, x2 (ix3 0 a 0) = num D)

include hm hn

theorem new0 (a : Fin 128) (c : Fin 3) : newRow0 hid x20 x2 (ix2 a (wide c)) = newCell D 0 c := by
  have h0 := hm 0; have h1 := hm 1; have h2 := hm 2
  simp only [hn] at h0 h1 h2
  pointwise [newRow0, k0_pay102, k0_pay94, k0_pay95, k0_pay96, k0_pay92, k0_pay93, k0_pay100, k0_pay101, k0_pay89, k0_pay90, k0_pay91, colNo]
  rw [pick]; simp only [Fin.sum_univ_one, hn]
  fin_cases c
  · exact congrArg (fun t => _ * (1 + t)) h0
  · exact congrArg (fun t => _ * t) (h1.trans (zero_add _).symm)
  · exact congrArg (fun t => _ * t) (h2.trans (zero_add _).symm)

theorem new1 (a : Fin 128) (c : Fin 3) : newRow1 hid x20 x2 (ix2 a (wide c)) = newCell D 1 c := by
  have h0 := hm 3; have h1 := hm 4; have h2 := hm 5
  simp only [hn] at h0 h1 h2
  pointwise [newRow1, k0_pay103, k0_pay97, k0_pay98, k0_pay99, k0_pay92, k0_pay93, k0_pay100, k0_pay101, k0_pay89, k0_pay90, k0_pay91, colNo]
  rw [pick]; simp only [Fin.sum_univ_one, hn]
  fin_cases c
  · exact congrArg (fun t => _ * t) (h0.trans (zero_add _).symm)
  · exact congrArg (fun t => _ * (1 + t)) h1
  · exact congrArg (fun t => _ * t) (h2.trans (zero_add _).symm)

theorem new2 (a : Fin 128) (c : Fin 3) : newRow2 hid x20 x2 (ix2 a (wide c)) = newCell D 2 c := by
  have h0 := hm 6; have h1 := hm 7; have h2 := hm 8
  simp only [hn] at h0 h1 h2
  pointwise [newRow2, k0_pay104, k0_pay92, k0_pay93, k0_pay100, k0_pay101, k0_pay89, k0_pay90, k0_pay91, colNo]
  rw [pick]; simp only [Fin.sum_univ_one, hn]
  fin_cases c
  · exact congrArg (fun t => _ * t) (h0.trans (zero_add _).symm)
  · exact congrArg (fun t => _ * t) (h1.trans (zero_add _).symm)
  · exact congrArg (fun t => _ * (1 + t)) h2

/-- The stored block. -/
theorem outV_apply (fr : FVec Ideal S512x128 .f32) (hfr : ∀ (a : Fin 512) (c : Fin 3), fr (ix2 a (wide c)) = frac D a c)
    (a : Fin 512) (c : Fin 3) : outV fr hid x20 x2 (ix3 0 a c) = out D a c := by
  have h : ∑ k : Fin 3, fr (ix2 a (wide k)) * ![newRow0 hid x20 x2 (ix2 0 (wide c)), newRow1 hid x20 x2 (ix2 1 (wide c)),
      newRow2 hid x20 x2 (ix2 2 (wide c))] k = out D a c := by
    refine Finset.sum_congr rfl fun k _ => ?_
    rw [new0 D hid x20 x2 hm hn, new1 D hid x20 x2 hm hn, new2 D hid x20 x2 hm hn, hfr]
    congr 1
    fin_cases k <;> rfl
  unfold outV
  pointwise [k0_pay1, rowNo, k0_pay105, k0_pay106]
  simp only [pick]
  rw [← h]
  exact sum_pick (fun k => fr (ix2 a k)) (fun k => newRow0 hid x20 x2 (ix2 k (wide c)))
    (fun k => newRow1 hid x20 x2 (ix2 k (wide c))) (fun k => newRow2 hid x20 x2 (ix2 k (wide c)))

end New

end Cert.Proof.TailPay

end
-- ==== Proof.BlockValue.lean ====
/- The block the kernel's body stores is the batch's result. -/
module

public import proofs.«01_k».proof.Proof.TailPay

@[expose] public section

set_option maxRecDepth 16384

noncomputable section

namespace Cert.Proof.BlockValue

open Idealize.ShloMosaic Cert.KernelIdeal Cert.KernelIdeal.Gen Cert.Proof.Spec Cert.Proof.KernelRun Cert.Proof.LayerPay
  Cert.Proof.TailPay

variable {D : Data} {x0 : Vec Ideal S1x512x128 .f32} {x1 : Vec Ideal S1x3x3 .f32} {x2 : Vec Ideal S1x512x1 .f32} {x3 : Vec Ideal S1x512x1 .i32} {x4 : Vec Ideal S1x16384x1 .i32} {x5 : Vec Ideal S100x128 .f32} {x6 : Vec Ideal S3x128x128 .f32} {x7 : Vec Ideal S3x1x128 .f32} {x8 : Vec Ideal S3x128x128 .f32} {x9 : Vec Ideal S3x1x128 .f32} {x10 : Vec Ideal S3x128x128 .f32} {x11 : Vec Ideal S3x128x128 .f32} {x12 : Vec Ideal S3x1x128 .f32} {x13 : Vec Ideal S3x128x128 .f32} {x14 : Vec Ideal S3x1x128 .f32} {x15 : Vec Ideal S128x128 .f32} {x16 : Vec Ideal S1x128 .f32} {x17 : Vec Ideal S128x128 .f32} {x18 : Vec Ideal S1x128 .f32} {x19 : Vec Ideal S128x128 .f32} {x20 : Vec Ideal S1x128 .f32} {x21 : Vec Ideal S1x128 .f32} {x22 : Vec Ideal S1x1 .f32}
  (hF : Fits D x0 x1 x2 x3 x4 x5 x6 x7 x8 x9 x10 x11 x12 x13 x14 x15 x16 x17 x18 x19 x20 x21 x22) (hD : Tame D)

include hF

theorem nbBlk_apply (b : Fin 4) (r : Fin 4096) :
    nbBlk x4 b (ix3 0 r 0) = BitVec.ofNat 32 (D.nb (atomOf b r) (slotOf r)).val := by
  rw [← hF.h4]
  refine congrArg x4 ?_
  refine congrArg (fun t : Fin 16384 => (ix3 0 t 0 : S1x16384x1.Idx)) (Fin.ext ?_)
  show b.val * 4096 + r.val = (b.val * 128 + r.val / 32) * 32 + r.val % 32
  omega

include hD

/-- What the body keeps of every edge. -/
theorem edges_apply (b : Fin 4) (r : Fin 4096) (f : Fin 128) :
    edgeBlk (edges x0 x4 x21 x22) b (ix2 r f) = edge D (fun f => x21 (ix2 0 f)) (dist D (atomOf b r) (slotOf r)) f := by
  have hb : edgeBlk (edges x0 x4 x21 x22) b (ix2 r f) = edgePart x0 x4 x21 x22 b (ix2 r f) := by
    show edgePart x0 x4 x21 x22 ⟨(b.val * 4096 + r.val) / 4096, _⟩ (ix2 ⟨(b.val * 4096 + r.val) % 4096, _⟩ f) = _
    have e1 : (⟨(b.val * 4096 + r.val) / 4096, by omega⟩ : Fin 4) = b := Fin.ext (by show (b.val * 4096 + r.val) / 4096 = _; omega)
    have e2 : (⟨(b.val * 4096 + r.val) % 4096, by omega⟩ : Fin 4096) = r := Fin.ext (by show (b.val * 4096 + r.val) % 4096 = _; omega)
    rw [e1, e2]
  rw [hb, edgePart, pay24_apply D _ _ _ hF.h22, pay2_apply D hD b _ _ _ _ (nbBlk_apply hF b)]
  · rfl
  · intro a c; exact hF.h0 ⟨b.val * 128 + a.val, by omega⟩ c
  · intro a c
    pointwise [k0_pay13]
    exact hF.h0 a c

/-- One layer. -/
theorem layerV_apply (l : Fin 3) (z : Vec Ideal S512x128 .f32) (x : Fin 512 → Fin 128 → EReal) (hx : ∀ a f, IsReal (x a f))
    (hz : ∀ a f, z (ix2 a f) = x a f) (a : Fin 512) (f : Fin 128) :
    layerV x4 (edges x0 x4 x21 x22) x6 x7 x8 x9 x10 x11 x12 x13 x14 l z (ix2 a f) = layer D l x a f := by
  have hfeat : ∀ (a : Fin 512) (f : Fin 128), k0_pay26 (k0_pay25 z (mat x10 l)) (ix2 a f) = feat D l x a f := fun a f => by
    pointwise [k0_pay26]
    rw [pay25_apply]
    refine Finset.sum_congr rfl fun k _ => ?_
    rw [hz]; exact congrArg (_ * ·) (hF.h10 l k f)
  have hagg : ∀ (a : Fin 512) (f : Fin 128), agg x4 (edges x0 x4 x21 x22) (mat x6 l) (row x7 l) (mat x8 l) (row x9 l)
      (k0_pay26 (k0_pay25 z (mat x10 l))) (ix2 a f) = conv D l x a f := fun a f => by
    refine (block_apply D l ⟨a.val / 128, by omega⟩ (fun f => x21 (ix2 0 f)) x (hD.feat l hx) _ _ _ _ _ _ _ (nbBlk_apply hF _) hfeat
      (edges_apply hF hD _) hF.h21 (hF.h6 l) (hF.h6z l) (hF.h7 l) (hF.h8 l) (hF.h9 l) ⟨a.val % 128, by omega⟩ f).trans ?_
    congr 1
    exact Fin.ext (by show a.val / 128 * 128 + a.val % 128 = a.val; omega)
  rw [layerV, pay36_apply, hz]
  simp only [hagg]
  unfold layer
  congr 1
  have e1 : (fun k c => mat x11 l (ix3 0 k c)) = D.ow1 l := funext fun k => funext fun c => hF.h11 l k c
  have e2 : (fun c => row x12 l (ix3 0 0 c)) = D.ob1 l := funext fun c => hF.h12 l c
  have e3 : (fun k c => mat x13 l (ix3 0 k c)) = D.ow2 l := funext fun k => funext fun c => hF.h13 l k c
  have e4 : (fun c => row x14 l (ix3 0 0 c)) = D.ob2 l := funext fun c => hF.h14 l c
  rw [e1, e2, e3, e4]

theorem st3_apply (a : Fin 512) (f : Fin 128) : st3 x0 x3 x4 x5 x6 x7 x8 x9 x10 x11 x12 x13 x14 x21 x22 (ix2 a f) = Spec.x3 D a f :=
  layerV_apply hF hD 2 _ _ hD.x2 (layerV_apply hF hD 1 _ _ hD.x1 (layerV_apply hF hD 0 _ _ hD.x0
    (pay14_apply D hD x3 x5 hF.h3 hF.h5))) a f

/-- The stored block. -/
theorem kval_apply (a : Fin 512) (c : Fin 3) : kval x0 x1 x2 x3 x4 x5 x6 x7 x8 x9 x10 x11 x12 x13 x14 x15 x16 x17 x18 x19 x20 x21 x22 (ix3 0 a c) = out D a c := by
  have hfr := frV_apply D hD.det _ (st3_apply hF hD) x0 hF.h0 x1 hF.h1 x15 hF.h15 x16 hF.h16
  have hn : ∑ a : Fin 512, x2 (ix3 0 a 0) = num D := Finset.sum_congr rfl fun a _ => hF.h2 a
  refine outV_apply D _ _ _ (fun o => ?_) hn _ hfr a c
  rw [hn]
  refine congrArg (Ideal.div · _) (Finset.sum_congr rfl fun a _ => ?_)
  rw [hid_apply D x1 hF.h1 x17 x19 x18 hF.h17 hF.h18 hF.h19 hF.h19z _ hfr, hF.h20, hF.h2]
  rfl

end Cert.Proof.BlockValue

end
-- ==== Proof.Inputs.lean ====
/- The arguments of the call, the batches they hold, and what the precondition says of them. -/
module

public import proofs.«01_k».proof.Proof.Reals
public import Idealize.ShloMosaic.Lib.Pointwise

@[expose] public section

set_option maxRecDepth 16384

noncomputable section

namespace Cert.Proof

open Idealize.ShloMosaic Cert.Proof.Spec

abbrev T1 (n : ℕ) (α : Type) : Type := (⟨1, ![n]⟩ : Shape).Idx → α
abbrev T2 (n k : ℕ) (α : Type) : Type := (⟨2, ![n, k]⟩ : Shape).Idx → α
abbrev T3 (n k l : ℕ) (α : Type) : Type := (⟨3, ![n, k, l]⟩ : Shape).Idx → α

/-- The arguments of the call. -/
structure Inputs where
  a0 : T3 8 512 3 EReal
  a1 : T3 8 3 3 EReal
  a2 : T2 8 512 EReal
  a3 : T2 8 512 (BitVec 32)
  a4 : T3 8 512 32 (BitVec 32)
  a5 : T3 8 512 32 EReal
  a6 : T2 100 128 EReal
  a7 : T3 3 50 128 EReal
  a8 : T2 3 128 EReal
  a9 : T3 3 128 128 EReal
  a10 : T2 3 128 EReal
  a11 : T3 3 128 128 EReal
  a12 : T3 3 128 128 EReal
  a13 : T2 3 128 EReal
  a14 : T3 3 128 128 EReal
  a15 : T2 3 128 EReal
  a16 : T2 128 3 EReal
  a17 : T1 3 EReal
  a18 : T2 3 6 EReal
  a19 : T1 6 EReal
  a20 : T2 6 9 EReal
  a21 : T1 9 EReal

/-- The radial grid: 50 points from 0 to 5. -/
def ramp (k : Fin 50) : EReal :=
  if k.val < 49 then
    lit 0x00000000#32 * (1 - Ideal.div (FloatOps.sitofp (F := Ideal) .f32 (BitVec.ofNat 32 k.val)) (lit 0x42440000#32))
      + lit 0x40A00000#32 * Ideal.div (FloatOps.sitofp (F := Ideal) .f32 (BitVec.ofNat 32 k.val)) (lit 0x42440000#32)
  else lit 0x40A00000#32

/-- The factor of the radial functions' exponent. -/
def factor : EReal := Ideal.div (lit 0xBF000000#32) ((ramp 1 - ramp 0) * (ramp 1 - ramp 0))

/-- One batch of the arguments. -/
def batch (I : Inputs) (b : Fin 8) : Data where
  pos a c := I.a0 (ix3 b a c)
  cell i j := I.a1 (ix3 b i j)
  mask a := I.a2 (ix2 b a)
  z a := ⟨(I.a3 (ix2 b a)).toNat % 100, Nat.mod_lt _ (by norm_num)⟩
  nb a j := ⟨(I.a4 (ix3 b a j)).toNat % 512, Nat.mod_lt _ (by norm_num)⟩
  emb k f := I.a6 (ix2 k f)
  fw1 i k f := I.a7 (ix3 i k f)
  fb1 i f := I.a8 (ix2 i f)
  fw2 i k f := I.a9 (ix3 i k f)
  fb2 i f := I.a10 (ix2 i f)
  in2f i k f := I.a11 (ix3 i k f)
  ow1 i k f := I.a12 (ix3 i k f)
  ob1 i f := I.a13 (ix2 i f)
  ow2 i k f := I.a14 (ix3 i k f)
  ob2 i f := I.a15 (ix2 i f)
  dw f c := I.a16 (ix2 f c)
  db c := I.a17 (ix1 c)
  pw1 j k := I.a18 (ix2 j k)
  pb1 k := I.a19 (ix1 k)
  pw2 k o := I.a20 (ix2 k o)
  pb2 o := I.a21 (ix1 o)
  off := ramp
  q := factor

/-- The result of the call. -/
def result (I : Inputs) : T3 8 512 3 EReal := fun y => out (batch I (y 0)) (y 1) (y 2)

/-- What the precondition says of the arguments. -/
structure Inputs.Ok (I : Inputs) : Prop where
  p0 : ∀ b a c, IsReal (I.a0 (ix3 b a c))
  p6 : ∀ k f, IsReal (I.a6 (ix2 k f))
  p7 : ∀ (i : Fin 2) k f, IsReal (I.a7 (ix3 i.castSucc k f))
  p8 : ∀ (i : Fin 2) f, IsReal (I.a8 (ix2 i.castSucc f))
  p9 : ∀ (i : Fin 2) k f, IsReal (I.a9 (ix3 i.castSucc k f))
  p10 : ∀ (i : Fin 2) f, IsReal (I.a10 (ix2 i.castSucc f))
  p11 : ∀ i k f, IsReal (I.a11 (ix3 i k f))
  p12 : ∀ (i : Fin 2) k f, IsReal (I.a12 (ix3 i.castSucc k f))
  p13 : ∀ (i : Fin 2) f, IsReal (I.a13 (ix2 i.castSucc f))
  p14 : ∀ (i : Fin 2) k f, IsReal (I.a14 (ix3 i.castSucc k f))
  p15 : ∀ (i : Fin 2) f, IsReal (I.a15 (ix2 i.castSucc f))
  nb : ∀ b a j, (I.a4 (ix3 b a j)).toNat < 512
  z : ∀ b a, (I.a3 (ix2 b a)).toNat < 100
  nbm : ∀ b a j, I.a5 (ix3 b a j) = 1
  det : ∀ b, det (batch I b) ≠ 0
  num : ∀ b, 0 ≤ num (batch I b)

theorem sitofp_nat (k : ℕ) (hk : k < 50) : FloatOps.sitofp (F := Ideal) .f32 (BitVec.ofNat 32 k) = ((k : ℝ) : EReal) := by
  show (((BitVec.ofNat 32 k).toInt : ℝ) : EReal) = _
  have h : (BitVec.ofNat 32 k).toInt = (k : ℤ) := by
    rw [BitVec.toInt_eq_toNat_of_lt] <;> simp only [BitVec.toNat_ofNat] <;> omega
  rw [h]; norm_cast

theorem ramp_eq (k : Fin 50) : ∃ r : ℝ, ramp k = (r : EReal) ∧ (k.val < 49 → r = 5 * (k.val / 49)) := by
  unfold ramp
  split_ifs with h
  · refine ⟨5 * (k.val / 49), ?_, fun _ => rfl⟩
    rw [sitofp_nat _ k.isLt, lit_49, Ideal.div_coe (by norm_num), lit_five, show lit 0x00000000#32 = 0 from Ideal.ofBits_zero .f32, zero_mul, zero_add]
    norm_cast; push_cast; ring_nf
  · exact ⟨5, lit_five, fun h' => absurd h' h⟩

theorem ramp_real (k : Fin 50) : IsReal (ramp k) := by
  obtain ⟨r, h, -⟩ := ramp_eq k; exact ⟨r, h⟩

theorem factor_real : IsReal factor := by
  obtain ⟨r0, h0, e0⟩ := ramp_eq 0
  obtain ⟨r1, h1, e1⟩ := ramp_eq 1
  have e0 := e0 (by decide); have e1 := e1 (by decide)
  unfold factor
  rw [h0, h1, ← EReal.coe_sub, ← EReal.coe_mul]
  refine IsReal.div (by rw [lit_neg_half]; exact .coe _) ?_
  rw [e0, e1]; norm_num

/-- A batch of such arguments. -/
theorem Inputs.Ok.tame {I : Inputs} (h : I.Ok) (b : Fin 8) : Tame (batch I b) where
  pos := h.p0 b
  emb := h.p6
  fw1 := h.p7
  fb1 := h.p8
  fw2 := h.p9
  fb2 := h.p10
  in2f := h.p11
  ow1 := h.p12
  ob1 := h.p13
  ow2 := h.p14
  ob2 := h.p15
  off := ramp_real
  q := factor_real
  det := h.det b
  num := h.num b

end Cert.Proof

end
-- ==== Proof.HostBlocks.lean ====
/- The operand blocks of a step are a batch of the arguments. -/
module

public import proofs.«01_k».proof.Proof.Gen.KernelIdeal.Frame
public import proofs.«01_k».proof.Proof.Fits
public import proofs.«01_k».proof.Proof.Inputs
public import Idealize.ShloMosaic.Lib.StableHlo.ReadAt

@[expose] public section

set_option maxRecDepth 16384

noncomputable section

namespace Cert.Proof.HostBlocks

open Idealize.ShloMosaic Idealize.ShloMosaic.TcCoe Cert.KernelIdeal Cert.KernelIdeal.Gen Cert.Proof.Spec
open Idealize.SL Idealize.SL.Sem

variable (m : (ℓ : Loc nD τ sig) → Buf (Elt Ideal) ℓ) (c : Dev nD)

/-- The batch a step works on. -/
def batchNo (t : Fin cfg0.N) : Fin 8 := ⟨t.val, by have h : cfg0.N = 8 := by decide +kernel
                                                   omega⟩

/-! ### A block is a part of its array -/

theorem idx0 : ∀ t : Fin cfg0.N, win0_0.index t 0 = t.val ∧ win0_0.index t 1 = 0 ∧ win0_0.index t 2 = 0 := by decide +kernel

theorem blk0 (t : Fin cfg0.N) (j : Fin 512) (k : Fin 128) : (iblk m c 0 t (ix3 0 j k) : EReal) = V m c main_v0 (ix3 (batchNo t) j k) := by
  have hi := idx0 t
  unfold iblk
  rw [View.read_apply]
  show V m c main_v0 _ = V m c main_v0 _
  congr 1
  funext a
  apply Fin.ext
  match a with
  | ⟨0, _⟩ => show win0_0.index t 0 * 1 + 1 * (0 : Fin 1).val = t.val; rw [hi.1]; simp
  | ⟨1, _⟩ => show win0_0.index t 1 * 512 + 1 * j.val = j.val; rw [hi.2.1]; simp
  | ⟨2, _⟩ => show win0_0.index t 2 * 128 + 1 * k.val = k.val; rw [hi.2.2]; simp

theorem idx1 : ∀ t : Fin cfg0.N, win0_1.index t 0 = t.val ∧ win0_1.index t 1 = 0 ∧ win0_1.index t 2 = 0 := by decide +kernel

theorem blk1 (t : Fin cfg0.N) (j : Fin 3) (k : Fin 3) : (iblk m c 1 t (ix3 0 j k) : EReal) = V m c main_arg1 (ix3 (batchNo t) j k) := by
  have hi := idx1 t
  unfold iblk
  rw [View.read_apply]
  show V m c main_arg1 _ = V m c main_arg1 _
  congr 1
  funext a
  apply Fin.ext
  match a with
  | ⟨0, _⟩ => show win0_1.index t 0 * 1 + 1 * (0 : Fin 1).val = t.val; rw [hi.1]; simp
  | ⟨1, _⟩ => show win0_1.index t 1 * 3 + 1 * j.val = j.val; rw [hi.2.1]; simp
  | ⟨2, _⟩ => show win0_1.index t 2 * 3 + 1 * k.val = k.val; rw [hi.2.2]; simp

theorem idx2 : ∀ t : Fin cfg0.N, win0_2.index t 0 = t.val ∧ win0_2.index t 1 = 0 ∧ win0_2.index t 2 = 0 := by decide +kernel

theorem blk2 (t : Fin cfg0.N) (j : Fin 512) (k : Fin 1) : (iblk m c 2 t (ix3 0 j k) : EReal) = V m c main_v3 (ix3 (batchNo t) j k) := by
  have hi := idx2 t
  unfold iblk
  rw [View.read_apply]
  show V m c main_v3 _ = V m c main_v3 _
  congr 1
  funext a
  apply Fin.ext
  match a with
  | ⟨0, _⟩ => show win0_2.index t 0 * 1 + 1 * (0 : Fin 1).val = t.val; rw [hi.1]; simp
  | ⟨1, _⟩ => show win0_2.index t 1 * 512 + 1 * j.val = j.val; rw [hi.2.1]; simp
  | ⟨2, _⟩ => show win0_2.index t 2 * 1 + 1 * k.val = k.val; rw [hi.2.2]; simp

theorem idx3 : ∀ t : Fin cfg0.N, win0_3.index t 0 = t.val ∧ win0_3.index t 1 = 0 ∧ win0_3.index t 2 = 0 := by decide +kernel

theorem blk3 (t : Fin cfg0.N) (j : Fin 512) (k : Fin 1) : (iblk m c 3 t (ix3 0 j k) : BitVec 32) = V m c main_v1 (ix3 (batchNo t) j k) := by
  have hi := idx3 t
  unfold iblk
  rw [View.read_apply]
  show V m c main_v1 _ = V m c main_v1 _
  congr 1
  funext a
  apply Fin.ext
  match a with
  | ⟨0, _⟩ => show win0_3.index t 0 * 1 + 1 * (0 : Fin 1).val = t.val; rw [hi.1]; simp
  | ⟨1, _⟩ => show win0_3.index t 1 * 512 + 1 * j.val = j.val; rw [hi.2.1]; simp
  | ⟨2, _⟩ => show win0_3.index t 2 * 1 + 1 * k.val = k.val; rw [hi.2.2]; simp

theorem idx4 : ∀ t : Fin cfg0.N, win0_4.index t 0 = t.val ∧ win0_4.index t 1 = 0 ∧ win0_4.index t 2 = 0 := by decide +kernel

theorem blk4 (t : Fin cfg0.N) (j : Fin 16384) (k : Fin 1) : (iblk m c 4 t (ix3 0 j k) : BitVec 32) = V m c main_v2 (ix3 (batchNo t) j k) := by
  have hi := idx4 t
  unfold iblk
  rw [View.read_apply]
  show V m c main_v2 _ = V m c main_v2 _
  congr 1
  funext a
  apply Fin.ext
  match a with
  | ⟨0, _⟩ => show win0_4.index t 0 * 1 + 1 * (0 : Fin 1).val = t.val; rw [hi.1]; simp
  | ⟨1, _⟩ => show win0_4.index t 1 * 16384 + 1 * j.val = j.val; rw [hi.2.1]; simp
  | ⟨2, _⟩ => show win0_4.index t 2 * 1 + 1 * k.val = k.val; rw [hi.2.2]; simp

theorem idx5 : ∀ t : Fin cfg0.N, win0_5.index t 0 = 0 ∧ win0_5.index t 1 = 0 := by decide +kernel

theorem blk5 (t : Fin cfg0.N) (i : Fin 100) (j : Fin 128) : (iblk m c 5 t (ix2 i j) : EReal) = V m c main_arg6 (ix2 i j) := by
  have hi := idx5 t
  unfold iblk
  rw [View.read_apply]
  show V m c main_arg6 _ = V m c main_arg6 _
  congr 1
  funext a
  apply Fin.ext
  match a with
  | ⟨0, _⟩ => show win0_5.index t 0 * 100 + 1 * i.val = i.val; rw [hi.1]; simp
  | ⟨1, _⟩ => show win0_5.index t 1 * 128 + 1 * j.val = j.val; rw [hi.2]; simp

theorem idx6 : ∀ t : Fin cfg0.N, win0_6.index t 0 = 0 ∧ win0_6.index t 1 = 0 ∧ win0_6.index t 2 = 0 := by decide +kernel

theorem blk6 (t : Fin cfg0.N) (i : Fin 3) (j : Fin 128) (k : Fin 128) : (iblk m c 6 t (ix3 i j k) : EReal) = V m c main_v4 (ix3 i j k) := by
  have hi := idx6 t
  unfold iblk
  rw [View.read_apply]
  show V m c main_v4 _ = V m c main_v4 _
  congr 1
  funext a
  apply Fin.ext
  match a with
  | ⟨0, _⟩ => show win0_6.index t 0 * 3 + 1 * i.val = i.val; rw [hi.1]; simp
  | ⟨1, _⟩ => show win0_6.index t 1 * 128 + 1 * j.val = j.val; rw [hi.2.1]; simp
  | ⟨2, _⟩ => show win0_6.index t 2 * 128 + 1 * k.val = k.val; rw [hi.2.2]; simp

theorem idx7 : ∀ t : Fin cfg0.N, win0_7.index t 0 = 0 ∧ win0_7.index t 1 = 0 ∧ win0_7.index t 2 = 0 := by decide +kernel

theorem blk7 (t : Fin cfg0.N) (i : Fin 3) (j : Fin 1) (k : Fin 128) : (iblk m c 7 t (ix3 i j k) : EReal) = V m c main_v14 (ix3 i j k) := by
  have hi := idx7 t
  unfold iblk
  rw [View.read_apply]
  show V m c main_v14 _ = V m c main_v14 _
  congr 1
  funext a
  apply Fin.ext
  match a with
  | ⟨0, _⟩ => show win0_7.index t 0 * 3 + 1 * i.val = i.val; rw [hi.1]; simp
  | ⟨1, _⟩ => show win0_7.index t 1 * 1 + 1 * j.val = j.val; rw [hi.2.1]; simp
  | ⟨2, _⟩ => show win0_7.index t 2 * 128 + 1 * k.val = k.val; rw [hi.2.2]; simp

theorem idx8 : ∀ t : Fin cfg0.N, win0_8.index t 0 = 0 ∧ win0_8.index t 1 = 0 ∧ win0_8.index t 2 = 0 := by decide +kernel

theorem blk8 (t : Fin cfg0.N) (i : Fin 3) (j : Fin 128) (k : Fin 128) : (iblk m c 8 t (ix3 i j k) : EReal) = V m c main_arg9 (ix3 i j k) := by
  have hi := idx8 t
  unfold iblk
  rw [View.read_apply]
  show V m c main_arg9 _ = V m c main_arg9 _
  congr 1
  funext a
  apply Fin.ext
  match a with
  | ⟨0, _⟩ => show win0_8.index t 0 * 3 + 1 * i.val = i.val; rw [hi.1]; simp
  | ⟨1, _⟩ => show win0_8.index t 1 * 128 + 1 * j.val = j.val; rw [hi.2.1]; simp
  | ⟨2, _⟩ => show win0_8.index t 2 * 128 + 1 * k.val = k.val; rw [hi.2.2]; simp

theorem idx9 : ∀ t : Fin cfg0.N, win0_9.index t 0 = 0 ∧ win0_9.index t 1 = 0 ∧ win0_9.index t 2 = 0 := by decide +kernel

theorem blk9 (t : Fin cfg0.N) (i : Fin 3) (j : Fin 1) (k : Fin 128) : (iblk m c 9 t (ix3 i j k) : EReal) = V m c main_v15 (ix3 i j k) := by
  have hi := idx9 t
  unfold iblk
  rw [View.read_apply]
  show V m c main_v15 _ = V m c main_v15 _
  congr 1
  funext a
  apply Fin.ext
  match a with
  | ⟨0, _⟩ => show win0_9.index t 0 * 3 + 1 * i.val = i.val; rw [hi.1]; simp
  | ⟨1, _⟩ => show win0_9.index t 1 * 1 + 1 * j.val = j.val; rw [hi.2.1]; simp
  | ⟨2, _⟩ => show win0_9.index t 2 * 128 + 1 * k.val = k.val; rw [hi.2.2]; simp

theorem idx10 : ∀ t : Fin cfg0.N, win0_10.index t 0 = 0 ∧ win0_10.index t 1 = 0 ∧ win0_10.index t 2 = 0 := by decide +kernel

theorem blk10 (t : Fin cfg0.N) (i : Fin 3) (j : Fin 128) (k : Fin 128) : (iblk m c 10 t (ix3 i j k) : EReal) = V m c main_arg11 (ix3 i j k) := by
  have hi := idx10 t
  unfold iblk
  rw [View.read_apply]
  show V m c main_arg11 _ = V m c main_arg11 _
  congr 1
  funext a
  apply Fin.ext
  match a with
  | ⟨0, _⟩ => show win0_10.index t 0 * 3 + 1 * i.val = i.val; rw [hi.1]; simp
  | ⟨1, _⟩ => show win0_10.index t 1 * 128 + 1 * j.val = j.val; rw [hi.2.1]; simp
  | ⟨2, _⟩ => show win0_10.index t 2 * 128 + 1 * k.val = k.val; rw [hi.2.2]; simp

theorem idx11 : ∀ t : Fin cfg0.N, win0_11.index t 0 = 0 ∧ win0_11.index t 1 = 0 ∧ win0_11.index t 2 = 0 := by decide +kernel

theorem blk11 (t : Fin cfg0.N) (i : Fin 3) (j : Fin 128) (k : Fin 128) : (iblk m c 11 t (ix3 i j k) : EReal) = V m c main_arg12 (ix3 i j k) := by
  have hi := idx11 t
  unfold iblk
  rw [View.read_apply]
  show V m c main_arg12 _ = V m c main_arg12 _
  congr 1
  funext a
  apply Fin.ext
  match a with
  | ⟨0, _⟩ => show win0_11.index t 0 * 3 + 1 * i.val = i.val; rw [hi.1]; simp
  | ⟨1, _⟩ => show win0_11.index t 1 * 128 + 1 * j.val = j.val; rw [hi.2.1]; simp
  | ⟨2, _⟩ => show win0_11.index t 2 * 128 + 1 * k.val = k.val; rw [hi.2.2]; simp

theorem idx12 : ∀ t : Fin cfg0.N, win0_12.index t 0 = 0 ∧ win0_12.index t 1 = 0 ∧ win0_12.index t 2 = 0 := by decide +kernel

theorem blk12 (t : Fin cfg0.N) (i : Fin 3) (j : Fin 1) (k : Fin 128) : (iblk m c 12 t (ix3 i j k) : EReal) = V m c main_v16 (ix3 i j k) := by
  have hi := idx12 t
  unfold iblk
  rw [View.read_apply]
  show V m c main_v16 _ = V m c main_v16 _
  congr 1
  funext a
  apply Fin.ext
  match a with
  | ⟨0, _⟩ => show win0_12.index t 0 * 3 + 1 * i.val = i.val; rw [hi.1]; simp
  | ⟨1, _⟩ => show win0_12.index t 1 * 1 + 1 * j.val = j.val; rw [hi.2.1]; simp
  | ⟨2, _⟩ => show win0_12.index t 2 * 128 + 1 * k.val = k.val; rw [hi.2.2]; simp

theorem idx13 : ∀ t : Fin cfg0.N, win0_13.index t 0 = 0 ∧ win0_13.index t 1 = 0 ∧ win0_13.index t 2 = 0 := by decide +kernel

theorem blk13 (t : Fin cfg0.N) (i : Fin 3) (j : Fin 128) (k : Fin 128) : (iblk m c 13 t (ix3 i j k) : EReal) = V m c main_arg14 (ix3 i j k) := by
  have hi := idx13 t
  unfold iblk
  rw [View.read_apply]
  show V m c main_arg14 _ = V m c main_arg14 _
  congr 1
  funext a
  apply Fin.ext
  match a with
  | ⟨0, _⟩ => show win0_13.index t 0 * 3 + 1 * i.val = i.val; rw [hi.1]; simp
  | ⟨1, _⟩ => show win0_13.index t 1 * 128 + 1 * j.val = j.val; rw [hi.2.1]; simp
  | ⟨2, _⟩ => show win0_13.index t 2 * 128 + 1 * k.val = k.val; rw [hi.2.2]; simp

theorem idx14 : ∀ t : Fin cfg0.N, win0_14.index t 0 = 0 ∧ win0_14.index t 1 = 0 ∧ win0_14.index t 2 = 0 := by decide +kernel

theorem blk14 (t : Fin cfg0.N) (i : Fin 3) (j : Fin 1) (k : Fin 128) : (iblk m c 14 t (ix3 i j k) : EReal) = V m c main_v17 (ix3 i j k) := by
  have hi := idx14 t
  unfold iblk
  rw [View.read_apply]
  show V m c main_v17 _ = V m c main_v17 _
  congr 1
  funext a
  apply Fin.ext
  match a with
  | ⟨0, _⟩ => show win0_14.index t 0 * 3 + 1 * i.val = i.val; rw [hi.1]; simp
  | ⟨1, _⟩ => show win0_14.index t 1 * 1 + 1 * j.val = j.val; rw [hi.2.1]; simp
  | ⟨2, _⟩ => show win0_14.index t 2 * 128 + 1 * k.val = k.val; rw [hi.2.2]; simp

theorem idx15 : ∀ t : Fin cfg0.N, win0_15.index t 0 = 0 ∧ win0_15.index t 1 = 0 := by decide +kernel

theorem blk15 (t : Fin cfg0.N) (i : Fin 128) (j : Fin 128) : (iblk m c 15 t (ix2 i j) : EReal) = V m c main_v5 (ix2 i j) := by
  have hi := idx15 t
  unfold iblk
  rw [View.read_apply]
  show V m c main_v5 _ = V m c main_v5 _
  congr 1
  funext a
  apply Fin.ext
  match a with
  | ⟨0, _⟩ => show win0_15.index t 0 * 128 + 1 * i.val = i.val; rw [hi.1]; simp
  | ⟨1, _⟩ => show win0_15.index t 1 * 128 + 1 * j.val = j.val; rw [hi.2]; simp

theorem idx16 : ∀ t : Fin cfg0.N, win0_16.index t 0 = 0 ∧ win0_16.index t 1 = 0 := by decide +kernel

theorem blk16 (t : Fin cfg0.N) (i : Fin 1) (j : Fin 128) : (iblk m c 16 t (ix2 i j) : EReal) = V m c main_v7 (ix2 i j) := by
  have hi := idx16 t
  unfold iblk
  rw [View.read_apply]
  show V m c main_v7 _ = V m c main_v7 _
  congr 1
  funext a
  apply Fin.ext
  match a with
  | ⟨0, _⟩ => show win0_16.index t 0 * 1 + 1 * i.val = i.val; rw [hi.1]; simp
  | ⟨1, _⟩ => show win0_16.index t 1 * 128 + 1 * j.val = j.val; rw [hi.2]; simp

theorem idx17 : ∀ t : Fin cfg0.N, win0_17.index t 0 = 0 ∧ win0_17.index t 1 = 0 := by decide +kernel

theorem blk17 (t : Fin cfg0.N) (i : Fin 128) (j : Fin 128) : (iblk m c 17 t (ix2 i j) : EReal) = V m c main_v8 (ix2 i j) := by
  have hi := idx17 t
  unfold iblk
  rw [View.read_apply]
  show V m c main_v8 _ = V m c main_v8 _
  congr 1
  funext a
  apply Fin.ext
  match a with
  | ⟨0, _⟩ => show win0_17.index t 0 * 128 + 1 * i.val = i.val; rw [hi.1]; simp
  | ⟨1, _⟩ => show win0_17.index t 1 * 128 + 1 * j.val = j.val; rw [hi.2]; simp

theorem idx18 : ∀ t : Fin cfg0.N, win0_18.index t 0 = 0 ∧ win0_18.index t 1 = 0 := by decide +kernel

theorem blk18 (t : Fin cfg0.N) (i : Fin 1) (j : Fin 128) : (iblk m c 18 t (ix2 i j) : EReal) = V m c main_v10 (ix2 i j) := by
  have hi := idx18 t
  unfold iblk
  rw [View.read_apply]
  show V m c main_v10 _ = V m c main_v10 _
  congr 1
  funext a
  apply Fin.ext
  match a with
  | ⟨0, _⟩ => show win0_18.index t 0 * 1 + 1 * i.val = i.val; rw [hi.1]; simp
  | ⟨1, _⟩ => show win0_18.index t 1 * 128 + 1 * j.val = j.val; rw [hi.2]; simp

theorem idx19 : ∀ t : Fin cfg0.N, win0_19.index t 0 = 0 ∧ win0_19.index t 1 = 0 := by decide +kernel

theorem blk19 (t : Fin cfg0.N) (i : Fin 128) (j : Fin 128) : (iblk m c 19 t (ix2 i j) : EReal) = V m c main_v11 (ix2 i j) := by
  have hi := idx19 t
  unfold iblk
  rw [View.read_apply]
  show V m c main_v11 _ = V m c main_v11 _
  congr 1
  funext a
  apply Fin.ext
  match a with
  | ⟨0, _⟩ => show win0_19.index t 0 * 128 + 1 * i.val = i.val; rw [hi.1]; simp
  | ⟨1, _⟩ => show win0_19.index t 1 * 128 + 1 * j.val = j.val; rw [hi.2]; simp

theorem idx20 : ∀ t : Fin cfg0.N, win0_20.index t 0 = 0 ∧ win0_20.index t 1 = 0 := by decide +kernel

theorem blk20 (t : Fin cfg0.N) (i : Fin 1) (j : Fin 128) : (iblk m c 20 t (ix2 i j) : EReal) = V m c main_v13 (ix2 i j) := by
  have hi := idx20 t
  unfold iblk
  rw [View.read_apply]
  show V m c main_v13 _ = V m c main_v13 _
  congr 1
  funext a
  apply Fin.ext
  match a with
  | ⟨0, _⟩ => show win0_20.index t 0 * 1 + 1 * i.val = i.val; rw [hi.1]; simp
  | ⟨1, _⟩ => show win0_20.index t 1 * 128 + 1 * j.val = j.val; rw [hi.2]; simp

theorem idx21 : ∀ t : Fin cfg0.N, win0_21.index t 0 = 0 ∧ win0_21.index t 1 = 0 := by decide +kernel

theorem blk21 (t : Fin cfg0.N) (i : Fin 1) (j : Fin 128) : (iblk m c 21 t (ix2 i j) : EReal) = V m c main_v27 (ix2 i j) := by
  have hi := idx21 t
  unfold iblk
  rw [View.read_apply]
  show V m c main_v27 _ = V m c main_v27 _
  congr 1
  funext a
  apply Fin.ext
  match a with
  | ⟨0, _⟩ => show win0_21.index t 0 * 1 + 1 * i.val = i.val; rw [hi.1]; simp
  | ⟨1, _⟩ => show win0_21.index t 1 * 128 + 1 * j.val = j.val; rw [hi.2]; simp

theorem idx22 : ∀ t : Fin cfg0.N, win0_22.index t 0 = 0 ∧ win0_22.index t 1 = 0 := by decide +kernel

theorem blk22 (t : Fin cfg0.N) (i : Fin 1) (j : Fin 1) : (iblk m c 22 t (ix2 i j) : EReal) = V m c main_v28 (ix2 i j) := by
  have hi := idx22 t
  unfold iblk
  rw [View.read_apply]
  show V m c main_v28 _ = V m c main_v28 _
  congr 1
  funext a
  apply Fin.ext
  match a with
  | ⟨0, _⟩ => show win0_22.index t 0 * 1 + 1 * i.val = i.val; rw [hi.1]; simp
  | ⟨1, _⟩ => show win0_22.index t 1 * 1 + 1 * j.val = j.val; rw [hi.2]; simp

end Cert.Proof.HostBlocks

end
-- ==== Proof.HostFits.lean ====
/- The arrays the kernel's windows read, as the host's operations leave them, and with them the blocks of a step. -/
module

public import proofs.«01_k».proof.Proof.HostBlocks

@[expose] public section

set_option maxRecDepth 16384

noncomputable section

namespace Cert.Proof.HostFits

open Idealize.ShloMosaic Idealize.ShloMosaic.TcCoe Cert.KernelIdeal Cert.KernelIdeal.Gen Cert.Proof.Spec Cert.Proof.HostBlocks
open Idealize.SL Idealize.SL.Sem

variable (m : (ℓ : Loc nD τ sig) → Buf (Elt Ideal) ℓ) (c : Dev nD)

/-- The kernel's arguments. -/
def inputs : Inputs where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)

theorem sitofp_zero : FloatOps.sitofp (F := Ideal) .f32 0#32 = (0 : EReal) := by
  show (((0#32).toInt : ℝ) : EReal) = 0
  simp

theorem word_mod (w : BitVec 32) {n : ℕ} (h : w.toNat < n) (hn : 0 < n) :
    w = BitVec.ofNat 32 (⟨w.toNat % n, Nat.mod_lt _ hn⟩ : Fin n).val := by
  show w = BitVec.ofNat 32 (w.toNat % n)
  rw [Nat.mod_eq_of_lt h, BitVec.ofNat_toNat, BitVec.setWidth_eq]

theorem v0 (b : Fin 8) (a : Fin 512) (k : Fin 128) (hk : k.val < 3) : (V m c main_v0 (ix3 b a k) : EReal) = m ((c : Thread nD τ).loc main_arg0) (ix3 b a ⟨k.val, hk⟩) := by
  unfold V
  after_reads_at
  rw [dif_pos hk]

theorem v3 (b : Fin 8) (a : Fin 512) : (V m c main_v3 (ix3 b a 0) : EReal) = m ((c : Thread nD τ).loc main_arg2) (ix2 b a) := by
  unfold V
  after_reads_at
  try rfl

theorem v1 (b : Fin 8) (a : Fin 512) : (V m c main_v1 (ix3 b a 0) : BitVec 32) = m ((c : Thread nD τ).loc main_arg3) (ix2 b a) := by
  unfold V
  after_reads_at
  try rfl

theorem v2 (b : Fin 8) (a : Fin 512) (j : Fin 32) :
    (V m c main_v2 (ix3 b ⟨a.val * 32 + j.val, by omega⟩ 0) : BitVec 32) = m ((c : Thread nD τ).loc main_arg4) (ix3 b a j) := by
  unfold V
  after_reads_at

theorem v4 (i : Fin 3) (k : Fin 128) (hk : k.val < 50) (f : Fin 128) : (V m c main_v4 (ix3 i k f) : EReal) = m ((c : Thread nD τ).loc main_arg7) (ix3 i ⟨k.val, hk⟩ f) := by
  unfold V
  after_reads_at
  rw [dif_pos hk]

theorem v4z (i : Fin 3) (k f : Fin 128) (hk : 50 ≤ k.val) : (V m c main_v4 (ix3 i k f) : EReal) = (0 : EReal) := by
  unfold V
  after_reads_at
  rw [dif_neg (by omega)]
  exact sitofp_zero

theorem v14 (i : Fin 3) (f : Fin 128) : (V m c main_v14 (ix3 i 0 f) : EReal) = m ((c : Thread nD τ).loc main_arg8) (ix2 i f) := by
  unfold V
  after_reads_at
  try rfl

theorem v15 (i : Fin 3) (f : Fin 128) : (V m c main_v15 (ix3 i 0 f) : EReal) = m ((c : Thread nD τ).loc main_arg10) (ix2 i f) := by
  unfold V
  after_reads_at
  try rfl

theorem v16 (i : Fin 3) (f : Fin 128) : (V m c main_v16 (ix3 i 0 f) : EReal) = m ((c : Thread nD τ).loc main_arg13) (ix2 i f) := by
  unfold V
  after_reads_at
  try rfl

theorem v17 (i : Fin 3) (f : Fin 128) : (V m c main_v17 (ix3 i 0 f) : EReal) = m ((c : Thread nD τ).loc main_arg15) (ix2 i f) := by
  unfold V
  after_reads_at
  try rfl

theorem v5 (f : Fin 128) (k : Fin 128) (hk : k.val < 3) : (V m c main_v5 (ix2 f k) : EReal) = m ((c : Thread nD τ).loc main_arg16) (ix2 f ⟨k.val, hk⟩) := by
  unfold V
  after_reads_at
  rw [dif_pos hk]

theorem v7 (k : Fin 128) (hk : k.val < 3) : (V m c main_v7 (ix2 0 k) : EReal) = m ((c : Thread nD τ).loc main_arg17) (ix1 ⟨k.val, hk⟩) := by
  unfold V
  after_reads_at
  rw [dif_pos hk]

theorem v8 (j k : Fin 128) (hj : j.val < 3) (hk : k.val < 6) : (V m c main_v8 (ix2 j k) : EReal) = m ((c : Thread nD τ).loc main_arg18) (ix2 ⟨j.val, hj⟩ ⟨k.val, hk⟩) := by
  unfold V
  after_reads_at
  rw [dif_pos ⟨hj, hk⟩]

theorem v10 (k : Fin 128) (hk : k.val < 6) : (V m c main_v10 (ix2 0 k) : EReal) = m ((c : Thread nD τ).loc main_arg19) (ix1 ⟨k.val, hk⟩) := by
  unfold V
  after_reads_at
  rw [dif_pos hk]

theorem v11 (j k : Fin 128) (hj : j.val < 6) (hk : k.val < 9) : (V m c main_v11 (ix2 j k) : EReal) = m ((c : Thread nD τ).loc main_arg20) (ix2 ⟨j.val, hj⟩ ⟨k.val, hk⟩) := by
  unfold V
  after_reads_at
  rw [dif_pos ⟨hj, hk⟩]

theorem v11z (j k : Fin 128) (hj : 6 ≤ j.val) : (V m c main_v11 (ix2 j k) : EReal) = (0 : EReal) := by
  unfold V
  after_reads_at
  rw [dif_neg (by omega)]
  exact sitofp_zero

theorem v13 (k : Fin 128) (hk : k.val < 9) : (V m c main_v13 (ix2 0 k) : EReal) = m ((c : Thread nD τ).loc main_arg21) (ix1 ⟨k.val, hk⟩) := by
  unfold V
  after_reads_at
  rw [dif_pos hk]

theorem v27 (k : Fin 128) (hk : k.val < 50) : (V m c main_v27 (ix2 0 k) : EReal) = ramp ⟨k.val, hk⟩ := by
  unfold V
  after_reads_at
  after_reads_at
  rw [dif_pos hk]
  unfold ramp
  by_cases h : k.val < 49
  · rw [dif_pos h, if_pos h]; rfl
  · rw [dif_neg h, if_neg h]; rfl

theorem v28 : (V m c main_v28 (ix2 0 0) : EReal) = factor := by
  unfold V
  after_reads_at
  after_reads_at
  rfl

/-- The blocks of a step are a batch. -/
theorem fits (h : (inputs m c).Ok) (t : Fin cfg0.N) :
    Fits (batch (inputs m c) (batchNo t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) where
  h0 a k := (blk0 m c t a (wide k)).trans (v0 m c _ a (wide k) k.isLt)
  h1 i j := (blk1 m c t i j).trans (congrFun (V_main_arg1 m c) _)
  h2 a := (blk2 m c t a 0).trans (v3 m c _ a)
  h3 a := ((blk3 m c t a 0).trans (v1 m c _ a)).trans (word_mod _ (h.z _ a) (by norm_num))
  h4 a j := ((blk4 m c t _ 0).trans (v2 m c _ a j)).trans (word_mod _ (h.nb _ a j) (by norm_num))
  h5 k f := (blk5 m c t k f).trans (congrFun (V_main_arg6 m c) _)
  h6 i k f := (blk6 m c t i (wide k) f).trans (v4 m c i (wide k) k.isLt f)
  h6z i k f hk := (blk6 m c t i k f).trans (v4z m c i k f hk)
  h7 i f := (blk7 m c t i 0 f).trans (v14 m c i f)
  h8 i k f := (blk8 m c t i k f).trans (congrFun (V_main_arg9 m c) _)
  h9 i f := (blk9 m c t i 0 f).trans (v15 m c i f)
  h10 i k f := (blk10 m c t i k f).trans (congrFun (V_main_arg11 m c) _)
  h11 i k f := (blk11 m c t i k f).trans (congrFun (V_main_arg12 m c) _)
  h12 i f := (blk12 m c t i 0 f).trans (v16 m c i f)
  h13 i k f := (blk13 m c t i k f).trans (congrFun (V_main_arg14 m c) _)
  h14 i f := (blk14 m c t i 0 f).trans (v17 m c i f)
  h15 f k := (blk15 m c t f (wide k)).trans (v5 m c f (wide k) k.isLt)
  h16 k := (blk16 m c t 0 (wide k)).trans (v7 m c (wide k) k.isLt)
  h17 j k := (blk17 m c t (wide j) (wide k)).trans (v8 m c (wide j) (wide k) j.isLt k.isLt)
  h18 k := (blk18 m c t 0 (wide k)).trans (v10 m c (wide k) k.isLt)
  h19 j k := (blk19 m c t (wide j) (wide k)).trans (v11 m c (wide j) (wide k) j.isLt k.isLt)
  h19z j k hj := (blk19 m c t j k).trans (v11z m c j k hj)
  h20 k := (blk20 m c t 0 (wide k)).trans (v13 m c (wide k) k.isLt)
  h21 k := (blk21 m c t 0 (wide k)).trans (v27 m c (wide k) k.isLt)
  h22 := (blk22 m c t 0 0).trans (v28 m c)

end Cert.Proof.HostFits

end
-- ==== Proof.KernelResult.lean ====
/- What the kernel leaves in its result array. -/
module

public import proofs.«01_k».proof.Proof.IdealFrame
public import proofs.«01_k».proof.Proof.Gen.KernelIdeal.Points
public import proofs.«01_k».proof.Proof.BlockValue
public import proofs.«01_k».proof.Proof.HostFits

@[expose] public section

set_option maxRecDepth 16384

noncomputable section

namespace Cert.Proof.KernelResult

open Idealize.ShloMosaic Idealize.ShloMosaic.TcCoe Cert.KernelIdeal Cert.KernelIdeal.Gen
open Cert.Proof.IdealFrame Cert.Proof.HostBlocks Cert.Proof.HostFits
open Idealize.SL Idealize.SL.Sem

variable (m : (ℓ : Loc nD τ sig) → Buf (Elt Ideal) ℓ) (c : Dev nD)

/-- The result, as contents of the result array. -/
abbrev goal : Buf (Elt Ideal) ((c : Thread nD τ).loc main_v29) := result (inputs m c)

theorem idx23 : ∀ t : Fin cfg0.N, win0_23.index t 0 = t.val ∧ win0_23.index t 1 = 0 ∧ win0_23.index t 2 = 0 := by decide +kernel

/-- Each step writes back its batch of the result. -/
theorem flushed_eq (h : (inputs m c).Ok) (t : Fin cfg0.N) :
    (dats m 0 c).flushed 23 t = ((cfg0.win 23).blk t).view.read (Elt Ideal) (goal m c) := by
  show (cfg0.win 23).cut (grid0.coords t) ((dats m 0 c).after 23 t) = _
  rw [after0_23]
  funext i
  have h0 : i 0 = (0 : Fin 1) := (Subsingleton.elim (α := Fin 1) _ _)
  obtain ⟨a, k, rfl⟩ : ∃ (a : Fin 512) (k : Fin 3), i = ix3 (0 : Fin 1) a k :=
    ⟨i 1, i 2, by funext x; match x with
      | ⟨0, _⟩ => exact h0
      | ⟨1, _⟩ => rfl
      | ⟨2, _⟩ => rfl⟩
  refine (BlockValue.kval_apply (fits m c h t) (h.tame _) a k).trans ?_
  rw [View.read_apply]
  have hi := idx23 t
  have e : ((cfg0.win 23).blk t).view.emb (ix3 (0 : Fin 1) a k) = (ix3 (batchNo t) a k : (⟨3, ![8, 512, 3]⟩ : Shape).Idx) := by
    funext x
    apply Fin.ext
    match x with
    | ⟨0, _⟩ => show win0_23.index t 0 * 1 + 1 * (0 : Fin 1).val = t.val; rw [hi.1]; simp
    | ⟨1, _⟩ => show win0_23.index t 1 * 512 + 1 * a.val = a.val; rw [hi.2.1]; simp
    | ⟨2, _⟩ => show win0_23.index t 2 * 3 + 1 * k.val = k.val; rw [hi.2.2]; simp
  rw [e]
  rfl

/-- The steps cover the result array. -/
theorem cover (i : ((cfg0.win 23).arr.view.loc (c.tc : Thread nD τ)).2.ty.Idx) :
    ∃ t : Fin cfg0.N, (cfg0.win 23).flush t = true ∧ i ∈ ((cfg0.win 23).blk t).view.set := by
  have hN : cfg0.N = 8 := by decide +kernel
  have h0 : (i 0 : Nat) < 8 := (i 0).isLt
  have h1 : (i 1 : Nat) < 512 := (i 1).isLt
  have h2 : (i 2 : Nat) < 3 := (i 2).isLt
  let t : Fin cfg0.N := ⟨(i 0 : Nat), by omega⟩
  have hi := idx23 t
  have hx : ∀ t : Fin cfg0.N, win0_23.xsize (grid0.coords t) 0 = 1 ∧ win0_23.xsize (grid0.coords t) 1 = 512
      ∧ win0_23.xsize (grid0.coords t) 2 = 3 := by decide +kernel
  refine ⟨t, flush0_23 t, ?_⟩
  show i ∈ ((View.whole main_v29).slice (win0_23.rect t)).set
  rw [View.set_slice_whole, Rect.mem_set_unit]
  intro a
  match a with
  | ⟨0, _⟩ => show win0_23.index t 0 * 1 ≤ (i 0 : Nat) ∧ (i 0 : Nat) < win0_23.index t 0 * 1 + win0_23.xsize (grid0.coords t) 0
              rw [hi.1, (hx t).1]; show (i 0 : Nat) * 1 ≤ _ ∧ _ < (i 0 : Nat) * 1 + 1; omega
  | ⟨1, _⟩ => show win0_23.index t 1 * 512 ≤ (i 1 : Nat) ∧ (i 1 : Nat) < win0_23.index t 1 * 512 + win0_23.xsize (grid0.coords t) 1
              rw [hi.2.1, (hx t).2.1]; omega
  | ⟨2, _⟩ => show win0_23.index t 2 * 3 ≤ (i 2 : Nat) ∧ (i 2 : Nat) < win0_23.index t 2 * 3 + win0_23.xsize (grid0.coords t) 2
              rw [hi.2.2, (hx t).2.2]; omega

theorem final (h : (inputs m c).Ok) : (dats m 0 c).arrAt 23 cfg0.N = goal m c :=
  (dats m 0 c).arrAt_eq_of_cover 23 (goal m c) (fun t _ => flushed_eq m c h t) (cover c)

end Cert.Proof.KernelResult
-- ==== Proof.PreOk.lean ====
/- What the precondition says of the arguments. -/
module

public import proofs.«01_k».proof.Defs
public import proofs.«01_k».proof.Proof.HostFits
public import proofs.«01_k».proof.Proof.TailPay
public import Idealize.ShloMosaic.Lib.Pointwise

@[expose] public section

set_option maxRecDepth 16384

noncomputable section

namespace Cert.Proof.PreOk

open Idealize.ShloMosaic Idealize.ShloMosaic.TcCoe Cert.KernelIdeal Cert.Proof.Spec Cert.Proof.HostFits
open Idealize.SL.Sem

theorem real_of_finite (x : EReal) (h : Ideal.cmp .olt (max x (-x)) (lit 0x7F800000#32) = 1#1) : IsReal x := by
  have ht : lit 0x7F800000#32 = ⊤ := by
    simp [Ideal.ofBits, Ideal.ieee]
  rw [ht] at h
  induction x using EReal.rec with
  | bot => simp [Ideal.cmp, WordCmp.ofBool_eq_one_iff] at h
  | top => simp [Ideal.cmp, WordCmp.ofBool_eq_one_iff] at h
  | coe r => exact ⟨r, rfl⟩

theorem real_slice50 (x : Vec Ideal Cert.Pre_tame.S3x50x128 .f32) (h : Cert.Pre_tame.S3x50x128.Slices ![0, 0, 0] Cert.Pre_tame.S2x50x128) (i : Fin 2) (k : Fin 50) (f : Fin 128)
    (e : IsReal (extractStridedSlice Cert.Pre_tame.S2x50x128 ![0, 0, 0] x h (ix3 i k f))) : IsReal (x (ix3 i.castSucc k f)) := by
  obtain ⟨r, e⟩ := e
  refine ⟨r, (congrArg x (funext fun d => Fin.ext ?_)).trans e⟩
  match d with | ⟨0, _⟩ => exact (Nat.zero_add _).symm | ⟨1, _⟩ => exact (Nat.zero_add _).symm | ⟨2, _⟩ => exact (Nat.zero_add _).symm

theorem real_slice128 (x : Vec Ideal Cert.Pre_tame.S3x128x128 .f32) (h : Cert.Pre_tame.S3x128x128.Slices ![0, 0, 0] Cert.Pre_tame.S2x128x128) (i : Fin 2) (k f : Fin 128)
    (e : IsReal (extractStridedSlice Cert.Pre_tame.S2x128x128 ![0, 0, 0] x h (ix3 i k f))) : IsReal (x (ix3 i.castSucc k f)) := by
  obtain ⟨r, e⟩ := e
  refine ⟨r, (congrArg x (funext fun d => Fin.ext ?_)).trans e⟩
  match d with | ⟨0, _⟩ => exact (Nat.zero_add _).symm | ⟨1, _⟩ => exact (Nat.zero_add _).symm | ⟨2, _⟩ => exact (Nat.zero_add _).symm

theorem real_slice2 (x : Vec Ideal Cert.Pre_tame.S3x128 .f32) (h : Cert.Pre_tame.S3x128.Slices ![0, 0] Cert.Pre_tame.S2x128) (i : Fin 2) (f : Fin 128)
    (e : IsReal (extractStridedSlice Cert.Pre_tame.S2x128 ![0, 0] x h (ix2 i f))) : IsReal (x (ix2 i.castSucc f)) := by
  obtain ⟨r, e⟩ := e
  refine ⟨r, (congrArg x (funext fun d => Fin.ext ?_)).trans e⟩
  match d with | ⟨0, _⟩ => exact (Nat.zero_add _).symm | ⟨1, _⟩ => exact (Nat.zero_add _).symm

theorem toNat_lt (x y : BitVec 32) (hy : y.toNat < 2 ^ 31)
    (h : IntOp.andi (IntOp.cmpi .sge x 0#32) (IntOp.cmpi .slt x y) = 1#1) : x.toNat < y.toNat := by
  have h1 : IntOp.cmpi .sge x 0#32 = 1#1 ∧ IntOp.cmpi .slt x y = 1#1 := IntOp.andi_eq_one.1 h
  have a : 0 ≤ x.toInt := by
    have := h1.1; simpa [IntOp.cmpi, BitVec.sle, WordCmp.ofBool_eq_one_iff] using this
  have b : x.toInt < y.toInt := by
    have := h1.2; simpa [IntOp.cmpi, BitVec.slt, WordCmp.ofBool_eq_one_iff] using this
  have hx : x.toInt = if 2 * x.toNat < 2 ^ 32 then (x.toNat : ℤ) else (x.toNat : ℤ) - (2 ^ 32 : ℕ) := BitVec.toInt_eq_toNat_cond x
  have hy' : y.toInt = y.toNat := BitVec.toInt_eq_toNat_of_lt (by omega)
  have := x.isLt
  split_ifs at hx <;> omega

theorem ok [hP : Cert.Pre_tame.Facts] (m : (ℓ : Loc nD τ sig) → Buf (Elt Ideal) ℓ) (h : Cert.Pre_KernelIdeal_tame m) (c : Dev nD) :
    (inputs m c).Ok := by
  obtain ⟨q0, q1, q2, q3, q4, q5, q6, q7, q8, q9, q10, q11, q12, q13, q14, q15⟩ := h c
  refine ⟨fun b a k => real_of_finite _ (congrFun q0 (ix3 b a k)), fun k f => real_of_finite _ (congrFun q1 (ix2 k f)),
    fun i k f => ?_, fun i f => ?_, fun i k f => ?_, fun i f => ?_,
    fun i k f => real_of_finite _ (congrFun q6 (ix3 i k f)),
    fun i k f => ?_, fun i f => ?_, fun i k f => ?_, fun i f => ?_,
    fun b a j => toNat_lt _ 512#32 (by decide) (congrFun q11 (ix3 b a j)),
    fun b a => toNat_lt _ 100#32 (by decide) (congrFun q12 (ix2 b a)), fun b a j => ?_, fun b => ?_, fun b => ?_⟩
  · exact real_slice50 _ _ i k f (real_of_finite _ (congrFun q2 (ix3 i k f)))
  · exact real_slice2 _ _ i f (real_of_finite _ (congrFun q3 (ix2 i f)))
  · exact real_slice128 _ _ i k f (real_of_finite _ (congrFun q4 (ix3 i k f)))
  · exact real_slice2 _ _ i f (real_of_finite _ (congrFun q5 (ix2 i f)))
  · exact real_slice128 _ _ i k f (real_of_finite _ (congrFun q7 (ix3 i k f)))
  · exact real_slice2 _ _ i f (real_of_finite _ (congrFun q8 (ix2 i f)))
  · exact real_slice128 _ _ i k f (real_of_finite _ (congrFun q9 (ix3 i k f)))
  · exact real_slice2 _ _ i f (real_of_finite _ (congrFun q10 (ix2 i f)))
  · have e : Ideal.cmp .oeq ((inputs m c).a5 (ix3 b a j)) (lit 0x3F800000#32) = 1#1 := congrFun q13 (ix3 b a j)
    rw [lit_one] at e
    simpa [Ideal.cmp, WordCmp.ofBool_eq_one_iff] using e
  · have e := congrFun q14 (ix1 b)
    have e' : Ideal.cmp .une (det (batch (inputs m c) b)) 0 = 1#1 := by
      refine Eq.trans ?_ e
      rw [TailPay.det_eq]
      symm
      pointwise [Cert.Pre_tame.fn, Cert.Pre_tame.fn_part1, Cert.Pre_tame.fn_part2, Cert.Pre_tame.fn_part3, Cert.Pre_tame.fn_part4, Cert.Pre_tame.fn_part5]
      rfl
    simpa [Ideal.cmp, WordCmp.ofBool_eq_one_iff] using e'
  · have e := congrFun q15 (ix1 b)
    have e' : Ideal.cmp .oge (num (batch (inputs m c) b)) 0 = 1#1 := by
      refine Eq.trans ?_ e
      symm
      pointwise [Cert.Pre_tame.fn, Cert.Pre_tame.fn_part1, Cert.Pre_tame.fn_part2, Cert.Pre_tame.fn_part3, Cert.Pre_tame.fn_part4, Cert.Pre_tame.fn_part5]
      rfl
    simpa [Ideal.cmp, WordCmp.ofBool_eq_one_iff] using e'

end Cert.Proof.PreOk

end
-- ==== Proof.RefGather.lean ====
/- The reference's two gathers, read at an index. -/
module

public import Idealize.ShloMosaic.Lib.ValueIdx
public import proofs.«01_k».proof.Proof.Inputs

@[expose] public section

set_option maxRecDepth 16384

noncomputable section

namespace Cert.Proof.RefGather

open Idealize.ShloMosaic

variable {α : Type}

/-- Rows of a table, one per index. -/
abbrev rowDims (N B A C : ℕ)
    (wf : GatherDims.WF ⟨2, ![N, C]⟩ ⟨3, ![B, A, 1]⟩ ⟨3, ![B, A, C]⟩ [2] [0] [] [0] [] 2 ![1, C]) :
    GatherDims ⟨2, ![N, C]⟩ ⟨3, ![B, A, 1]⟩ ⟨3, ![B, A, C]⟩ where
  offsetDims := [2]
  collapsedSliceDims := [0]
  operandBatchingDims := []
  startIndicesBatchingDims := []
  startIndexMap := [0]
  indexVectorDim := 2
  sliceSizes := ![1, C]
  wf := wf

theorem rows_apply {N B A C : ℕ}
    (wf : GatherDims.WF ⟨2, ![N, C]⟩ ⟨3, ![B, A, 1]⟩ ⟨3, ![B, A, C]⟩ [2] [0] [] [0] [] 2 ![1, C])
    (x : (⟨2, ![N, C]⟩ : Shape).Idx → α) (idx : IVec ⟨3, ![B, A, 1]⟩ 32) (b : Fin B) (a : Fin A) (f : Fin C) (n : Fin N)
    (h : (idx (ix3 b a 0)).toInt = n.val) :
    Host.gather (rowDims N B A C wf) x idx (ix3 b a f) = x (ix2 n f) := by
  unfold Host.gather
  congr 1
  funext k
  refine Fin.ext ?_
  show (rowDims N B A C wf).start (ix3 b a f) idx k + (rowDims N B A C wf).batchCoord (ix3 b a f) k
      + (rowDims N B A C wf).offCoord (ix3 b a f) k = _
  have h01 : k = 0 ∨ k = 1 := by
    match k with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N B A C wf).startIndexMap from List.mem_singleton.mpr rfl)]
    have hsi : (rowDims N B A C wf).siIdx (ix3 b a f) ⟨List.idxOf (0 : Fin 2) (rowDims N B A C wf).startIndexMap,
        List.idxOf_lt_length_iff.2 (List.mem_singleton.mpr rfl)⟩ = ix3 b a 0 := by
      funext b; refine Fin.ext ?_
      match b with
      | ⟨0, _⟩ => rfl
      | ⟨1, _⟩ => rfl
      | ⟨2, _⟩ => rfl
    rw [hsi, h]
    show min (n.val : ℤ).toNat (N - 1) = n.val
    have := n.isLt
    omega
  · rw [GatherDims.batchCoord_eq_zero _ _ _ List.not_mem_nil]
    unfold GatherDims.start
    rw [dif_neg (show (1 : Fin 2) ∉ (rowDims N B A C wf).startIndexMap from by simp)]
    unfold GatherDims.offCoord
    rw [dif_pos ((GatherDims.mem_sKept _ _).mpr ⟨by simp, by simp⟩)]
    simp only [Nat.zero_add]
    rfl

/-- Rows of a batch of tables, the batch's own. -/
abbrev batchDims (B N A C : ℕ)
    (wf : GatherDims.WF ⟨3, ![B, N, C]⟩ ⟨3, ![B, A, 1]⟩ ⟨3, ![B, A, C]⟩ [2] [1] [0] [1] [0] 2 ![1, 1, C]) :
    GatherDims ⟨3, ![B, N, C]⟩ ⟨3, ![B, A, 1]⟩ ⟨3, ![B, A, C]⟩ where
  offsetDims := [2]
  collapsedSliceDims := [1]
  operandBatchingDims := [0]
  startIndicesBatchingDims := [0]
  startIndexMap := [1]
  indexVectorDim := 2
  sliceSizes := ![1, 1, C]
  wf := wf

theorem batch_apply {B N A C : ℕ}
    (wf : GatherDims.WF ⟨3, ![B, N, C]⟩ ⟨3, ![B, A, 1]⟩ ⟨3, ![B, A, C]⟩ [2] [1] [0] [1] [0] 2 ![1, 1, C])
    (x : (⟨3, ![B, N, C]⟩ : Shape).Idx → α) (idx : IVec ⟨3, ![B, A, 1]⟩ 32) (b : Fin B) (a : Fin A) (f : Fin C) (n : Fin N)
    (h : (idx (ix3 b a 0)).toInt = n.val) :
    Host.gather (batchDims B N A C wf) x idx (ix3 b a f) = x (ix3 b n f) := by
  unfold Host.gather
  congr 1
  funext k
  refine Fin.ext ?_
  show (batchDims B N A C wf).start (ix3 b a f) idx k + (batchDims B N A C wf).batchCoord (ix3 b a f) k
      + (batchDims B N A C wf).offCoord (ix3 b a f) k = _
  have h01 : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (batchDims B N A C wf).startIndexMap from List.mem_singleton.mpr rfl)]
    have hsi : (batchDims B N A C wf).siIdx (ix3 b a f) ⟨List.idxOf (1 : Fin 3) (batchDims B N A C wf).startIndexMap,
        List.idxOf_lt_length_iff.2 (List.mem_singleton.mpr rfl)⟩ = ix3 b a 0 := by
      funext b; refine Fin.ext ?_
      match b with
      | ⟨0, _⟩ => rfl
      | ⟨1, _⟩ => rfl
      | ⟨2, _⟩ => rfl
    rw [hsi, h]
    show min (n.val : ℤ).toNat (N - 1) = n.val
    have := n.isLt
    omega
  · rw [GatherDims.batchCoord_eq_zero _ _ _ (by simp)]
    unfold GatherDims.start
    rw [dif_neg (show (2 : Fin 3) ∉ (batchDims B N A C wf).startIndexMap from by simp)]
    unfold GatherDims.offCoord
    rw [dif_pos ((GatherDims.mem_sKept _ _).mpr ⟨by simp, by simp⟩)]
    simp only [Nat.zero_add]
    rfl

end Cert.Proof.RefGather

end
-- ==== Proof.RefValue.lean ====
/- The reference's edges, read at an index. -/
module

public import proofs.«01_k».proof.Proof.Gen.ReferenceIdeal.Run
public import proofs.«01_k».proof.Proof.Gen.ReferenceIdeal.Read
public import proofs.«01_k».proof.Proof.Inputs
public import proofs.«01_k».proof.Proof.RefGather
public import Idealize.ShloMosaic.Lib.ReduceAll

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

variable (I : Inputs)

/-- A word below `2 ^ 31` is its own signed number. -/
theorem toInt_small (x : BitVec 32) (h : x.toNat < 2 ^ 31) : x.toInt = x.toNat :=
  BitVec.toInt_eq_toNat_of_lt (by omega)

theorem slt_zero (x : BitVec 32) (h : x.toNat < 2 ^ 31) : IntOp.cmpi .slt x 0#32 = 0#1 := by
  have : ¬ (x.toInt < 0) := by rw [toInt_small x h]; omega
  simp [IntOp.cmpi, BitVec.slt, this]

theorem sge_zero (x : BitVec 32) (h : x.toNat < 2 ^ 31) : IntOp.cmpi .sge x 0#32 = 1#1 := by
  have : (0 : ℤ) ≤ x.toInt := by rw [toInt_small x h]; omega
  simp [IntOp.cmpi, BitVec.sle, this]

theorem sle_511 (x : BitVec 32) (h : x.toNat < 512) : IntOp.cmpi .sle x 511#32 = 1#1 := by
  have : x.toInt ≤ 511 := by rw [toInt_small x (by omega)]; omega
  simp [IntOp.cmpi, BitVec.sle, this]

variable {I} (h : I.Ok)
include h

theorem v4_at (i : S8x512.Idx) : val_main_v4 (F := Ideal) I.a3 i = I.a3 i := by
  have hz : (I.a3 i).toNat < 100 := by
    have e : i = ix2 (i 0 : Fin 8) (i 1 : Fin 512) := by
      funext x; match x with | ⟨0, _⟩ => rfl | ⟨1, _⟩ => rfl
    rw [e]; exact h.z _ _
  rw [val_main_v4_apply, val_main_v1_apply, val_main_v0_apply, val_main_c_apply, slt_zero _ (by omega)]
  rfl

theorem v6_at (b : Fin 8) (a : Fin 512) (f : Fin 128) :
    val_main_v6 (F := Ideal) I.a3 I.a6 (ix3 b a f) = Spec.x0 (batch I b) a f := by
  refine RefGather.rows_apply _ _ _ b a f ((batch I b).z a) ?_
  rw [val_main_v5_apply, v4_at h]
  have e : idx_main_v5 (ix3 b a 0) = ix2 b a := by
    funext x; match x with | ⟨0, _⟩ => rfl | ⟨1, _⟩ => rfl
  rw [e, toInt_small _ (by have := h.z b a; omega)]
  show ((I.a3 (ix2 b a)).toNat : ℤ) = (((I.a3 (ix2 b a)).toNat % 100 : ℕ) : ℤ)
  rw [Nat.mod_eq_of_lt (h.z b a)]

/-- The neighbour an edge row names. -/
theorem v8_at (b : Fin 8) (a : Fin 512) (j : Fin 32) :
    val_main_v8 (F := Ideal) I.a4 (ix3 b (⟨a.val * 32 + j.val, by omega⟩ : Fin 16384) 0) = I.a4 (ix3 b a j) := by
  rw [val_main_v8_apply, val_main_v7_apply]
  congr 1
  funext x
  refine Fin.ext ?_
  have h0 := b.isLt; have h1 := a.isLt; have h2 := j.isLt
  match x with
  | ⟨0, _⟩ => show _ = b.val; simp [idx_main_v7, idx_main_v8]; omega
  | ⟨1, _⟩ => show _ = a.val; simp [idx_main_v7, idx_main_v8]; omega
  | ⟨2, _⟩ => show _ = j.val; simp [idx_main_v7, idx_main_v8]; omega

theorem v8_lt (i : S8x16384x1.Idx) : (val_main_v8 (F := Ideal) I.a4 i).toNat < 512 := by
  rw [val_main_v8_apply, val_main_v7_apply]
  generalize idx_main_v7 _ = k
  have e : k = ix3 (k 0 : Fin 8) (k 1 : Fin 512) (k 2 : Fin 32) := by
    funext x; match x with | ⟨0, _⟩ => rfl | ⟨1, _⟩ => rfl | ⟨2, _⟩ => rfl
  rw [e]; exact h.nb _ _ _

theorem c0v4_at (i : S8x16384x1.Idx) : val_main_call0_v4 (F := Ideal) I.a4 i = val_main_v8 (F := Ideal) I.a4 i := by
  have hz := v8_lt h i
  rw [val_main_call0_v4_apply, val_main_call0_v1_apply, val_main_call0_v0_apply, val_main_call0_c_apply, slt_zero _ (by omega)]
  rfl

theorem c0v11_at (i : S8x16384.Idx) : val_main_call0_v11 (F := Ideal) I.a4 i = 1#1 := by
  unfold val_main_call0_v11
  refine Host.reduce_andi_one _ _ _ _ _ rfl fun k => ?_
  have hz := v8_lt h k
  rw [val_main_call0_v10_apply, val_main_call0_v6_apply, val_main_call0_v9_apply, c0v4_at h, val_main_call0_v5_apply,
    val_main_call0_c_2_apply, val_main_call0_v8_apply, val_main_call0_v7_apply, val_main_call0_c_1_apply,
    sge_zero _ (by omega), sle_511 _ hz]
  rfl

theorem v9_at (b : Fin 8) (a : Fin 512) (j : Fin 32) (c : Fin 3) :
    val_main_v9 (F := Ideal) I.a0 I.a4 (ix3 b (⟨a.val * 32 + j.val, by omega⟩ : Fin 16384) c) = I.a0 (ix3 b ((batch I b).nb a j) c) := by
  rw [val_main_v9_apply, val_main_call0_v13_apply, c0v11_at h]
  refine (show _ = val_main_call0_v12 (F := Ideal) I.a0 I.a4 _ from rfl).trans ?_
  refine RefGather.batch_apply _ _ _ b _ c ((batch I b).nb a j) ?_
  rw [c0v4_at h, v8_at h, toInt_small _ (by have := h.nb b a j; omega)]
  show ((I.a4 (ix3 b a j)).toNat : ℤ) = (((I.a4 (ix3 b a j)).toNat % 512 : ℕ) : ℤ)
  rw [Nat.mod_eq_of_lt (h.nb b a j)]

theorem v10_at (i : S8x512x32x3.Idx) :
    val_main_v10 (F := Ideal) I.a0 I.a4 i = I.a0 (ix3 (i 0 : Fin 8) ((batch I (i 0)).nb (i 1) (i 2)) (i 3 : Fin 3)) := by
  refine (val_main_v10_apply _ _ i).trans (Eq.trans ?_ (v9_at h (i 0) (i 1) (i 2) (i 3)))
  congr 1
  funext x
  refine Fin.ext ?_
  have h0 : (i 0).val < 8 := (i 0).isLt
  have h1 : (i 1).val < 512 := (i 1).isLt
  have h2 : (i 2).val < 32 := (i 2).isLt
  have h3 : (i 3).val < 3 := (i 3).isLt
  match x with
  | ⟨0, _⟩ => show _ = (i 0).val; simp [idx_main_v10]; omega
  | ⟨1, _⟩ => show _ = (i 1).val * 32 + (i 2).val; simp [idx_main_v10]; omega
  | ⟨2, _⟩ => show _ = (i 3).val; simp [idx_main_v10]; omega

/-- The reference's distances. -/
theorem v18_at (i : S8x512x32.Idx) : val_main_v18 (F := Ideal) I.a0 I.a4 i = dist (batch I (i 0)) (i 1) (i 2) := by
  rw [val_main_v18_apply, val_main_v17_apply, val_main_v15_apply, val_main_cst_apply, val_main_v16_apply, val_main_cst_1_apply]
  simp only [val_main_v14_apply, val_main_v13_apply, val_main_v12_apply, val_main_v11_apply, v10_at h]
  show Ideal.sqrt ((Ideal.ofBits .f32 0#32 + _) + _) = _
  rw [Ideal.ofBits_zero, zero_add]
  have e (k : Fin 3) : idx_main_v11 (idx_main_v12 (idx_main_v15 i k)) = ix3 (i 0 : Fin 8) (i 1 : Fin 512) k := by
    funext x; match x with | ⟨0, _⟩ => rfl | ⟨1, _⟩ => rfl | ⟨2, _⟩ => rfl
  simp only [e]
  rfl

end Cert.Proof.RefValue

end
-- ==== Proof.RefEdge.lean ====
/- The reference's radial functions, cutoff and shifted softplus. -/
module

public import proofs.«01_k».proof.Proof.RefValue
public import proofs.«01_k».proof.Proof.Reals

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

/-- The shifted softplus as the reference writes it. -/
def refSsp (x : EReal) : EReal :=
  FloatOps.subf (F := Ideal) (φ := .f32)
    (Scalar.select
      (FloatOps.cmpf (F := Ideal) (φ := .f32) .une (FloatOps.subf (F := Ideal) (φ := .f32) x (lit 0x00000000#32)) (FloatOps.subf (F := Ideal) (φ := .f32) x (lit 0x00000000#32)))
      (FloatOps.addf (F := Ideal) (φ := .f32) x (lit 0x00000000#32))
      (FloatOps.addf (F := Ideal) (φ := .f32) (FloatOps.maximumf (F := Ideal) (φ := .f32) x (lit 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) x (lit 0x00000000#32))))))))
    (FloatOps.hostUnary (F := Ideal) (φ := .f32) .log (lit 0x40000000#32))

theorem lit_zero : lit 0x00000000#32 = 0 := Ideal.ofBits_zero .f32

theorem log_lit_two : FloatOps.hostUnary (F := Ideal) (φ := .f32) .log (lit 0x40000000#32) = ln2 := by
  rw [lit_two]
  rw [Ideal.hostUnary_log_def]
  exact (Ideal.log_coe 2).trans (if_neg (by norm_num))

theorem refSsp_eq (x : EReal) : refSsp x = ssp x := by
  unfold refSsp
  rw [log_lit_two, lit_zero]
  have hs : FloatOps.subf (F := Ideal) (φ := .f32) x (0 : EReal) = x := sub_zero x
  rw [hs]
  have hc : FloatOps.cmpf (F := Ideal) (φ := .f32) .une x x = 0#1 := by
    rw [Ideal.cmpf_def]; simp [Ideal.cmp]
  rw [hc]
  show max x 0 + Ideal.log1p (Ideal.exp (-(max x (-x)))) - ln2 = _
  unfold ssp
  rw [zero_sub]

/-! ### The radial grid -/

theorem c1v15_at (k : Fin 49) (hk : k.val < 50) : val_main_call1_v15 (F := Ideal) (ix1 k) = ramp ⟨k.val, hk⟩ := by
  rw [val_main_call1_v15_apply, val_main_call1_v11_apply, val_main_call1_v14_apply, val_main_call1_v10_apply, val_main_call1_v9_apply,
    val_main_call1_v8_apply, val_main_call1_v13_apply, val_main_call1_v6_apply, val_main_call1_v5_apply]
  have e7 (i : S1.Idx) : val_main_call1_v7 (F := Ideal) i = lit 0x00000000#32 := rfl
  have e12 (i : S1.Idx) : val_main_call1_v12 (F := Ideal) i = lit 0x40A00000#32 := rfl
  rw [e7, e12]
  unfold ramp
  rw [if_pos (show k.val < 49 from k.isLt), ← lit_one]
  rfl

theorem v19_at (k : Fin 50) : val_main_v19 (F := Ideal) (ix1 k) = ramp k := by
  unfold val_main_v19
  by_cases hk : k.val < 49
  · refine (concatenate_pair_apply_left 0 _ _ concatenates_S49_S1_S50_d0 (ix1 k) rfl (ix1 (⟨k.val, hk⟩ : Fin 49)) ?_).trans ?_
    · intro b; match b with | ⟨0, _⟩ => rfl
    · exact c1v15_at ⟨k.val, hk⟩ k.isLt
  · refine (concatenate_pair_apply_right 0 _ _ concatenates_S49_S1_S50_d0 (ix1 k) rfl rfl (ix1 (0 : Fin 1)) ?_ ?_).trans ?_
    · intro b hb; match b with | ⟨0, _⟩ => exact absurd rfl hb
    · show 0 + 49 = k.val; have := k.isLt; omega
    · unfold ramp; rw [if_neg hk]; rfl

theorem v26_at (i : S_.Idx) : val_main_v26 (F := Ideal) i = factor := by
  have e21 (i : S_.Idx) : val_main_v21 (F := Ideal) i = ramp 1 := by
    unfold val_main_v21
    refine (shapeCast_apply _ shapeCasts_S1_S_ i (ix1 0) ?_).trans ?_
    · have h1 := (S1.rowMajor (ix1 0)).isLt
      have h2 := (S_.rowMajor i).isLt
      have h3 : S1.numel = 1 := by decide
      have h4 : S_.numel = 1 := by decide
      omega
    · rw [val_main_v20_apply]
      refine Eq.trans ?_ (v19_at 1)
      congr 1
      funext x; match x with | ⟨0, _⟩ => rfl
  have e23 (i : S_.Idx) : val_main_v23 (F := Ideal) i = ramp 0 := by
    unfold val_main_v23
    refine (shapeCast_apply _ shapeCasts_S1_S_ i (ix1 0) ?_).trans ?_
    · have h1 := (S1.rowMajor (ix1 0)).isLt
      have h2 := (S_.rowMajor i).isLt
      have h3 : S1.numel = 1 := by decide
      have h4 : S_.numel = 1 := by decide
      omega
    · rw [val_main_v22_apply]
      refine Eq.trans ?_ (v19_at 0)
      congr 1
      funext x; match x with | ⟨0, _⟩ => rfl
  rw [val_main_v26_apply, val_main_v25_apply, val_main_v24_apply, e21, e23]
  rfl

variable {I : Inputs} (h : I.Ok)
include h

theorem v35_at (i : S8x512x32x50.Idx) :
    val_main_v35 (F := Ideal) I.a0 I.a4 i = rbf (batch I (i 0)) (dist (batch I (i 0)) (i 1) (i 2)) (i 3) := by
  rw [val_main_v35_apply, val_main_v34_apply, val_main_v33_apply, v26_at, val_main_v32_apply, val_main_v31_apply, val_main_v29_apply,
    val_main_v27_apply, v18_at h, val_main_v30_apply, val_main_v28_apply]
  have e : val_main_v19 (F := Ideal) (idx_main_v28 (idx_main_v30 i)) = ramp (i 3) := by
    refine Eq.trans ?_ (v19_at (i 3))
    congr 1
    funext x; match x with | ⟨0, _⟩ => rfl
  rw [e]
  rfl

theorem v48_at (i : S8x512x32.Idx) :
    val_main_v48 (F := Ideal) I.a0 I.a4 i = cut (dist (batch I (i 0)) (i 1) (i 2)) := by
  rw [val_main_v48_apply, val_main_v44_apply, val_main_v43_apply, val_main_v42_apply, val_main_v41_apply, val_main_v40_apply, val_main_v39_apply,
    val_main_v38_apply, val_main_v37_apply, val_main_v36_apply, val_main_v47_apply, val_main_v46_apply, val_main_v45_apply, v18_at h]
  generalize dist (batch I (i 0)) (i 1) (i 2) = d
  unfold cut
  show (lit 0x3F000000#32 * (Ideal.cos (Ideal.div (lit 0x40490FDB#32 * d) (lit 0x40A00000#32)) + lit 0x3F800000#32))
    * FloatOps.uitofp (F := Ideal) .f32 (Ideal.cmp .olt d (lit 0x40A00000#32)) = _
  have hc : Ideal.cmp .olt d (lit 0x40A00000#32) = (if d < lit 0x40A00000#32 then 1#1 else 0#1 : BitVec 1) := by
    simp only [Ideal.cmp]
    split_ifs with hd <;> simp [hd]
  rw [hc]
  have u1 : FloatOps.uitofp (F := Ideal) .f32 (1#1 : BitVec 1) = (1 : EReal) := by
    show (((1#1 : BitVec 1).toNat : ℝ) : EReal) = 1; simp
  have u0 : FloatOps.uitofp (F := Ideal) .f32 (0#1 : BitVec 1) = (0 : EReal) := by
    show (((0#1 : BitVec 1).toNat : ℝ) : EReal) = 0; simp
  rw [lit_one]
  split_ifs with hd
  · rw [u1, mul_one]
  · rw [u0, mul_zero]

end Cert.Proof.RefValue

end
-- ==== Proof.RefLayer0.lean ====
/- The reference's layer 0, read at an index. -/
module

public import proofs.«01_k».proof.Proof.RefEdge

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

variable {I : Inputs}

/-! ### The weights -/

theorem w50_0 (b : Fin 8) (k : Fin 50) (f : Fin 128) : (val_main_v50 (F := Ideal) I.a7) (ix2 k f) = (batch I b).fw1 0 k f := by
  refine (val_main_v50_apply _ _).trans ((val_main_v49_apply _ _).trans ?_)
  show I.a7 _ = I.a7 (ix3 (0 : Fin 3) k f)
  congr 1
  funext x
  refine Fin.ext ?_
  have h1 := k.isLt
  have h2 := f.isLt
  match x with
  | ⟨0, _⟩ => show _ = 0; simp [idx_main_v50, idx_main_v49]
  | ⟨1, _⟩ => show _ = k.val; simp [idx_main_v50, idx_main_v49]; try omega
  | ⟨2, _⟩ => show _ = f.val; simp [idx_main_v50, idx_main_v49]; try omega

theorem w55_0 (b : Fin 8) (i : S8x512x32x128.Idx) : (val_main_v55 (F := Ideal) I.a8) i = (batch I b).fb1 0 (i 3) := by
  refine (val_main_v55_apply _ _).trans ((val_main_v54_apply _ _).trans ((val_main_v53_apply _ _).trans ((val_main_v52_apply _ _).trans ?_)))
  show I.a8 _ = I.a8 (ix2 (0 : Fin 3) (i 3 : Fin 128))
  congr 1
  funext x
  refine Fin.ext ?_
  have h1 : (i 3).val < 128 := (i 3).isLt
  match x with
  | ⟨0, _⟩ => show _ = 0; simp [idx_main_v53, idx_main_v52]
  | ⟨1, _⟩ => show _ = (i 3).val; simp [idx_main_v53, idx_main_v52]; try omega

theorem w75_0 (b : Fin 8) (k : Fin 128) (f : Fin 128) : (val_main_v75 (F := Ideal) I.a9) (ix2 k f) = (batch I b).fw2 0 k f := by
  refine (val_main_v75_apply _ _).trans ((val_main_v74_apply _ _).trans ?_)
  show I.a9 _ = I.a9 (ix3 (0 : Fin 3) k f)
  congr 1
  funext x
  refine Fin.ext ?_
  have h1 := k.isLt
  have h2 := f.isLt
  match x with
  | ⟨0, _⟩ => show _ = 0; simp [idx_main_v75, idx_main_v74]
  | ⟨1, _⟩ => show _ = k.val; simp [idx_main_v75, idx_main_v74]; try omega
  | ⟨2, _⟩ => show _ = f.val; simp [idx_main_v75, idx_main_v74]; try omega

theorem w80_0 (b : Fin 8) (i : S8x512x32x128.Idx) : (val_main_v80 (F := Ideal) I.a10) i = (batch I b).fb2 0 (i 3) := by
  refine (val_main_v80_apply _ _).trans ((val_main_v79_apply _ _).trans ((val_main_v78_apply _ _).trans ((val_main_v77_apply _ _).trans ?_)))
  show I.a10 _ = I.a10 (ix2 (0 : Fin 3) (i 3 : Fin 128))
  congr 1
  funext x
  refine Fin.ext ?_
  have h1 : (i 3).val < 128 := (i 3).isLt
  match x with
  | ⟨0, _⟩ => show _ = 0; simp [idx_main_v78, idx_main_v77]
  | ⟨1, _⟩ => show _ = (i 3).val; simp [idx_main_v78, idx_main_v77]; try omega

theorem w89_0 (b : Fin 8) (k : Fin 128) (f : Fin 128) : (val_main_v89 (F := Ideal) I.a11) (ix2 k f) = (batch I b).in2f 0 k f := by
  refine (val_main_v89_apply _ _).trans ((val_main_v88_apply _ _).trans ?_)
  show I.a11 _ = I.a11 (ix3 (0 : Fin 3) k f)
  congr 1
  funext x
  refine Fin.ext ?_
  have h1 := k.isLt
  have h2 := f.isLt
  match x with
  | ⟨0, _⟩ => show _ = 0; simp [idx_main_v89, idx_main_v88]
  | ⟨1, _⟩ => show _ = k.val; simp [idx_main_v89, idx_main_v88]; try omega
  | ⟨2, _⟩ => show _ = f.val; simp [idx_main_v89, idx_main_v88]; try omega

theorem w97_0 (b : Fin 8) (k : Fin 128) (f : Fin 128) : (val_main_v97 (F := Ideal) I.a12) (ix2 k f) = (batch I b).ow1 0 k f := by
  refine (val_main_v97_apply _ _).trans ((val_main_v96_apply _ _).trans ?_)
  show I.a12 _ = I.a12 (ix3 (0 : Fin 3) k f)
  congr 1
  funext x
  refine Fin.ext ?_
  have h1 := k.isLt
  have h2 := f.isLt
  match x with
  | ⟨0, _⟩ => show _ = 0; simp [idx_main_v97, idx_main_v96]
  | ⟨1, _⟩ => show _ = k.val; simp [idx_main_v97, idx_main_v96]; try omega
  | ⟨2, _⟩ => show _ = f.val; simp [idx_main_v97, idx_main_v96]; try omega

theorem w102_0 (b : Fin 8) (i : S8x512x128.Idx) : (val_main_v102 (F := Ideal) I.a13) i = (batch I b).ob1 0 (i 2) := by
  refine (val_main_v102_apply _ _).trans ((val_main_v101_apply _ _).trans ((val_main_v100_apply _ _).trans ((val_main_v99_apply _ _).trans ?_)))
  show I.a13 _ = I.a13 (ix2 (0 : Fin 3) (i 2 : Fin 128))
  congr 1
  funext x
  refine Fin.ext ?_
  have h1 : (i 2).val < 128 := (i 2).isLt
  match x with
  | ⟨0, _⟩ => show _ = 0; simp [idx_main_v100, idx_main_v99]
  | ⟨1, _⟩ => show _ = (i 2).val; simp [idx_main_v100, idx_main_v99]; try omega

theorem w122_0 (b : Fin 8) (k : Fin 128) (f : Fin 128) : (val_main_v122 (F := Ideal) I.a14) (ix2 k f) = (batch I b).ow2 0 k f := by
  refine (val_main_v122_apply _ _).trans ((val_main_v121_apply _ _).trans ?_)
  show I.a14 _ = I.a14 (ix3 (0 : Fin 3) k f)
  congr 1
  funext x
  refine Fin.ext ?_
  have h1 := k.isLt
  have h2 := f.isLt
  match x with
  | ⟨0, _⟩ => show _ = 0; simp [idx_main_v122, idx_main_v121]
  | ⟨1, _⟩ => show _ = k.val; simp [idx_main_v122, idx_main_v121]; try omega
  | ⟨2, _⟩ => show _ = f.val; simp [idx_main_v122, idx_main_v121]; try omega

theorem w127_0 (b : Fin 8) (i : S8x512x128.Idx) : (val_main_v127 (F := Ideal) I.a15) i = (batch I b).ob2 0 (i 2) := by
  refine (val_main_v127_apply _ _).trans ((val_main_v126_apply _ _).trans ((val_main_v125_apply _ _).trans ((val_main_v124_apply _ _).trans ?_)))
  show I.a15 _ = I.a15 (ix2 (0 : Fin 3) (i 2 : Fin 128))
  congr 1
  funext x
  refine Fin.ext ?_
  have h1 : (i 2).val < 128 := (i 2).isLt
  match x with
  | ⟨0, _⟩ => show _ = 0; simp [idx_main_v125, idx_main_v124]
  | ⟨1, _⟩ => show _ = (i 2).val; simp [idx_main_v125, idx_main_v124]; try omega

/-! ### The softplus -/

theorem s73_0 (i : S8x512x32x128.Idx) : (val_main_v73 (F := Ideal) I.a0 I.a4 I.a7 I.a8) i = ssp ((val_main_v56 (F := Ideal) I.a0 I.a4 I.a7 I.a8) i) := by
  refine Eq.trans ?_ (refSsp_eq _)
  simp only [val_main_v73_apply, val_main_v69_apply, val_main_v61_apply, val_main_v60_apply, val_main_v63_apply, val_main_v62_apply, val_main_v68_apply, val_main_v58_apply, val_main_v57_apply, val_main_v59_apply, val_main_v67_apply, val_main_v66_apply, val_main_v65_apply, val_main_v64_apply, val_main_v72_apply, val_main_v71_apply, val_main_v70_apply]
  rfl

theorem s120_0 (i : S8x512x128.Idx) : (val_main_v120 (F := Ideal) I.a0 I.a3 I.a4 I.a5 I.a6 I.a7 I.a8 I.a9 I.a10 I.a11 I.a12 I.a13) i = ssp ((val_main_v103 (F := Ideal) I.a0 I.a3 I.a4 I.a5 I.a6 I.a7 I.a8 I.a9 I.a10 I.a11 I.a12 I.a13) i) := by
  refine Eq.trans ?_ (refSsp_eq _)
  simp only [val_main_v120_apply, val_main_v116_apply, val_main_v108_apply, val_main_v107_apply, val_main_v110_apply, val_main_v109_apply, val_main_v115_apply, val_main_v105_apply, val_main_v104_apply, val_main_v106_apply, val_main_v114_apply, val_main_v113_apply, val_main_v112_apply, val_main_v111_apply, val_main_v119_apply, val_main_v118_apply, val_main_v117_apply]
  rfl

variable (h : I.Ok)
include h

/-! ### The filter -/

theorem v56_0 (i : S8x512x32x128.Idx) : (val_main_v56 (F := Ideal) I.a0 I.a4 I.a7 I.a8) i
    = (∑ k, rbf (batch I (i 0)) (dist (batch I (i 0)) (i 1) (i 2)) k * (batch I (i 0)).fw1 0 k (i 3)) + (batch I (i 0)).fb1 0 (i 3) := by
  refine (val_main_v56_apply _ _ _ _ i).trans (congrArg₂ (fun x y : EReal => x + y) ((val_main_v51_apply _ _ _ i).trans (Finset.sum_congr rfl fun k _ =>
    congrArg₂ (fun x y : EReal => x * y) (v35_at h _) ((congrArg (val_main_v50 (F := Ideal) I.a7) ?_).trans (w50_0 (i 0) k (i 3))))) (w55_0 (i 0) i))
  funext x; match x with | ⟨0, _⟩ => rfl | ⟨1, _⟩ => rfl

theorem v87_0 (i : S8x512x32x128.Idx) : (val_main_v87 (F := Ideal) I.a0 I.a4 I.a5 I.a7 I.a8 I.a9 I.a10) i
    = filt (batch I (i 0)) 0 (dist (batch I (i 0)) (i 1) (i 2)) (i 3) := by
  have e85 : (val_main_v86 (F := Ideal) I.a5) i = 1 := by
    refine (val_main_v86_apply _ i).trans ((val_main_v85_apply _ _).trans (Eq.trans ?_ (h.nbm (i 0) (i 1) (i 2))))
    congr 1
    funext x; match x with | ⟨0, _⟩ => rfl | ⟨1, _⟩ => rfl | ⟨2, _⟩ => rfl
  have e83 : (val_main_v83 (F := Ideal) I.a0 I.a4) i = cut (dist (batch I (i 0)) (i 1) (i 2)) :=
    (val_main_v83_apply _ _ i).trans ((val_main_v82_apply _ _ _).trans (v48_at h _))
  have e81 : (val_main_v81 (F := Ideal) I.a0 I.a4 I.a7 I.a8 I.a9 I.a10) i = mlp ((batch I (i 0)).fw1 0) ((batch I (i 0)).fb1 0) ((batch I (i 0)).fw2 0) ((batch I (i 0)).fb2 0)
      (rbf (batch I (i 0)) (dist (batch I (i 0)) (i 1) (i 2))) (i 3) := by
    refine (val_main_v81_apply _ _ _ _ _ _ i).trans (congrArg₂ (fun x y : EReal => x + y) ((val_main_v76_apply _ _ _ _ _ i).trans (Finset.sum_congr rfl fun k _ =>
      congrArg₂ (fun x y : EReal => x * y) ((s73_0 _).trans (congrArg ssp (v56_0 h _))) ((congrArg (val_main_v75 (F := Ideal) I.a9) ?_).trans (w75_0 (i 0) k (i 3))))) (w80_0 (i 0) i))
    funext x; match x with | ⟨0, _⟩ => rfl | ⟨1, _⟩ => rfl
  refine (val_main_v87_apply _ _ _ _ _ _ _ i).trans ((congrArg₂ (fun x y : EReal => x * y) ((val_main_v84_apply _ _ _ _ _ _ i).trans
    (congrArg₂ (fun x y : EReal => x * y) e81 e83)) e85).trans (mul_one _))

/-! ### The messages -/

theorem prev_0 (i : S8x512x128.Idx) : (val_main_v6 (F := Ideal) I.a3 I.a6) i = (Spec.x0 (batch I (i 0))) (i 1) (i 2) := by
  refine Eq.trans ?_ (v6_at h (i 0) (i 1) (i 2))
  congr 1
  funext x; match x with | ⟨0, _⟩ => rfl | ⟨1, _⟩ => rfl | ⟨2, _⟩ => rfl

theorem v90_0 (i : S8x512x128.Idx) : (val_main_v90 (F := Ideal) I.a3 I.a6 I.a11) i = feat (batch I (i 0)) 0 (Spec.x0 (batch I (i 0))) (i 1) (i 2) := by
  refine (val_main_v90_apply _ _ _ i).trans (Finset.sum_congr rfl fun k _ =>
    congrArg₂ (fun x y : EReal => x * y) (prev_0 h _) ((congrArg (val_main_v89 (F := Ideal) I.a11) ?_).trans (w89_0 (i 0) k (i 2))))
  funext x; match x with | ⟨0, _⟩ => rfl | ⟨1, _⟩ => rfl

theorem c2v4_0 (i : S8x16384x1.Idx) : (val_main_call2_v4 (F := Ideal) I.a4) i = (val_main_v8 (F := Ideal) I.a4) i := by
  have hz := v8_lt h i
  have e : (val_main_v91 (F := Ideal) I.a4) i = (val_main_v8 (F := Ideal) I.a4) i := rfl
  rw [val_main_call2_v4_apply, val_main_call2_v1_apply, val_main_call2_v0_apply, val_main_call2_c_apply, e, slt_zero _ (by omega)]
  rfl

theorem c2v11_0 (i : S8x16384.Idx) : (val_main_call2_v11 (F := Ideal) I.a4) i = 1#1 := by
  unfold val_main_call2_v11
  refine Host.reduce_andi_one _ _ _ _ _ rfl fun k => ?_
  have hz := v8_lt h k
  rw [val_main_call2_v10_apply, val_main_call2_v6_apply, val_main_call2_v9_apply, c2v4_0 h, val_main_call2_v5_apply,
    val_main_call2_c_2_apply, val_main_call2_v8_apply, val_main_call2_v7_apply, val_main_call2_c_1_apply,
    sge_zero _ (by omega), sle_511 _ hz]
  rfl

theorem v92_0 (b : Fin 8) (a : Fin 512) (j : Fin 32) (f : Fin 128) :
    (val_main_v92 (F := Ideal) I.a3 I.a4 I.a6 I.a11) (ix3 b (⟨a.val * 32 + j.val, by omega⟩ : Fin 16384) f)
      = feat (batch I b) 0 (Spec.x0 (batch I b)) ((batch I b).nb a j) f := by
  rw [val_main_v92_apply, val_main_call2_v13_apply, c2v11_0 h]
  refine (show _ = (val_main_call2_v12 (F := Ideal) I.a3 I.a4 I.a6 I.a11) _ from rfl).trans ?_
  refine (RefGather.batch_apply _ _ _ b _ f ((batch I b).nb a j) ?_).trans (v90_0 h _)
  rw [c2v4_0 h, v8_at h, toInt_small _ (by have := h.nb b a j; omega)]
  show ((I.a4 (ix3 b a j)).toNat : ℤ) = (((I.a4 (ix3 b a j)).toNat % 512 : ℕ) : ℤ)
  rw [Nat.mod_eq_of_lt (h.nb b a j)]

theorem v93_0 (i : S8x512x32x128.Idx) :
    (val_main_v93 (F := Ideal) I.a3 I.a4 I.a6 I.a11) i = feat (batch I (i 0)) 0 (Spec.x0 (batch I (i 0))) ((batch I (i 0)).nb (i 1) (i 2)) (i 3) := by
  refine (val_main_v93_apply _ _ _ _ i).trans (Eq.trans ?_ (v92_0 h (i 0) (i 1) (i 2) (i 3)))
  congr 1
  funext x
  refine Fin.ext ?_
  have h0 : (i 0).val < 8 := (i 0).isLt
  have h1 : (i 1).val < 512 := (i 1).isLt
  have h2 : (i 2).val < 32 := (i 2).isLt
  have h3 : (i 3).val < 128 := (i 3).isLt
  match x with
  | ⟨0, _⟩ => show _ = (i 0).val; simp [idx_main_v93]; try omega
  | ⟨1, _⟩ => show _ = (i 1).val * 32 + (i 2).val; simp [idx_main_v93]; try omega
  | ⟨2, _⟩ => show _ = (i 3).val; simp [idx_main_v93]; try omega

theorem v95_0 (i : S8x512x128.Idx) : (val_main_v95 (F := Ideal) I.a0 I.a3 I.a4 I.a5 I.a6 I.a7 I.a8 I.a9 I.a10 I.a11) i = conv (batch I (i 0)) 0 (Spec.x0 (batch I (i 0))) (i 1) (i 2) := by
  refine (val_main_v95_apply _ _ _ _ _ _ _ _ _ _ i).trans ?_
  rw [show val_main_cst_12 (F := Ideal) (Shape.Idx.first h_S_) = (0 : EReal) from Ideal.ofBits_zero .f32, zero_add]
  refine Finset.sum_congr rfl fun j _ => (val_main_v94_apply _ _ _ _ _ _ _ _ _ _ _).trans
    (congrArg₂ (fun x y : EReal => x * y) (v93_0 h _) (v87_0 h _))

/-! ### The layer -/

theorem v103_0 (i : S8x512x128.Idx) : (val_main_v103 (F := Ideal) I.a0 I.a3 I.a4 I.a5 I.a6 I.a7 I.a8 I.a9 I.a10 I.a11 I.a12 I.a13) i
    = (∑ k, conv (batch I (i 0)) 0 (Spec.x0 (batch I (i 0))) (i 1) k * (batch I (i 0)).ow1 0 k (i 2)) + (batch I (i 0)).ob1 0 (i 2) := by
  refine (val_main_v103_apply _ _ _ _ _ _ _ _ _ _ _ _ i).trans (congrArg₂ (fun x y : EReal => x + y) ((val_main_v98_apply _ _ _ _ _ _ _ _ _ _ _ i).trans (Finset.sum_congr rfl fun k _ =>
    congrArg₂ (fun x y : EReal => x * y) (v95_0 h _) ((congrArg (val_main_v97 (F := Ideal) I.a12) ?_).trans (w97_0 (i 0) k (i 2))))) (w102_0 (i 0) i))
  funext x; match x with | ⟨0, _⟩ => rfl | ⟨1, _⟩ => rfl

theorem v128_0 (i : S8x512x128.Idx) : (val_main_v128 (F := Ideal) I.a0 I.a3 I.a4 I.a5 I.a6 I.a7 I.a8 I.a9 I.a10 I.a11 I.a12 I.a13 I.a14 I.a15) i
    = mlp ((batch I (i 0)).ow1 0) ((batch I (i 0)).ob1 0) ((batch I (i 0)).ow2 0) ((batch I (i 0)).ob2 0)
      (conv (batch I (i 0)) 0 (Spec.x0 (batch I (i 0))) (i 1)) (i 2) := by
  refine (val_main_v128_apply _ _ _ _ _ _ _ _ _ _ _ _ _ _ i).trans (congrArg₂ (fun x y : EReal => x + y) ((val_main_v123_apply _ _ _ _ _ _ _ _ _ _ _ _ _ i).trans (Finset.sum_congr rfl fun k _ =>
    congrArg₂ (fun x y : EReal => x * y) ((s120_0 _).trans (congrArg ssp (v103_0 h _))) ((congrArg (val_main_v122 (F := Ideal) I.a14) ?_).trans (w122_0 (i 0) k (i 2))))) (w127_0 (i 0) i))
  funext x; match x with | ⟨0, _⟩ => rfl | ⟨1, _⟩ => rfl

theorem v129_0 (i : S8x512x128.Idx) : (val_main_v129 (F := Ideal) I.a0 I.a3 I.a4 I.a5 I.a6 I.a7 I.a8 I.a9 I.a10 I.a11 I.a12 I.a13 I.a14 I.a15) i = layer (batch I (i 0)) 0 (Spec.x0 (batch I (i 0))) (i 1) (i 2) :=
  (val_main_v129_apply _ _ _ _ _ _ _ _ _ _ _ _ _ _ i).trans (congrArg₂ (fun x y : EReal => x + y) (prev_0 h i) (v128_0 h i))

end Cert.Proof.RefValue

end
-- ==== Proof.RefLayer1.lean ====
/- The reference's layer 1, read at an index. -/
module

public import proofs.«01_k».proof.Proof.RefLayer0

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

variable {I : Inputs}

/-! ### The weights -/

theorem w50_1 (b : Fin 8) (k : Fin 50) (f : Fin 128) : (val_main_v131 (F := Ideal) I.a7) (ix2 k f) = (batch I b).fw1 1 k f := by
  refine (val_main_v131_apply _ _).trans ((val_main_v130_apply _ _).trans ?_)
  show I.a7 _ = I.a7 (ix3 (1 : Fin 3) k f)
  congr 1
  funext x
  refine Fin.ext ?_
  have h1 := k.isLt
  have h2 := f.isLt
  match x with
  | ⟨0, _⟩ => show _ = 1; simp [idx_main_v131, idx_main_v130]
  | ⟨1, _⟩ => show _ = k.val; simp [idx_main_v131, idx_main_v130]; try omega
  | ⟨2, _⟩ => show _ = f.val; simp [idx_main_v131, idx_main_v130]; try omega

theorem w55_1 (b : Fin 8) (i : S8x512x32x128.Idx) : (val_main_v136 (F := Ideal) I.a8) i = (batch I b).fb1 1 (i 3) := by
  refine (val_main_v136_apply _ _).trans ((val_main_v135_apply _ _).trans ((val_main_v134_apply _ _).trans ((val_main_v133_apply _ _).trans ?_)))
  show I.a8 _ = I.a8 (ix2 (1 : Fin 3) (i 3 : Fin 128))
  congr 1
  funext x
  refine Fin.ext ?_
  have h1 : (i 3).val < 128 := (i 3).isLt
  match x with
  | ⟨0, _⟩ => show _ = 1; simp [idx_main_v134, idx_main_v133]
  | ⟨1, _⟩ => show _ = (i 3).val; simp [idx_main_v134, idx_main_v133]; try omega

theorem w75_1 (b : Fin 8) (k : Fin 128) (f : Fin 128) : (val_main_v156 (F := Ideal) I.a9) (ix2 k f) = (batch I b).fw2 1 k f := by
  refine (val_main_v156_apply _ _).trans ((val_main_v155_apply _ _).trans ?_)
  show I.a9 _ = I.a9 (ix3 (1 : Fin 3) k f)
  congr 1
  funext x
  refine Fin.ext ?_
  have h1 := k.isLt
  have h2 := f.isLt
  match x with
  | ⟨0, _⟩ => show _ = 1; simp [idx_main_v156, idx_main_v155]
  | ⟨1, _⟩ => show _ = k.val; simp [idx_main_v156, idx_main_v155]; try omega
  | ⟨2, _⟩ => show _ = f.val; simp [idx_main_v156, idx_main_v155]; try omega

theorem w80_1 (b : Fin 8) (i : S8x512x32x128.Idx) : (val_main_v161 (F := Ideal) I.a10) i = (batch I b).fb2 1 (i 3) := by
  refine (val_main_v161_apply _ _).trans ((val_main_v160_apply _ _).trans ((val_main_v159_apply _ _).trans ((val_main_v158_apply _ _).trans ?_)))
  show I.a10 _ = I.a10 (ix2 (1 : Fin 3) (i 3 : Fin 128))
  congr 1
  funext x
  refine Fin.ext ?_
  have h1 : (i 3).val < 128 := (i 3).isLt
  match x with
  | ⟨0, _⟩ => show _ = 1; simp [idx_main_v159, idx_main_v158]
  | ⟨1, _⟩ => show _ = (i 3).val; simp [idx_main_v159, idx_main_v158]; try omega

theorem w89_1 (b : Fin 8) (k : Fin 128) (f : Fin 128) : (val_main_v170 (F := Ideal) I.a11) (ix2 k f) = (batch I b).in2f 1 k f := by
  refine (val_main_v170_apply _ _).trans ((val_main_v169_apply _ _).trans ?_)
  show I.a11 _ = I.a11 (ix3 (1 : Fin 3) k f)
  congr 1
  funext x
  refine Fin.ext ?_
  have h1 := k.isLt
  have h2 := f.isLt
  match x with
  | ⟨0, _⟩ => show _ = 1; simp [idx_main_v170, idx_main_v169]
  | ⟨1, _⟩ => show _ = k.val; simp [idx_main_v170, idx_main_v169]; try omega
  | ⟨2, _⟩ => show _ = f.val; simp [idx_main_v170, idx_main_v169]; try omega

theorem w97_1 (b : Fin 8) (k : Fin 128) (f : Fin 128) : (val_main_v178 (F := Ideal) I.a12) (ix2 k f) = (batch I b).ow1 1 k f := by
  refine (val_main_v178_apply _ _).trans ((val_main_v177_apply _ _).trans ?_)
  show I.a12 _ = I.a12 (ix3 (1 : Fin 3) k f)
  congr 1
  funext x
  refine Fin.ext ?_
  have h1 := k.isLt
  have h2 := f.isLt
  match x with
  | ⟨0, _⟩ => show _ = 1; simp [idx_main_v178, idx_main_v177]
  | ⟨1, _⟩ => show _ = k.val; simp [idx_main_v178, idx_main_v177]; try omega
  | ⟨2, _⟩ => show _ = f.val; simp [idx_main_v178, idx_main_v177]; try omega

theorem w102_1 (b : Fin 8) (i : S8x512x128.Idx) : (val_main_v183 (F := Ideal) I.a13) i = (batch I b).ob1 1 (i 2) := by
  refine (val_main_v183_apply _ _).trans ((val_main_v182_apply _ _).trans ((val_main_v181_apply _ _).trans ((val_main_v180_apply _ _).trans ?_)))
  show I.a13 _ = I.a13 (ix2 (1 : Fin 3) (i 2 : Fin 128))
  congr 1
  funext x
  refine Fin.ext ?_
  have h1 : (i 2).val < 128 := (i 2).isLt
  match x with
  | ⟨0, _⟩ => show _ = 1; simp [idx_main_v181, idx_main_v180]
  | ⟨1, _⟩ => show _ = (i 2).val; simp [idx_main_v181, idx_main_v180]; try omega

theorem w122_1 (b : Fin 8) (k : Fin 128) (f : Fin 128) : (val_main_v203 (F := Ideal) I.a14) (ix2 k f) = (batch I b).ow2 1 k f := by
  refine (val_main_v203_apply _ _).trans ((val_main_v202_apply _ _).trans ?_)
  show I.a14 _ = I.a14 (ix3 (1 : Fin 3) k f)
  congr 1
  funext x
  refine Fin.ext ?_
  have h1 := k.isLt
  have h2 := f.isLt
  match x with
  | ⟨0, _⟩ => show _ = 1; simp [idx_main_v203, idx_main_v202]
  | ⟨1, _⟩ => show _ = k.val; simp [idx_main_v203, idx_main_v202]; try omega
  | ⟨2, _⟩ => show _ = f.val; simp [idx_main_v203, idx_main_v202]; try omega

theorem w127_1 (b : Fin 8) (i : S8x512x128.Idx) : (val_main_v208 (F := Ideal) I.a15) i = (batch I b).ob2 1 (i 2) := by
  refine (val_main_v208_apply _ _).trans ((val_main_v207_apply _ _).trans ((val_main_v206_apply _ _).trans ((val_main_v205_apply _ _).trans ?_)))
  show I.a15 _ = I.a15 (ix2 (1 : Fin 3) (i 2 : Fin 128))
  congr 1
  funext x
  refine Fin.ext ?_
  have h1 : (i 2).val < 128 := (i 2).isLt
  match x with
  | ⟨0, _⟩ => show _ = 1; simp [idx_main_v206, idx_main_v205]
  | ⟨1, _⟩ => show _ = (i 2).val; simp [idx_main_v206, idx_main_v205]; try omega

/-! ### The softplus -/

theorem s73_1 (i : S8x512x32x128.Idx) : (val_main_v154 (F := Ideal) I.a0 I.a4 I.a7 I.a8) i = ssp ((val_main_v137 (F := Ideal) I.a0 I.a4 I.a7 I.a8) i) := by
  refine Eq.trans ?_ (refSsp_eq _)
  simp only [val_main_v154_apply, val_main_v150_apply, val_main_v142_apply, val_main_v141_apply, val_main_v144_apply, val_main_v143_apply, val_main_v149_apply, val_main_v139_apply, val_main_v138_apply, val_main_v140_apply, val_main_v148_apply, val_main_v147_apply, val_main_v146_apply, val_main_v145_apply, val_main_v153_apply, val_main_v152_apply, val_main_v151_apply]
  rfl

theorem s120_1 (i : S8x512x128.Idx) : (val_main_v201 (F := Ideal) I.a0 I.a3 I.a4 I.a5 I.a6 I.a7 I.a8 I.a9 I.a10 I.a11 I.a12 I.a13 I.a14 I.a15) i = ssp ((val_main_v184 (F := Ideal) I.a0 I.a3 I.a4 I.a5 I.a6 I.a7 I.a8 I.a9 I.a10 I.a11 I.a12 I.a13 I.a14 I.a15) i) := by
  refine Eq.trans ?_ (refSsp_eq _)
  simp only [val_main_v201_apply, val_main_v197_apply, val_main_v189_apply, val_main_v188_apply, val_main_v191_apply, val_main_v190_apply, val_main_v196_apply, val_main_v186_apply, val_main_v185_apply, val_main_v187_apply, val_main_v195_apply, val_main_v194_apply, val_main_v193_apply, val_main_v192_apply, val_main_v200_apply, val_main_v199_apply, val_main_v198_apply]
  rfl

variable (h : I.Ok)
include h

/-! ### The filter -/

theorem v56_1 (i : S8x512x32x128.Idx) : (val_main_v137 (F := Ideal) I.a0 I.a4 I.a7 I.a8) i
    = (∑ k, rbf (batch I (i 0)) (dist (batch I (i 0)) (i 1) (i 2)) k * (batch I (i 0)).fw1 1 k (i 3)) + (batch I (i 0)).fb1 1 (i 3) := by
  refine (val_main_v137_apply _ _ _ _ i).trans (congrArg₂ (fun x y : EReal => x + y) ((val_main_v132_apply _ _ _ i).trans (Finset.sum_congr rfl fun k _ =>
    congrArg₂ (fun x y : EReal => x * y) (v35_at h _) ((congrArg (val_main_v131 (F := Ideal) I.a7) ?_).trans (w50_1 (i 0) k (i 3))))) (w55_1 (i 0) i))
  funext x; match x with | ⟨0, _⟩ => rfl | ⟨1, _⟩ => rfl

theorem v87_1 (i : S8x512x32x128.Idx) : (val_main_v168 (F := Ideal) I.a0 I.a4 I.a5 I.a7 I.a8 I.a9 I.a10) i
    = filt (batch I (i 0)) 1 (dist (batch I (i 0)) (i 1) (i 2)) (i 3) := by
  have e85 : (val_main_v167 (F := Ideal) I.a5) i = 1 := by
    refine (val_main_v167_apply _ i).trans ((val_main_v166_apply _ _).trans (Eq.trans ?_ (h.nbm (i 0) (i 1) (i 2))))
    congr 1
    funext x; match x with | ⟨0, _⟩ => rfl | ⟨1, _⟩ => rfl | ⟨2, _⟩ => rfl
  have e83 : (val_main_v164 (F := Ideal) I.a0 I.a4) i = cut (dist (batch I (i 0)) (i 1) (i 2)) :=
    (val_main_v164_apply _ _ i).trans ((val_main_v163_apply _ _ _).trans (v48_at h _))
  have e81 : (val_main_v162 (F := Ideal) I.a0 I.a4 I.a7 I.a8 I.a9 I.a10) i = mlp ((batch I (i 0)).fw1 1) ((batch I (i 0)).fb1 1) ((batch I (i 0)).fw2 1) ((batch I (i 0)).fb2 1)
      (rbf (batch I (i 0)) (dist (batch I (i 0)) (i 1) (i 2))) (i 3) := by
    refine (val_main_v162_apply _ _ _ _ _ _ i).trans (congrArg₂ (fun x y : EReal => x + y) ((val_main_v157_apply _ _ _ _ _ i).trans (Finset.sum_congr rfl fun k _ =>
      congrArg₂ (fun x y : EReal => x * y) ((s73_1 _).trans (congrArg ssp (v56_1 h _))) ((congrArg (val_main_v156 (F := Ideal) I.a9) ?_).trans (w75_1 (i 0) k (i 3))))) (w80_1 (i 0) i))
    funext x; match x with | ⟨0, _⟩ => rfl | ⟨1, _⟩ => rfl
  refine (val_main_v168_apply _ _ _ _ _ _ _ i).trans ((congrArg₂ (fun x y : EReal => x * y) ((val_main_v165_apply _ _ _ _ _ _ i).trans
    (congrArg₂ (fun x y : EReal => x * y) e81 e83)) e85).trans (mul_one _))

/-! ### The messages -/

theorem prev_1 (i : S8x512x128.Idx) : (val_main_v129 (F := Ideal) I.a0 I.a3 I.a4 I.a5 I.a6 I.a7 I.a8 I.a9 I.a10 I.a11 I.a12 I.a13 I.a14 I.a15) i = (layer (batch I (i 0)) 0 (Spec.x0 (batch I (i 0)))) (i 1) (i 2) := v129_0 h i

theorem v90_1 (i : S8x512x128.Idx) : (val_main_v171 (F := Ideal) I.a0 I.a3 I.a4 I.a5 I.a6 I.a7 I.a8 I.a9 I.a10 I.a11 I.a12 I.a13 I.a14 I.a15) i = feat (batch I (i 0)) 1 (layer (batch I (i 0)) 0 (Spec.x0 (batch I (i 0)))) (i 1) (i 2) := by
  refine (val_main_v171_apply _ _ _ _ _ _ _ _ _ _ _ _ _ _ i).trans (Finset.sum_congr rfl fun k _ =>
    congrArg₂ (fun x y : EReal => x * y) (prev_1 h _) ((congrArg (val_main_v170 (F := Ideal) I.a11) ?_).trans (w89_1 (i 0) k (i 2))))
  funext x; match x with | ⟨0, _⟩ => rfl | ⟨1, _⟩ => rfl

theorem c2v4_1 (i : S8x16384x1.Idx) : (val_main_call3_v4 (F := Ideal) I.a4) i = (val_main_v8 (F := Ideal) I.a4) i := by
  have hz := v8_lt h i
  have e : (val_main_v172 (F := Ideal) I.a4) i = (val_main_v8 (F := Ideal) I.a4) i := rfl
  rw [val_main_call3_v4_apply, val_main_call3_v1_apply, val_main_call3_v0_apply, val_main_call3_c_apply, e, slt_zero _ (by omega)]
  rfl

theorem c2v11_1 (i : S8x16384.Idx) : (val_main_call3_v11 (F := Ideal) I.a4) i = 1#1 := by
  unfold val_main_call3_v11
  refine Host.reduce_andi_one _ _ _ _ _ rfl fun k => ?_
  have hz := v8_lt h k
  rw [val_main_call3_v10_apply, val_main_call3_v6_apply, val_main_call3_v9_apply, c2v4_1 h, val_main_call3_v5_apply,
    val_main_call3_c_2_apply, val_main_call3_v8_apply, val_main_call3_v7_apply, val_main_call3_c_1_apply,
    sge_zero _ (by omega), sle_511 _ hz]
  rfl

theorem v92_1 (b : Fin 8) (a : Fin 512) (j : Fin 32) (f : Fin 128) :
    (val_main_v173 (F := Ideal) I.a0 I.a3 I.a4 I.a5 I.a6 I.a7 I.a8 I.a9 I.a10 I.a11 I.a12 I.a13 I.a14 I.a15) (ix3 b (⟨a.val * 32 + j.val, by omega⟩ : Fin 16384) f)
      = feat (batch I b) 1 (layer (batch I b) 0 (Spec.x0 (batch I b))) ((batch I b).nb a j) f := by
  rw [val_main_v173_apply, val_main_call3_v13_apply, c2v11_1 h]
  refine (show _ = (val_main_call3_v12 (F := Ideal) I.a0 I.a3 I.a4 I.a5 I.a6 I.a7 I.a8 I.a9 I.a10 I.a11 I.a12 I.a13 I.a14 I.a15) _ from rfl).trans ?_
  refine (RefGather.batch_apply _ _ _ b _ f ((batch I b).nb a j) ?_).trans (v90_1 h _)
  rw [c2v4_1 h, v8_at h, toInt_small _ (by have := h.nb b a j; omega)]
  show ((I.a4 (ix3 b a j)).toNat : ℤ) = (((I.a4 (ix3 b a j)).toNat % 512 : ℕ) : ℤ)
  rw [Nat.mod_eq_of_lt (h.nb b a j)]

theorem v93_1 (i : S8x512x32x128.Idx) :
    (val_main_v174 (F := Ideal) I.a0 I.a3 I.a4 I.a5 I.a6 I.a7 I.a8 I.a9 I.a10 I.a11 I.a12 I.a13 I.a14 I.a15) i = feat (batch I (i 0)) 1 (layer (batch I (i 0)) 0 (Spec.x0 (batch I (i 0)))) ((batch I (i 0)).nb (i 1) (i 2)) (i 3) := by
  refine (val_main_v174_apply _ _ _ _ _ _ _ _ _ _ _ _ _ _ i).trans (Eq.trans ?_ (v92_1 h (i 0) (i 1) (i 2) (i 3)))
  congr 1
  funext x
  refine Fin.ext ?_
  have h0 : (i 0).val < 8 := (i 0).isLt
  have h1 : (i 1).val < 512 := (i 1).isLt
  have h2 : (i 2).val < 32 := (i 2).isLt
  have h3 : (i 3).val < 128 := (i 3).isLt
  match x with
  | ⟨0, _⟩ => show _ = (i 0).val; simp [idx_main_v174]; try omega
  | ⟨1, _⟩ => show _ = (i 1).val * 32 + (i 2).val; simp [idx_main_v174]; try omega
  | ⟨2, _⟩ => show _ = (i 3).val; simp [idx_main_v174]; try omega

theorem v95_1 (i : S8x512x128.Idx) : (val_main_v176 (F := Ideal) I.a0 I.a3 I.a4 I.a5 I.a6 I.a7 I.a8 I.a9 I.a10 I.a11 I.a12 I.a13 I.a14 I.a15) i = conv (batch I (i 0)) 1 (layer (batch I (i 0)) 0 (Spec.x0 (batch I (i 0)))) (i 1) (i 2) := by
  refine (val_main_v176_apply _ _ _ _ _ _ _ _ _ _ _ _ _ _ i).trans ?_
  rw [show val_main_cst_17 (F := Ideal) (Shape.Idx.first h_S_) = (0 : EReal) from Ideal.ofBits_zero .f32, zero_add]
  refine Finset.sum_congr rfl fun j _ => (val_main_v175_apply _ _ _ _ _ _ _ _ _ _ _ _ _ _ _).trans
    (congrArg₂ (fun x y : EReal => x * y) (v93_1 h _) (v87_1 h _))

/-! ### The layer -/

theorem v103_1 (i : S8x512x128.Idx) : (val_main_v184 (F := Ideal) I.a0 I.a3 I.a4 I.a5 I.a6 I.a7 I.a8 I.a9 I.a10 I.a11 I.a12 I.a13 I.a14 I.a15) i
    = (∑ k, conv (batch I (i 0)) 1 (layer (batch I (i 0)) 0 (Spec.x0 (batch I (i 0)))) (i 1) k * (batch I (i 0)).ow1 1 k (i 2)) + (batch I (i 0)).ob1 1 (i 2) := by
  refine (val_main_v184_apply _ _ _ _ _ _ _ _ _ _ _ _ _ _ i).trans (congrArg₂ (fun x y : EReal => x + y) ((val_main_v179_apply _ _ _ _ _ _ _ _ _ _ _ _ _ _ i).trans (Finset.sum_congr rfl fun k _ =>
    congrArg₂ (fun x y : EReal => x * y) (v95_1 h _) ((congrArg (val_main_v178 (F := Ideal) I.a12) ?_).trans (w97_1 (i 0) k (i 2))))) (w102_1 (i 0) i))
  funext x; match x with | ⟨0, _⟩ => rfl | ⟨1, _⟩ => rfl

theorem v128_1 (i : S8x512x128.Idx) : (val_main_v209 (F := Ideal) I.a0 I.a3 I.a4 I.a5 I.a6 I.a7 I.a8 I.a9 I.a10 I.a11 I.a12 I.a13 I.a14 I.a15) i
    = mlp ((batch I (i 0)).ow1 1) ((batch I (i 0)).ob1 1) ((batch I (i 0)).ow2 1) ((batch I (i 0)).ob2 1)
      (conv (batch I (i 0)) 1 (layer (batch I (i 0)) 0 (Spec.x0 (batch I (i 0)))) (i 1)) (i 2) := by
  refine (val_main_v209_apply _ _ _ _ _ _ _ _ _ _ _ _ _ _ i).trans (congrArg₂ (fun x y : EReal => x + y) ((val_main_v204_apply _ _ _ _ _ _ _ _ _ _ _ _ _ _ i).trans (Finset.sum_congr rfl fun k _ =>
    congrArg₂ (fun x y : EReal => x * y) ((s120_1 _).trans (congrArg ssp (v103_1 h _))) ((congrArg (val_main_v203 (F := Ideal) I.a14) ?_).trans (w122_1 (i 0) k (i 2))))) (w127_1 (i 0) i))
  funext x; match x with | ⟨0, _⟩ => rfl | ⟨1, _⟩ => rfl

theorem v129_1 (i : S8x512x128.Idx) : (val_main_v210 (F := Ideal) I.a0 I.a3 I.a4 I.a5 I.a6 I.a7 I.a8 I.a9 I.a10 I.a11 I.a12 I.a13 I.a14 I.a15) i = layer (batch I (i 0)) 1 (layer (batch I (i 0)) 0 (Spec.x0 (batch I (i 0)))) (i 1) (i 2) :=
  (val_main_v210_apply _ _ _ _ _ _ _ _ _ _ _ _ _ _ i).trans (congrArg₂ (fun x y : EReal => x + y) (prev_1 h i) (v128_1 h i))

end Cert.Proof.RefValue

end
-- ==== Proof.RefLayer2.lean ====
/- The reference's layer 2, read at an index. -/
module

public import proofs.«01_k».proof.Proof.RefLayer1

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

variable {I : Inputs}

/-! ### The weights -/

theorem w50_2 (b : Fin 8) (k : Fin 50) (f : Fin 128) : (val_main_v212 (F := Ideal) I.a7) (ix2 k f) = (batch I b).fw1 2 k f := by
  refine (val_main_v212_apply _ _).trans ((val_main_v211_apply _ _).trans ?_)
  show I.a7 _ = I.a7 (ix3 (2 : Fin 3) k f)
  congr 1
  funext x
  refine Fin.ext ?_
  have h1 := k.isLt
  have h2 := f.isLt
  match x with
  | ⟨0, _⟩ => show _ = 2; simp [idx_main_v212, idx_main_v211]
  | ⟨1, _⟩ => show _ = k.val; simp [idx_main_v212, idx_main_v211]; try omega
  | ⟨2, _⟩ => show _ = f.val; simp [idx_main_v212, idx_main_v211]; try omega

theorem w55_2 (b : Fin 8) (i : S8x512x32x128.Idx) : (val_main_v217 (F := Ideal) I.a8) i = (batch I b).fb1 2 (i 3) := by
  refine (val_main_v217_apply _ _).trans ((val_main_v216_apply _ _).trans ((val_main_v215_apply _ _).trans ((val_main_v214_apply _ _).trans ?_)))
  show I.a8 _ = I.a8 (ix2 (2 : Fin 3) (i 3 : Fin 128))
  congr 1
  funext x
  refine Fin.ext ?_
  have h1 : (i 3).val < 128 := (i 3).isLt
  match x with
  | ⟨0, _⟩ => show _ = 2; simp [idx_main_v215, idx_main_v214]
  | ⟨1, _⟩ => show _ = (i 3).val; simp [idx_main_v215, idx_main_v214]; try omega

theorem w75_2 (b : Fin 8) (k : Fin 128) (f : Fin 128) : (val_main_v237 (F := Ideal) I.a9) (ix2 k f) = (batch I b).fw2 2 k f := by
  refine (val_main_v237_apply _ _).trans ((val_main_v236_apply _ _).trans ?_)
  show I.a9 _ = I.a9 (ix3 (2 : Fin 3) k f)
  congr 1
  funext x
  refine Fin.ext ?_
  have h1 := k.isLt
  have h2 := f.isLt
  match x with
  | ⟨0, _⟩ => show _ = 2; simp [idx_main_v237, idx_main_v236]
  | ⟨1, _⟩ => show _ = k.val; simp [idx_main_v237, idx_main_v236]; try omega
  | ⟨2, _⟩ => show _ = f.val; simp [idx_main_v237, idx_main_v236]; try omega

theorem w80_2 (b : Fin 8) (i : S8x512x32x128.Idx) : (val_main_v242 (F := Ideal) I.a10) i = (batch I b).fb2 2 (i 3) := by
  refine (val_main_v242_apply _ _).trans ((val_main_v241_apply _ _).trans ((val_main_v240_apply _ _).trans ((val_main_v239_apply _ _).trans ?_)))
  show I.a10 _ = I.a10 (ix2 (2 : Fin 3) (i 3 : Fin 128))
  congr 1
  funext x
  refine Fin.ext ?_
  have h1 : (i 3).val < 128 := (i 3).isLt
  match x with
  | ⟨0, _⟩ => show _ = 2; simp [idx_main_v240, idx_main_v239]
  | ⟨1, _⟩ => show _ = (i 3).val; simp [idx_main_v240, idx_main_v239]; try omega

theorem w89_2 (b : Fin 8) (k : Fin 128) (f : Fin 128) : (val_main_v251 (F := Ideal) I.a11) (ix2 k f) = (batch I b).in2f 2 k f := by
  refine (val_main_v251_apply _ _).trans ((val_main_v250_apply _ _).trans ?_)
  show I.a11 _ = I.a11 (ix3 (2 : Fin 3) k f)
  congr 1
  funext x
  refine Fin.ext ?_
  have h1 := k.isLt
  have h2 := f.isLt
  match x with
  | ⟨0, _⟩ => show _ = 2; simp [idx_main_v251, idx_main_v250]
  | ⟨1, _⟩ => show _ = k.val; simp [idx_main_v251, idx_main_v250]; try omega
  | ⟨2, _⟩ => show _ = f.val; simp [idx_main_v251, idx_main_v250]; try omega

theorem w97_2 (b : Fin 8) (k : Fin 128) (f : Fin 128) : (val_main_v259 (F := Ideal) I.a12) (ix2 k f) = (batch I b).ow1 2 k f := by
  refine (val_main_v259_apply _ _).trans ((val_main_v258_apply _ _).trans ?_)
  show I.a12 _ = I.a12 (ix3 (2 : Fin 3) k f)
  congr 1
  funext x
  refine Fin.ext ?_
  have h1 := k.isLt
  have h2 := f.isLt
  match x with
  | ⟨0, _⟩ => show _ = 2; simp [idx_main_v259, idx_main_v258]
  | ⟨1, _⟩ => show _ = k.val; simp [idx_main_v259, idx_main_v258]; try omega
  | ⟨2, _⟩ => show _ = f.val; simp [idx_main_v259, idx_main_v258]; try omega

theorem w102_2 (b : Fin 8) (i : S8x512x128.Idx) : (val_main_v264 (F := Ideal) I.a13) i = (batch I b).ob1 2 (i 2) := by
  refine (val_main_v264_apply _ _).trans ((val_main_v263_apply _ _).trans ((val_main_v262_apply _ _).trans ((val_main_v261_apply _ _).trans ?_)))
  show I.a13 _ = I.a13 (ix2 (2 : Fin 3) (i 2 : Fin 128))
  congr 1
  funext x
  refine Fin.ext ?_
  have h1 : (i 2).val < 128 := (i 2).isLt
  match x with
  | ⟨0, _⟩ => show _ = 2; simp [idx_main_v262, idx_main_v261]
  | ⟨1, _⟩ => show _ = (i 2).val; simp [idx_main_v262, idx_main_v261]; try omega

theorem w122_2 (b : Fin 8) (k : Fin 128) (f : Fin 128) : (val_main_v284 (F := Ideal) I.a14) (ix2 k f) = (batch I b).ow2 2 k f := by
  refine (val_main_v284_apply _ _).trans ((val_main_v283_apply _ _).trans ?_)
  show I.a14 _ = I.a14 (ix3 (2 : Fin 3) k f)
  congr 1
  funext x
  refine Fin.ext ?_
  have h1 := k.isLt
  have h2 := f.isLt
  match x with
  | ⟨0, _⟩ => show _ = 2; simp [idx_main_v284, idx_main_v283]
  | ⟨1, _⟩ => show _ = k.val; simp [idx_main_v284, idx_main_v283]; try omega
  | ⟨2, _⟩ => show _ = f.val; simp [idx_main_v284, idx_main_v283]; try omega

theorem w127_2 (b : Fin 8) (i : S8x512x128.Idx) : (val_main_v289 (F := Ideal) I.a15) i = (batch I b).ob2 2 (i 2) := by
  refine (val_main_v289_apply _ _).trans ((val_main_v288_apply _ _).trans ((val_main_v287_apply _ _).trans ((val_main_v286_apply _ _).trans ?_)))
  show I.a15 _ = I.a15 (ix2 (2 : Fin 3) (i 2 : Fin 128))
  congr 1
  funext x
  refine Fin.ext ?_
  have h1 : (i 2).val < 128 := (i 2).isLt
  match x with
  | ⟨0, _⟩ => show _ = 2; simp [idx_main_v287, idx_main_v286]
  | ⟨1, _⟩ => show _ = (i 2).val; simp [idx_main_v287, idx_main_v286]; try omega

/-! ### The softplus -/

theorem s73_2 (i : S8x512x32x128.Idx) : (val_main_v235 (F := Ideal) I.a0 I.a4 I.a7 I.a8) i = ssp ((val_main_v218 (F := Ideal) I.a0 I.a4 I.a7 I.a8) i) := by
  refine Eq.trans ?_ (refSsp_eq _)
  simp only [val_main_v235_apply, val_main_v231_apply, val_main_v223_apply, val_main_v222_apply, val_main_v225_apply, val_main_v224_apply, val_main_v230_apply, val_main_v220_apply, val_main_v219_apply, val_main_v221_apply, val_main_v229_apply, val_main_v228_apply, val_main_v227_apply, val_main_v226_apply, val_main_v234_apply, val_main_v233_apply, val_main_v232_apply]
  rfl

theorem s120_2 (i : S8x512x128.Idx) : (val_main_v282 (F := Ideal) I.a0 I.a3 I.a4 I.a5 I.a6 I.a7 I.a8 I.a9 I.a10 I.a11 I.a12 I.a13 I.a14 I.a15) i = ssp ((val_main_v265 (F := Ideal) I.a0 I.a3 I.a4 I.a5 I.a6 I.a7 I.a8 I.a9 I.a10 I.a11 I.a12 I.a13 I.a14 I.a15) i) := by
  refine Eq.trans ?_ (refSsp_eq _)
  simp only [val_main_v282_apply, val_main_v278_apply, val_main_v270_apply, val_main_v269_apply, val_main_v272_apply, val_main_v271_apply, val_main_v277_apply, val_main_v267_apply, val_main_v266_apply, val_main_v268_apply, val_main_v276_apply, val_main_v275_apply, val_main_v274_apply, val_main_v273_apply, val_main_v281_apply, val_main_v280_apply, val_main_v279_apply]
  rfl

variable (h : I.Ok)
include h

/-! ### The filter -/

theorem v56_2 (i : S8x512x32x128.Idx) : (val_main_v218 (F := Ideal) I.a0 I.a4 I.a7 I.a8) i
    = (∑ k, rbf (batch I (i 0)) (dist (batch I (i 0)) (i 1) (i 2)) k * (batch I (i 0)).fw1 2 k (i 3)) + (batch I (i 0)).fb1 2 (i 3) := by
  refine (val_main_v218_apply _ _ _ _ i).trans (congrArg₂ (fun x y : EReal => x + y) ((val_main_v213_apply _ _ _ i).trans (Finset.sum_congr rfl fun k _ =>
    congrArg₂ (fun x y : EReal => x * y) (v35_at h _) ((congrArg (val_main_v212 (F := Ideal) I.a7) ?_).trans (w50_2 (i 0) k (i 3))))) (w55_2 (i 0) i))
  funext x; match x with | ⟨0, _⟩ => rfl | ⟨1, _⟩ => rfl

theorem v87_2 (i : S8x512x32x128.Idx) : (val_main_v249 (F := Ideal) I.a0 I.a4 I.a5 I.a7 I.a8 I.a9 I.a10) i
    = filt (batch I (i 0)) 2 (dist (batch I (i 0)) (i 1) (i 2)) (i 3) := by
  have e85 : (val_main_v248 (F := Ideal) I.a5) i = 1 := by
    refine (val_main_v248_apply _ i).trans ((val_main_v247_apply _ _).trans (Eq.trans ?_ (h.nbm (i 0) (i 1) (i 2))))
    congr 1
    funext x; match x with | ⟨0, _⟩ => rfl | ⟨1, _⟩ => rfl | ⟨2, _⟩ => rfl
  have e83 : (val_main_v245 (F := Ideal) I.a0 I.a4) i = cut (dist (batch I (i 0)) (i 1) (i 2)) :=
    (val_main_v245_apply _ _ i).trans ((val_main_v244_apply _ _ _).trans (v48_at h _))
  have e81 : (val_main_v243 (F := Ideal) I.a0 I.a4 I.a7 I.a8 I.a9 I.a10) i = mlp ((batch I (i 0)).fw1 2) ((batch I (i 0)).fb1 2) ((batch I (i 0)).fw2 2) ((batch I (i 0)).fb2 2)
      (rbf (batch I (i 0)) (dist (batch I (i 0)) (i 1) (i 2))) (i 3) := by
    refine (val_main_v243_apply _ _ _ _ _ _ i).trans (congrArg₂ (fun x y : EReal => x + y) ((val_main_v238_apply _ _ _ _ _ i).trans (Finset.sum_congr rfl fun k _ =>
      congrArg₂ (fun x y : EReal => x * y) ((s73_2 _).trans (congrArg ssp (v56_2 h _))) ((congrArg (val_main_v237 (F := Ideal) I.a9) ?_).trans (w75_2 (i 0) k (i 3))))) (w80_2 (i 0) i))
    funext x; match x with | ⟨0, _⟩ => rfl | ⟨1, _⟩ => rfl
  refine (val_main_v249_apply _ _ _ _ _ _ _ i).trans ((congrArg₂ (fun x y : EReal => x * y) ((val_main_v246_apply _ _ _ _ _ _ i).trans
    (congrArg₂ (fun x y : EReal => x * y) e81 e83)) e85).trans (mul_one _))

/-! ### The messages -/

theorem prev_2 (i : S8x512x128.Idx) : (val_main_v210 (F := Ideal) I.a0 I.a3 I.a4 I.a5 I.a6 I.a7 I.a8 I.a9 I.a10 I.a11 I.a12 I.a13 I.a14 I.a15) i = (layer (batch I (i 0)) 1 (layer (batch I (i 0)) 0 (Spec.x0 (batch I (i 0))))) (i 1) (i 2) := v129_1 h i

theorem v90_2 (i : S8x512x128.Idx) : (val_main_v252 (F := Ideal) I.a0 I.a3 I.a4 I.a5 I.a6 I.a7 I.a8 I.a9 I.a10 I.a11 I.a12 I.a13 I.a14 I.a15) i = feat (batch I (i 0)) 2 (layer (batch I (i 0)) 1 (layer (batch I (i 0)) 0 (Spec.x0 (batch I (i 0))))) (i 1) (i 2) := by
  refine (val_main_v252_apply _ _ _ _ _ _ _ _ _ _ _ _ _ _ i).trans (Finset.sum_congr rfl fun k _ =>
    congrArg₂ (fun x y : EReal => x * y) (prev_2 h _) ((congrArg (val_main_v251 (F := Ideal) I.a11) ?_).trans (w89_2 (i 0) k (i 2))))
  funext x; match x with | ⟨0, _⟩ => rfl | ⟨1, _⟩ => rfl

theorem c2v4_2 (i : S8x16384x1.Idx) : (val_main_call4_v4 (F := Ideal) I.a4) i = (val_main_v8 (F := Ideal) I.a4) i := by
  have hz := v8_lt h i
  have e : (val_main_v253 (F := Ideal) I.a4) i = (val_main_v8 (F := Ideal) I.a4) i := rfl
  rw [val_main_call4_v4_apply, val_main_call4_v1_apply, val_main_call4_v0_apply, val_main_call4_c_apply, e, slt_zero _ (by omega)]
  rfl

theorem c2v11_2 (i : S8x16384.Idx) : (val_main_call4_v11 (F := Ideal) I.a4) i = 1#1 := by
  unfold val_main_call4_v11
  refine Host.reduce_andi_one _ _ _ _ _ rfl fun k => ?_
  have hz := v8_lt h k
  rw [val_main_call4_v10_apply, val_main_call4_v6_apply, val_main_call4_v9_apply, c2v4_2 h, val_main_call4_v5_apply,
    val_main_call4_c_2_apply, val_main_call4_v8_apply, val_main_call4_v7_apply, val_main_call4_c_1_apply,
    sge_zero _ (by omega), sle_511 _ hz]
  rfl

theorem v92_2 (b : Fin 8) (a : Fin 512) (j : Fin 32) (f : Fin 128) :
    (val_main_v254 (F := Ideal) I.a0 I.a3 I.a4 I.a5 I.a6 I.a7 I.a8 I.a9 I.a10 I.a11 I.a12 I.a13 I.a14 I.a15) (ix3 b (⟨a.val * 32 + j.val, by omega⟩ : Fin 16384) f)
      = feat (batch I b) 2 (layer (batch I b) 1 (layer (batch I b) 0 (Spec.x0 (batch I b)))) ((batch I b).nb a j) f := by
  rw [val_main_v254_apply, val_main_call4_v13_apply, c2v11_2 h]
  refine (show _ = (val_main_call4_v12 (F := Ideal) I.a0 I.a3 I.a4 I.a5 I.a6 I.a7 I.a8 I.a9 I.a10 I.a11 I.a12 I.a13 I.a14 I.a15) _ from rfl).trans ?_
  refine (RefGather.batch_apply _ _ _ b _ f ((batch I b).nb a j) ?_).trans (v90_2 h _)
  rw [c2v4_2 h, v8_at h, toInt_small _ (by have := h.nb b a j; omega)]
  show ((I.a4 (ix3 b a j)).toNat : ℤ) = (((I.a4 (ix3 b a j)).toNat % 512 : ℕ) : ℤ)
  rw [Nat.mod_eq_of_lt (h.nb b a j)]

theorem v93_2 (i : S8x512x32x128.Idx) :
    (val_main_v255 (F := Ideal) I.a0 I.a3 I.a4 I.a5 I.a6 I.a7 I.a8 I.a9 I.a10 I.a11 I.a12 I.a13 I.a14 I.a15) i = feat (batch I (i 0)) 2 (layer (batch I (i 0)) 1 (layer (batch I (i 0)) 0 (Spec.x0 (batch I (i 0))))) ((batch I (i 0)).nb (i 1) (i 2)) (i 3) := by
  refine (val_main_v255_apply _ _ _ _ _ _ _ _ _ _ _ _ _ _ i).trans (Eq.trans ?_ (v92_2 h (i 0) (i 1) (i 2) (i 3)))
  congr 1
  funext x
  refine Fin.ext ?_
  have h0 : (i 0).val < 8 := (i 0).isLt
  have h1 : (i 1).val < 512 := (i 1).isLt
  have h2 : (i 2).val < 32 := (i 2).isLt
  have h3 : (i 3).val < 128 := (i 3).isLt
  match x with
  | ⟨0, _⟩ => show _ = (i 0).val; simp [idx_main_v255]; try omega
  | ⟨1, _⟩ => show _ = (i 1).val * 32 + (i 2).val; simp [idx_main_v255]; try omega
  | ⟨2, _⟩ => show _ = (i 3).val; simp [idx_main_v255]; try omega

theorem v95_2 (i : S8x512x128.Idx) : (val_main_v257 (F := Ideal) I.a0 I.a3 I.a4 I.a5 I.a6 I.a7 I.a8 I.a9 I.a10 I.a11 I.a12 I.a13 I.a14 I.a15) i = conv (batch I (i 0)) 2 (layer (batch I (i 0)) 1 (layer (batch I (i 0)) 0 (Spec.x0 (batch I (i 0))))) (i 1) (i 2) := by
  refine (val_main_v257_apply _ _ _ _ _ _ _ _ _ _ _ _ _ _ i).trans ?_
  rw [show val_main_cst_22 (F := Ideal) (Shape.Idx.first h_S_) = (0 : EReal) from Ideal.ofBits_zero .f32, zero_add]
  refine Finset.sum_congr rfl fun j _ => (val_main_v256_apply _ _ _ _ _ _ _ _ _ _ _ _ _ _ _).trans
    (congrArg₂ (fun x y : EReal => x * y) (v93_2 h _) (v87_2 h _))

/-! ### The layer -/

theorem v103_2 (i : S8x512x128.Idx) : (val_main_v265 (F := Ideal) I.a0 I.a3 I.a4 I.a5 I.a6 I.a7 I.a8 I.a9 I.a10 I.a11 I.a12 I.a13 I.a14 I.a15) i
    = (∑ k, conv (batch I (i 0)) 2 (layer (batch I (i 0)) 1 (layer (batch I (i 0)) 0 (Spec.x0 (batch I (i 0))))) (i 1) k * (batch I (i 0)).ow1 2 k (i 2)) + (batch I (i 0)).ob1 2 (i 2) := by
  refine (val_main_v265_apply _ _ _ _ _ _ _ _ _ _ _ _ _ _ i).trans (congrArg₂ (fun x y : EReal => x + y) ((val_main_v260_apply _ _ _ _ _ _ _ _ _ _ _ _ _ _ i).trans (Finset.sum_congr rfl fun k _ =>
    congrArg₂ (fun x y : EReal => x * y) (v95_2 h _) ((congrArg (val_main_v259 (F := Ideal) I.a12) ?_).trans (w97_2 (i 0) k (i 2))))) (w102_2 (i 0) i))
  funext x; match x with | ⟨0, _⟩ => rfl | ⟨1, _⟩ => rfl

theorem v128_2 (i : S8x512x128.Idx) : (val_main_v290 (F := Ideal) I.a0 I.a3 I.a4 I.a5 I.a6 I.a7 I.a8 I.a9 I.a10 I.a11 I.a12 I.a13 I.a14 I.a15) i
    = mlp ((batch I (i 0)).ow1 2) ((batch I (i 0)).ob1 2) ((batch I (i 0)).ow2 2) ((batch I (i 0)).ob2 2)
      (conv (batch I (i 0)) 2 (layer (batch I (i 0)) 1 (layer (batch I (i 0)) 0 (Spec.x0 (batch I (i 0))))) (i 1)) (i 2) := by
  refine (val_main_v290_apply _ _ _ _ _ _ _ _ _ _ _ _ _ _ i).trans (congrArg₂ (fun x y : EReal => x + y) ((val_main_v285_apply _ _ _ _ _ _ _ _ _ _ _ _ _ _ i).trans (Finset.sum_congr rfl fun k _ =>
    congrArg₂ (fun x y : EReal => x * y) ((s120_2 _).trans (congrArg ssp (v103_2 h _))) ((congrArg (val_main_v284 (F := Ideal) I.a14) ?_).trans (w122_2 (i 0) k (i 2))))) (w127_2 (i 0) i))
  funext x; match x with | ⟨0, _⟩ => rfl | ⟨1, _⟩ => rfl

theorem v129_2 (i : S8x512x128.Idx) : (val_main_v291 (F := Ideal) I.a0 I.a3 I.a4 I.a5 I.a6 I.a7 I.a8 I.a9 I.a10 I.a11 I.a12 I.a13 I.a14 I.a15) i = layer (batch I (i 0)) 2 (layer (batch I (i 0)) 1 (layer (batch I (i 0)) 0 (Spec.x0 (batch I (i 0))))) (i 1) (i 2) :=
  (val_main_v291_apply _ _ _ _ _ _ _ _ _ _ _ _ _ _ i).trans (congrArg₂ (fun x y : EReal => x + y) (prev_2 h i) (v128_2 h i))

end Cert.Proof.RefValue

end
-- ==== Proof.RefTail.lean ====
/- The reference's cells and its result, read at an index. -/
module

public import proofs.«01_k».proof.Proof.RefLayer2
public import Idealize.ShloMosaic.Lib.Pointwise

@[expose] public section

set_option maxRecDepth 16384

noncomputable section

namespace Cert.Proof.RefValue

open Idealize.ShloMosaic Idealize.ShloMosaic.TcCoe Cert.ReferenceIdeal Cert.ReferenceIdeal.Gen Cert.ReferenceIdeal.Read
open Cert.Proof.Spec

variable {I : Inputs}

/-! ### The inverse of the cell -/

theorem v304_at (b : Fin 8) (i j : Fin 3) : (val_main_v304 (F := Ideal) I.a1) (ix3 b i j) = I.a1 (ix3 b (i + 1) (j + 1)) := by
  fin_cases i <;> fin_cases j <;>
    pointwise [val_main_v304, val_main_call5_v4, val_main_call5_v3, val_main_call5_v2, val_main_call5_v1, val_main_call5_v0] <;> rfl

theorem v305_at (b : Fin 8) (i j : Fin 3) : (val_main_v305 (F := Ideal) I.a1) (ix3 b i j) = I.a1 (ix3 b (i + 2) (j + 2)) := by
  fin_cases i <;> fin_cases j <;>
    pointwise [val_main_v305, val_main_call6_v4, val_main_call6_v3, val_main_call6_v2, val_main_call6_v1, val_main_call6_v0] <;> rfl

theorem v307_at (b : Fin 8) (i j : Fin 3) : (val_main_v307 (F := Ideal) I.a1) (ix3 b i j) = I.a1 (ix3 b (i + 1) (j + 2)) := by
  fin_cases i <;> fin_cases j <;>
    pointwise [val_main_v307, val_main_call7_v4, val_main_call7_v3, val_main_call7_v2, val_main_call7_v1, val_main_call7_v0] <;> rfl

theorem v308_at (b : Fin 8) (i j : Fin 3) : (val_main_v308 (F := Ideal) I.a1) (ix3 b i j) = I.a1 (ix3 b (i + 2) (j + 1)) := by
  fin_cases i <;> fin_cases j <;>
    pointwise [val_main_v308, val_main_call8_v4, val_main_call8_v3, val_main_call8_v2, val_main_call8_v1, val_main_call8_v0] <;> rfl

theorem v310_at (b : Fin 8) (i j : Fin 3) : (val_main_v310 (F := Ideal) I.a1) (ix3 b i j) = adj (batch I b) j i := by
  rw [val_main_v310_apply, val_main_v306_apply, val_main_v309_apply, v304_at, v305_at, v307_at, v308_at]
  rfl

theorem v316_at (i : S8.Idx) : (val_main_v316 (F := Ideal) I.a1) i = det (batch I (i 0)) := by
  refine (val_main_v316_apply _ i).trans ?_
  rw [show val_main_cst_28 (F := Ideal) (Shape.Idx.first h_S_) = (0 : EReal) from Ideal.ofBits_zero .f32, zero_add]
  refine Finset.sum_congr rfl fun k _ => ((val_main_v315_apply _ _)).trans (congrArg₂ (fun x y : EReal => x * y) (((val_main_v312_apply _ _)).trans (((val_main_v311_apply _ _)).trans ?_))
    (((val_main_v314_apply _ _)).trans (((val_main_v313_apply _ _)).trans (Eq.trans ?_ (v310_at (i 0) 0 k)))))
  · show I.a1 _ = I.a1 (ix3 (i 0 : Fin 8) 0 k)
    congr 1
    funext x
    refine Fin.ext ?_
    have h0 : (i 0).val < 8 := (i 0).isLt
    have h1 := k.isLt
    match x with
    | ⟨0, _⟩ => show _ = (i 0).val; simp [idx_main_v311, idx_main_v312, idx_main_v316]; try omega
    | ⟨1, _⟩ => show _ = 0; simp [idx_main_v311, idx_main_v312, idx_main_v316]; try omega
    | ⟨2, _⟩ => show _ = k.val; simp [idx_main_v311, idx_main_v312, idx_main_v316]; try omega
  · congr 1
    funext x
    refine Fin.ext ?_
    have h0 : (i 0).val < 8 := (i 0).isLt
    have h1 := k.isLt
    match x with
    | ⟨0, _⟩ => show _ = (i 0).val; simp [idx_main_v313, idx_main_v314, idx_main_v316]; try omega
    | ⟨1, _⟩ => show _ = 0; simp [idx_main_v313, idx_main_v314, idx_main_v316]; try omega
    | ⟨2, _⟩ => show _ = k.val; simp [idx_main_v313, idx_main_v314, idx_main_v316]; try omega

theorem v320_at (b : Fin 8) (i j : Fin 3) : (val_main_v320 (F := Ideal) I.a1) (ix3 b i j) = Ideal.div (adj (batch I b) i j) (det (batch I b)) := by
  have e1 : (val_main_v317 (F := Ideal) I.a1) (ix3 b i j) = adj (batch I b) i j := by
    refine ((val_main_v317_apply _ _)).trans (Eq.trans ?_ (v310_at b j i))
    congr 1
    funext x; match x with | ⟨0, _⟩ => rfl | ⟨1, _⟩ => rfl | ⟨2, _⟩ => rfl
  have e2 : (val_main_v319 (F := Ideal) I.a1) (ix3 b i j) = det (batch I b) := ((val_main_v319_apply _ _)).trans (((val_main_v318_apply _ _)).trans (v316_at _))
  exact ((val_main_v320_apply _ _)).trans (congrArg₂ Ideal.div e1 e2)

/-! ### Wrapping into the cell -/

/-- The remainder by one as the reference writes it. -/
theorem rem_one (x : EReal) :
    Scalar.select
      (IntOp.andi (IntOp.cmpi .ne (Ideal.cmp .olt (Ideal.remf x 1) 0) (Ideal.cmp .olt 1 0)) (Ideal.cmp .une (Ideal.remf x 1) 0))
      (Ideal.remf x 1 + 1) (Ideal.remf x 1) = x - Ideal.liftRound Int.floor x := by
  have hz : Ideal.cmp .olt 1 0 = 0#1 := by
    simp only [Ideal.cmp]; rw [decide_eq_false (not_lt.2 zero_le_one)]; rfl
  rw [hz]
  have key (r : EReal) : Scalar.select (IntOp.andi (IntOp.cmpi .ne (Ideal.cmp .olt r 0) 0#1) (Ideal.cmp .une r 0)) (r + 1) r
      = if r < 0 then r + 1 else r := by
    by_cases hr : r < 0
    · have h1 : Ideal.cmp .olt r 0 = 1#1 := by simp only [Ideal.cmp]; rw [decide_eq_true hr]; rfl
      have h2 : Ideal.cmp .une r 0 = 1#1 := by simp only [Ideal.cmp]; rw [decide_eq_true hr.ne]; rfl
      rw [h1, h2, if_pos hr]; rfl
    · have h1 : Ideal.cmp .olt r 0 = 0#1 := by simp only [Ideal.cmp]; rw [decide_eq_false hr]; rfl
      rw [h1, if_neg hr]
      have h3 : IntOp.andi (IntOp.cmpi .ne 0#1 0#1) (Ideal.cmp .une r 0) = 0#1 := by
        generalize Ideal.cmp .une r 0 = w
        revert w; decide
      rw [h3]; rfl
  rw [key]
  induction x using EReal.rec with
  | bot => rw [Ideal.remf_bot, Ideal.liftRound_bot, if_pos EReal.bot_lt_zero]; rfl
  | top => rw [Ideal.remf_top, Ideal.liftRound_top, if_pos EReal.bot_lt_zero]; rfl
  | coe r =>
    have hrem : Ideal.remf (r : EReal) 1 = ((r - (Ideal.truncInt r : ℝ) : ℝ) : EReal) := by
      rw [← EReal.coe_one, Ideal.remf_coe, if_neg one_ne_zero, div_one, one_mul]
    rw [hrem, Ideal.liftRound_coe, ← EReal.coe_sub]
    unfold Ideal.truncInt
    by_cases h0 : 0 ≤ r
    · rw [if_pos h0, if_neg]
      have := Int.floor_le r
      rw [not_lt, ← EReal.coe_zero, EReal.coe_le_coe_iff]; linarith
    · rw [if_neg h0]
      have hc := Int.le_ceil r
      by_cases hi : r < (⌈r⌉ : ℝ)
      · rw [if_pos (by rw [← EReal.coe_zero, EReal.coe_lt_coe_iff]; linarith), ← EReal.coe_one, ← EReal.coe_add]
        have hf : ⌈r⌉ = ⌊r⌋ + 1 := by
          rw [Int.ceil_eq_iff]
          have h1 := Int.floor_le r
          have h2 := Int.lt_floor_add_one r
          have h3 : (⌊r⌋ : ℝ) ≠ r := by
            intro h; rw [← h, Int.ceil_intCast] at hi; exact lt_irrefl _ hi
          refine ⟨?_, ?_⟩
          · push_cast; have := lt_of_le_of_ne h1 h3; linarith
          · push_cast; linarith
        congr 1
        rw [hf]; push_cast; ring
      · have he : r = (⌈r⌉ : ℝ) := le_antisymm hc (not_lt.1 hi)
        rw [if_neg (by rw [← EReal.coe_zero, EReal.coe_lt_coe_iff]; linarith)]
        have hf : ⌊r⌋ = ⌈r⌉ := by rw [he, Int.floor_intCast, Int.ceil_intCast]
        rw [hf]

variable (h : I.Ok)
include h

theorem v303_at (i : S8x512x3.Idx) : (val_main_v303 (F := Ideal) I.a0 I.a3 I.a4 I.a5 I.a6 I.a7 I.a8 I.a9 I.a10 I.a11 I.a12 I.a13 I.a14 I.a15 I.a16 I.a17) i = shift (batch I (i 0)) (i 1) (i 2) := by
  have e295 : (val_main_v295 (F := Ideal) I.a0 I.a3 I.a4 I.a5 I.a6 I.a7 I.a8 I.a9 I.a10 I.a11 I.a12 I.a13 I.a14 I.a15 I.a16 I.a17) i = (∑ f, x3 (batch I (i 0)) (i 1) f * (batch I (i 0)).dw f (i 2)) + (batch I (i 0)).db (i 2) := by
    refine ((val_main_v295_apply _ _ _ _ _ _ _ _ _ _ _ _ _ _ _ _ _)).trans (congrArg₂ (fun x y : EReal => x + y) (((val_main_v292_apply _ _ _ _ _ _ _ _ _ _ _ _ _ _ _ _)).trans (Finset.sum_congr rfl fun k _ =>
      congrArg₂ (fun x y : EReal => x * y) (v129_2 h _) ?_)) (((val_main_v294_apply _ _)).trans (((val_main_v293_apply _ _)).trans ?_)))
    · show I.a16 _ = I.a16 (ix2 k (i 2 : Fin 3))
      congr 1
      funext x; match x with | ⟨0, _⟩ => rfl | ⟨1, _⟩ => rfl
    · show I.a17 _ = I.a17 (ix1 (i 2 : Fin 3))
      congr 1
      funext x; match x with | ⟨0, _⟩ => rfl
  rw [val_main_v303_apply, val_main_v302_apply, val_main_v301_apply, val_main_v300_apply, val_main_v299_apply, val_main_v298_apply, val_main_v297_apply, val_main_v296_apply, e295]
  unfold shift
  generalize (∑ f, x3 (batch I (i 0)) (i 1) f * (batch I (i 0)).dw f (i 2)) + (batch I (i 0)).db (i 2) = y
  show Ideal.div (lit 0x3F800000#32) (lit 0x3F800000#32 + Ideal.exp (-(lit 0x41200000#32 * y))) = _
  rw [lit_one]
  rfl

theorem v322_at (i : S8x512x3.Idx) : (val_main_v322 (F := Ideal) I.a0 I.a1 I.a3 I.a4 I.a5 I.a6 I.a7 I.a8 I.a9 I.a10 I.a11 I.a12 I.a13 I.a14 I.a15 I.a16 I.a17) i = fr (batch I (i 0)) (i 1) (i 2) := by
  refine ((val_main_v322_apply _ _ _ _ _ _ _ _ _ _ _ _ _ _ _ _ _ _)).trans (congrArg₂ (fun x y : EReal => x + y) (((val_main_v321_apply _ _ _)).trans (Finset.sum_congr rfl fun k _ =>
      congrArg₂ (fun x y : EReal => x * y) ?_ (Eq.trans ?_ (v320_at (i 0) k (i 2))))) (v303_at h i))
  · show I.a0 _ = I.a0 (ix3 (i 0 : Fin 8) (i 1 : Fin 512) k)
    congr 1
    funext x; match x with | ⟨0, _⟩ => rfl | ⟨1, _⟩ => rfl | ⟨2, _⟩ => rfl
  · congr 1
    funext x; match x with | ⟨0, _⟩ => rfl | ⟨1, _⟩ => rfl | ⟨2, _⟩ => rfl

theorem v323_at (i : S8x512x3.Idx) : (val_main_v323 (F := Ideal) I.a0 I.a1 I.a3 I.a4 I.a5 I.a6 I.a7 I.a8 I.a9 I.a10 I.a11 I.a12 I.a13 I.a14 I.a15 I.a16 I.a17) i = frac (batch I (i 0)) (i 1) (i 2) := by
  refine Eq.trans ?_ (rem_one _)
  rw [val_main_v323_apply, val_main_call9_v10_apply, val_main_call9_v9_apply, val_main_call9_v6_apply, val_main_call9_v8_apply, val_main_call9_v7_apply,
    val_main_call9_v5_apply, val_main_call9_v4_apply, val_main_call9_v3_apply, val_main_call9_v12_apply, val_main_call9_v11_apply,
    val_main_call9_v2_apply, val_main_call9_v1_apply, v322_at h]
  generalize fr (batch I (i 0)) (i 1) (i 2) = y
  have e1 (k : S_.Idx) : val_main_call9_v0 (F := Ideal) k = (1 : EReal) := lit_one
  have z1 (k : S_.Idx) : val_main_call9_cst (F := Ideal) k = (0 : EReal) := lit_zero
  have z2 (k : S_.Idx) : val_main_call9_cst_0 (F := Ideal) k = (0 : EReal) := lit_zero
  have z3 (k : S_.Idx) : val_main_call9_cst_1 (F := Ideal) k = (0 : EReal) := lit_zero
  rw [e1, z1, z2, z3]
  rfl

/-! ### The predictor -/

theorem v324_at (i : S8x512x3.Idx) : (val_main_v324 (F := Ideal) I.a0 I.a1 I.a3 I.a4 I.a5 I.a6 I.a7 I.a8 I.a9 I.a10 I.a11 I.a12 I.a13 I.a14 I.a15 I.a16 I.a17) i = rep (batch I (i 0)) (i 1) (i 2) := by
  refine ((val_main_v324_apply _ _ _ _ _ _ _ _ _ _ _ _ _ _ _ _ _ _)).trans (Finset.sum_congr rfl fun k _ => congrArg₂ (fun x y : EReal => x * y) (v323_at h _) ?_)
  show I.a1 _ = I.a1 (ix3 (i 0 : Fin 8) k (i 2 : Fin 3))
  congr 1
  funext x; match x with | ⟨0, _⟩ => rfl | ⟨1, _⟩ => rfl | ⟨2, _⟩ => rfl

theorem v328_at (i : S8x512x6.Idx) : (val_main_v328 (F := Ideal) I.a0 I.a1 I.a3 I.a4 I.a5 I.a6 I.a7 I.a8 I.a9 I.a10 I.a11 I.a12 I.a13 I.a14 I.a15 I.a16 I.a17 I.a18 I.a19) i
    = (∑ k, rep (batch I (i 0)) (i 1) k * (batch I (i 0)).pw1 k (i 2)) + (batch I (i 0)).pb1 (i 2) := by
  refine ((val_main_v328_apply _ _ _ _ _ _ _ _ _ _ _ _ _ _ _ _ _ _ _ _)).trans (congrArg₂ (fun x y : EReal => x + y) (((val_main_v325_apply _ _ _ _ _ _ _ _ _ _ _ _ _ _ _ _ _ _ _)).trans (Finset.sum_congr rfl fun k _ =>
    congrArg₂ (fun x y : EReal => x * y) (v324_at h _) ?_)) (((val_main_v327_apply _ _)).trans (((val_main_v326_apply _ _)).trans ?_)))
  · show I.a18 _ = I.a18 (ix2 k (i 2 : Fin 6))
    congr 1
    funext x; match x with | ⟨0, _⟩ => rfl | ⟨1, _⟩ => rfl
  · show I.a19 _ = I.a19 (ix1 (i 2 : Fin 6))
    congr 1
    funext x; match x with | ⟨0, _⟩ => rfl

theorem v345_at (i : S8x512x6.Idx) : (val_main_v345 (F := Ideal) I.a0 I.a1 I.a3 I.a4 I.a5 I.a6 I.a7 I.a8 I.a9 I.a10 I.a11 I.a12 I.a13 I.a14 I.a15 I.a16 I.a17 I.a18 I.a19) i = ssp ((val_main_v328 (F := Ideal) I.a0 I.a1 I.a3 I.a4 I.a5 I.a6 I.a7 I.a8 I.a9 I.a10 I.a11 I.a12 I.a13 I.a14 I.a15 I.a16 I.a17 I.a18 I.a19) i) := by
  refine Eq.trans ?_ (refSsp_eq _)
  simp only [val_main_v345_apply, val_main_v341_apply, val_main_v333_apply, val_main_v332_apply, val_main_v335_apply, val_main_v334_apply, val_main_v340_apply, val_main_v330_apply, val_main_v329_apply, val_main_v331_apply, val_main_v339_apply, val_main_v338_apply, val_main_v337_apply, val_main_v336_apply, val_main_v344_apply, val_main_v343_apply, val_main_v342_apply]
  rfl

theorem v349_at (i : S8x512x9.Idx) : (val_main_v349 (F := Ideal) I.a0 I.a1 I.a3 I.a4 I.a5 I.a6 I.a7 I.a8 I.a9 I.a10 I.a11 I.a12 I.a13 I.a14 I.a15 I.a16 I.a17 I.a18 I.a19 I.a20 I.a21) i
    = mlp (batch I (i 0)).pw1 (batch I (i 0)).pb1 (batch I (i 0)).pw2 (batch I (i 0)).pb2 (rep (batch I (i 0)) (i 1)) (i 2) := by
  refine ((val_main_v349_apply _ _ _ _ _ _ _ _ _ _ _ _ _ _ _ _ _ _ _ _ _ _)).trans (congrArg₂ (fun x y : EReal => x + y) (((val_main_v346_apply _ _ _ _ _ _ _ _ _ _ _ _ _ _ _ _ _ _ _ _ _)).trans (Finset.sum_congr rfl fun k _ =>
    congrArg₂ (fun x y : EReal => x * y) ((v345_at h _).trans (congrArg ssp (v328_at h _))) ?_)) (((val_main_v348_apply _ _)).trans (((val_main_v347_apply _ _)).trans ?_)))
  · show I.a20 _ = I.a20 (ix2 k (i 2 : Fin 9))
    congr 1
    funext x; match x with | ⟨0, _⟩ => rfl | ⟨1, _⟩ => rfl
  · show I.a21 _ = I.a21 (ix1 (i 2 : Fin 9))
    congr 1
    funext x; match x with | ⟨0, _⟩ => rfl

omit h in
theorem v350_at (i : S8x512x1.Idx) : (val_main_v350 (F := Ideal) I.a2) i = (batch I (i 0)).mask (i 1) := by
  refine ((val_main_v350_apply _ _)).trans ?_
  show I.a2 _ = I.a2 (ix2 (i 0 : Fin 8) (i 1 : Fin 512))
  congr 1
  funext x; match x with | ⟨0, _⟩ => rfl | ⟨1, _⟩ => rfl

theorem v356_at (i : S8x9.Idx) : (val_main_v356 (F := Ideal) I.a0 I.a1 I.a2 I.a3 I.a4 I.a5 I.a6 I.a7 I.a8 I.a9 I.a10 I.a11 I.a12 I.a13 I.a14 I.a15 I.a16 I.a17 I.a18 I.a19 I.a20 I.a21) i = mean (batch I (i 0)) (i 1) := by
  have e1 : (val_main_v353 (F := Ideal) I.a0 I.a1 I.a2 I.a3 I.a4 I.a5 I.a6 I.a7 I.a8 I.a9 I.a10 I.a11 I.a12 I.a13 I.a14 I.a15 I.a16 I.a17 I.a18 I.a19 I.a20 I.a21) i = ∑ a, mlp (batch I (i 0)).pw1 (batch I (i 0)).pb1 (batch I (i 0)).pw2 (batch I (i 0)).pb2 (rep (batch I (i 0)) a) (i 1)
      * (batch I (i 0)).mask a := by
    refine ((val_main_v353_apply _ _ _ _ _ _ _ _ _ _ _ _ _ _ _ _ _ _ _ _ _ _ _)).trans ?_
    rw [show val_main_cst_32 (F := Ideal) (Shape.Idx.first h_S_) = (0 : EReal) from Ideal.ofBits_zero .f32, zero_add]
    exact Finset.sum_congr rfl fun a _ => ((val_main_v352_apply _ _ _ _ _ _ _ _ _ _ _ _ _ _ _ _ _ _ _ _ _ _ _)).trans (congrArg₂ (fun x y : EReal => x * y) (v349_at h _) (((val_main_v351_apply _ _)).trans (v350_at _)))
  have e2 : (val_main_v355 (F := Ideal) I.a2) i = num (batch I (i 0)) := by
    refine ((val_main_v355_apply _ _)).trans (((val_main_v354_apply _ _)).trans ?_)
    rw [show val_main_cst_33 (F := Ideal) (Shape.Idx.first h_S_) = (0 : EReal) from Ideal.ofBits_zero .f32, zero_add]
    exact Finset.sum_congr rfl fun a _ => v350_at _
  exact ((val_main_v356_apply _ _ _ _ _ _ _ _ _ _ _ _ _ _ _ _ _ _ _ _ _ _ _)).trans (congrArg₂ Ideal.div e1 e2)

/-! ### The new cell -/

theorem v362_at (i : S8x1x1.Idx) : (val_main_v362 (F := Ideal) I.a2) i = scale (batch I (i 0)) := by
  have e1 : (val_main_v358 (F := Ideal) I.a2) i = num (batch I (i 0)) := by
    refine ((val_main_v358_apply _ _)).trans (((val_main_v357_apply _ _)).trans ?_)
    rw [show val_main_cst_34 (F := Ideal) (Shape.Idx.first h_S_) = (0 : EReal) from Ideal.ofBits_zero .f32, zero_add]
    refine Finset.sum_congr rfl fun a _ => ?_
    show I.a2 _ = I.a2 (ix2 (i 0 : Fin 8) a)
    congr 1
    funext x; match x with | ⟨0, _⟩ => rfl | ⟨1, _⟩ => rfl
  have hn : 0 ≤ num (batch I (i 0)) := h.num _
  rw [val_main_v362_apply, val_main_v361_apply, val_main_v360_apply, val_main_v359_apply, e1]
  unfold scale
  generalize num (batch I (i 0)) = n at hn
  show lit 0x40400000#32 * Ideal.pow n (lit 0x3EAAAAAB#32) = _
  rw [lit_third, pow_eq_exp_log hn (by norm_num)]

omit h in
theorem eye (r c : Fin 3) : FloatOps.uitofp (F := Ideal) .f32 (IntOp.cmpi .eq (IntOp.addi (BitVec.ofNat 32 r.val) 0#32) (BitVec.ofNat 32 c.val))
    = (if r = c then 1 else 0 : EReal) := by
  have e : IntOp.cmpi .eq (IntOp.addi (BitVec.ofNat 32 r.val) 0#32) (BitVec.ofNat 32 c.val) = if r = c then 1#1 else 0#1 := by
    revert r c; decide
  rw [e]
  split_ifs
  · show (((1#1 : BitVec 1).toNat : ℝ) : EReal) = 1; simp
  · show (((0#1 : BitVec 1).toNat : ℝ) : EReal) = 0; simp

theorem v374_at (b : Fin 8) (r c : Fin 3) : (val_main_v374 (F := Ideal) I.a0 I.a1 I.a2 I.a3 I.a4 I.a5 I.a6 I.a7 I.a8 I.a9 I.a10 I.a11 I.a12 I.a13 I.a14 I.a15 I.a16 I.a17 I.a18 I.a19 I.a20 I.a21) (ix3 b r c) = newCell (batch I b) r c := by
  have e1 : (val_main_v373 (F := Ideal) I.a2) (ix3 b r c) = scale (batch I b) := ((val_main_v373_apply _ _)).trans (v362_at h _)
  have e2 : (val_main_v371 (F := Ideal)) (ix3 b r c) = (if r = c then 1 else 0 : EReal) := by
    refine ((val_main_v371_apply _)).trans (((val_main_v369_apply _)).trans (((val_main_v368_apply _)).trans (Eq.trans ?_ (eye r c))))
    rw [val_main_v367_apply, val_main_v366_apply, val_main_v365_apply, val_main_v364_apply, val_main_v363_apply]
    rfl
  have e3 : (val_main_v370 (F := Ideal) I.a0 I.a1 I.a2 I.a3 I.a4 I.a5 I.a6 I.a7 I.a8 I.a9 I.a10 I.a11 I.a12 I.a13 I.a14 I.a15 I.a16 I.a17 I.a18 I.a19 I.a20 I.a21) (ix3 b r c) = mean (batch I b) ⟨3 * r.val + c.val, by omega⟩ := by
    refine ((val_main_v370_apply _ _ _ _ _ _ _ _ _ _ _ _ _ _ _ _ _ _ _ _ _ _ _)).trans (Eq.trans ?_ (v356_at h (ix2 b (⟨3 * r.val + c.val, by omega⟩ : Fin 9))))
    congr 1
    funext x
    refine Fin.ext ?_
    have h0 := b.isLt
    have h1 := r.isLt
    have h2 := c.isLt
    match x with
    | ⟨0, _⟩ => show ((b.val * 3 + r.val) * 3 + c.val) / 9 = b.val; omega
    | ⟨1, _⟩ => show ((b.val * 3 + r.val) * 3 + c.val) % 9 = 3 * r.val + c.val; omega
  exact ((val_main_v374_apply _ _ _ _ _ _ _ _ _ _ _ _ _ _ _ _ _ _ _ _ _ _ _)).trans (congrArg₂ (fun x y : EReal => x * y) e1 (((val_main_v372_apply _ _ _ _ _ _ _ _ _ _ _ _ _ _ _ _ _ _ _ _ _ _ _)).trans (congrArg₂ (fun x y : EReal => x + y) e2 e3)))

/-- The reference's result. -/
theorem v375_at (i : S8x512x3.Idx) : (val_main_v375 (F := Ideal) I.a0 I.a1 I.a2 I.a3 I.a4 I.a5 I.a6 I.a7 I.a8 I.a9 I.a10 I.a11 I.a12 I.a13 I.a14 I.a15 I.a16 I.a17 I.a18 I.a19 I.a20 I.a21) i = result I i := by
  refine ((val_main_v375_apply _ _ _ _ _ _ _ _ _ _ _ _ _ _ _ _ _ _ _ _ _ _ _)).trans (Finset.sum_congr rfl fun k _ => congrArg₂ (fun x y : EReal => x * y) (v323_at h _) (Eq.trans ?_ (v374_at h (i 0) k (i 2))))
  congr 1
  funext x; match x with | ⟨0, _⟩ => rfl | ⟨1, _⟩ => rfl | ⟨2, _⟩ => rfl

end Cert.Proof.RefValue

end
-- ==== Proof.BitsRun.lean ====
/- The printed program's body, run once at a symbolic grid point: the output and the scratch buffers end at contents
   nothing names. -/
module

public import proofs.«01_k».proof.Proof.Gen.Kernel.Frame
public import proofs.«01_k».proof.Proof.Gen.Kernel.Loops

@[expose] public section

-- membership in a rectangle of production extents (`View.cover_of_tiled`): the elaborator's structural look
-- recurses once per coordinate of the long axes
set_option maxRecDepth 16384

noncomputable section

namespace Cert.Proof.BitsRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body's triple: on whole staging memrefs — the inputs' at their contents,
    the FORGOTTEN outputs' (23) at anything, handed back at some contents nothing names —
    the body runs to the continuation holding the inputs' as they were, the scratch at some contents: the printed functions are their skeletons (`Gen.*_eq_skeleton`),
    which `sl_exec` runs (Lib/Exec.lean). -/
theorem bitsRun (c : Dev nD) (i : grid0.Coords) (arg1 : Memref sig .tc .vmem S1x512x128 .f32) (harg1 : arg1.IsWhole) (arg2 : Memref sig .tc .vmem S1x3x3 .f32) (harg2 : arg2.IsWhole) (arg3 : Memref sig .tc .vmem S1x512x1 .f32) (harg3 : arg3.IsWhole) (arg4 : Memref sig .tc .vmem S1x512x1 .i32) (harg4 : arg4.IsWhole) (arg5 : Memref sig .tc .vmem S1x16384x1 .i32) (harg5 : arg5.IsWhole) (arg6 : Memref sig .tc .vmem S100x128 .f32) (harg6 : arg6.IsWhole) (arg7 : Memref sig .tc .vmem S3x128x128 .f32) (harg7 : arg7.IsWhole) (arg8 : Memref sig .tc .vmem S3x1x128 .f32) (harg8 : arg8.IsWhole) (arg9 : Memref sig .tc .vmem S3x128x128 .f32) (harg9 : arg9.IsWhole) (arg10 : Memref sig .tc .vmem S3x1x128 .f32) (harg10 : arg10.IsWhole) (arg11 : Memref sig .tc .vmem S3x128x128 .f32) (harg11 : arg11.IsWhole) (arg12 : Memref sig .tc .vmem S3x128x128 .f32) (harg12 : arg12.IsWhole) (arg13 : Memref sig .tc .vmem S3x1x128 .f32) (harg13 : arg13.IsWhole) (arg14 : Memref sig .tc .vmem S3x128x128 .f32) (harg14 : arg14.IsWhole) (arg15 : Memref sig .tc .vmem S3x1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x1 .f32) (harg23 : arg23.IsWhole) (arg24 : Memref sig .tc .vmem S1x512x3 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S16384x128 .f32) (harg28 : arg28.IsWhole)
    (x0 : Vec F S1x512x128 .f32) (x1 : Vec F S1x3x3 .f32) (x2 : Vec F S1x512x1 .f32) (x3 : Vec F S1x512x1 .i32) (x4 : Vec F S1x16384x1 .i32) (x5 : Vec F S100x128 .f32) (x6 : Vec F S3x128x128 .f32) (x7 : Vec F S3x1x128 .f32) (x8 : Vec F S3x128x128 .f32) (x9 : Vec F S3x1x128 .f32) (x10 : Vec F S3x128x128 .f32) (x11 : Vec F S3x128x128 .f32) (x12 : Vec F S3x1x128 .f32) (x13 : Vec F S3x128x128 .f32) (x14 : Vec F S3x1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S1x128 .f32) (x22 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
    intro E K
    simp only [cc0__body_eq_skeleton]; unfold cc0__body_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _, _; isplitr; swap; · iexact H23
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Proof.BitsRun

end
-- ==== Proof.lean ====
/- The claims assembled: the frames of the printed kernel, of the kernel read over the reals and of the reference; the
   named constant and the packings by which the second differs from the first; and the equality of the kernel's result
   over the reals with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tame
public import proofs.«01_k».proof.Proof.Gen.ReferenceIdeal.Run
public import proofs.«01_k».proof.Proof.Gen.ReferenceIdeal.Read
public import proofs.«01_k».proof.Proof.KernelResult
public import proofs.«01_k».proof.Proof.PreOk
public import proofs.«01_k».proof.Proof.RefTail
public import proofs.«01_k».proof.Proof.BitsFrame
public import proofs.«01_k».proof.Proof.IdealFrame
public import Idealize.ShloMosaic.Adequacy
public import Idealize.ShloMosaic.Init

@[expose] public section

noncomputable section

namespace Cert.Proof

open Idealize.ShloMosaic Idealize.SL.Sem

theorem frameReference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserved : Cert.preserves_Kernel_KernelIdeal :=
  ⟨IdealRules.bf16_pack.statement Cert.KernelIdeal.S100x128, IdealRules.bf16_pack.statement Cert.KernelIdeal.S512x128,
    IdealRules.bf16_pack.statement Cert.KernelIdeal.S128x128,
    IdealRules.named_const.statement Cert.KernelIdeal.κ "ln2" .f32 0x3F317218#32 _ rfl⟩

/-- The kernel over the reals ends with the spec's result in its one result array, and the arguments as they were. -/
theorem kernelEnds (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_tame m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v29)
          = KernelResult.goal m c) :=
  (θ_run Cert.KernelIdeal.defs _ _).mono
    (fun _ h c => ((h c).1 23).trans (KernelResult.final m c (PreOk.ok m hpre c))) (IdealFrame.run_main m ρ)

/-- The reference's result at arguments equal to the inputs. -/
theorem referenceResult (I : Inputs) (h : I.Ok)
    {b0 : _} {b1 : _} {b2 : _} {b3 : _} {b4 : _} {b5 : _} {b6 : _} {b7 : _} {b8 : _} {b9 : _} {b10 : _} {b11 : _} {b12 : _} {b13 : _} {b14 : _} {b15 : _} {b16 : _} {b17 : _} {b18 : _} {b19 : _} {b20 : _} {b21 : _}
    (e0 : b0 = I.a0) (e1 : b1 = I.a1) (e2 : b2 = I.a2) (e3 : b3 = I.a3) (e4 : b4 = I.a4) (e5 : b5 = I.a5) (e6 : b6 = I.a6) (e7 : b7 = I.a7) (e8 : b8 = I.a8) (e9 : b9 = I.a9) (e10 : b10 = I.a10) (e11 : b11 = I.a11) (e12 : b12 = I.a12) (e13 : b13 = I.a13) (e14 : b14 = I.a14) (e15 : b15 = I.a15) (e16 : b16 = I.a16) (e17 : b17 = I.a17) (e18 : b18 = I.a18) (e19 : b19 = I.a19) (e20 : b20 = I.a20) (e21 : b21 = I.a21) :
    Cert.ReferenceIdeal.Read.val_main_v375 (F := Ideal) b0 b1 b2 b3 b4 b5 b6 b7 b8 b9 b10 b11 b12 b13 b14 b15 b16 b17 b18 b19 b20 b21 = result I := by
  subst e0 e1 e2 e3 e4 e5 e6 e7 e8 e9 e10 e11 e12 e13 e14 e15 e16 e17 e18 e19 e20 e21
  exact funext fun i => RefValue.v375_at h i

theorem equal : Cert.algebraic_KernelIdeal_ReferenceIdeal_pre_tame := by
  intro m g m' g' hpre hagree
  refine ⟨fun c => KernelResult.goal m c,
    (θ_run Cert.KernelIdeal.defs _ _).mono (fun _ h c => ⟨h.1 c, h.2 c⟩)
      (θ_run_and (kernelEnds m g hpre) (IdealFrame.unchanged m g)),
    (θ_run Cert.ReferenceIdeal.defs _ _).mono (fun _ h c => ⟨(h c).1.trans ?_, (h c).2⟩)
      (Cert.ReferenceIdeal.Value.run (F := Ideal) m' g')⟩
  obtain ⟨e0, e1, e2, e3, e4, e5, e6, e7, e8, e9, e10, e11, e12, e13, e14, e15, e16, e17, e18, e19, e20, e21⟩ := hagree c
  refine (Cert.ReferenceIdeal.Read.val_main_v375_eq (F := Ideal) _).trans ?_
  exact referenceResult (HostFits.inputs m c) (PreOk.ok m hpre c) e0 e1 e2 e3 e4 e5 e6 e7 e8 e9 e10 e11 e12 e13 e14 e15 e16 e17 e18 e19 e20 e21

theorem claim : Cert.Claim :=
  ⟨Cert.Kernel.Gen.facts, Cert.KernelIdeal.Gen.facts, Cert.ReferenceIdeal.Gen.facts, Cert.Pre_tame.Gen.facts,
    fun m ρ _ => BitsFrame.frame m ρ, fun m ρ _ => IdealFrame.frame m ρ, fun m ρ _ => IdealFrame.frame m ρ,
    frameReference, fun m ρ _ => frameReference m ρ trivial, preserved, equal⟩

end Cert.Proof

end
